-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite_KernelIdeal [hPre_scores_finite_KernelIdeal : Cert.Pre_scores_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite_ReferenceIdeal [hPre_scores_finite_ReferenceIdeal : Cert.Pre_scores_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_scores_finite_KernelIdeal [hKernelIdeal : Cert.KernelIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_scores_finite_ReferenceIdeal [hReferenceIdeal : Cert.ReferenceIdeal.Facts] [hPre_scores_finite_ReferenceIdeal : Cert.Pre_scores_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_scores_finite_KernelIdeal [hKernelIdeal : Cert.KernelIdeal.Facts] [hReferenceIdeal : Cert.ReferenceIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨4, ![16, 1024, 16, 64]⟩ ⟨4, ![16, 2048, 16, 64]⟩ (Layout.meshBlock [2, 2] ![[], [0], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![16, 1024, 16, 64]⟩ ⟨4, ![16, 2048, 16, 64]⟩ (Layout.meshBlock [2, 2] ![[], [0], [], []] c) (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_scores_finite_KernelIdeal : Cert.Pre_scores_finite_KernelIdeal.Facts) (hPre_scores_finite_ReferenceIdeal : Cert.Pre_scores_finite_ReferenceIdeal.Facts),
    quiescent_Kernel (hKernel := hKernel)
    ∧ quiescent_KernelIdeal (hKernelIdeal := hKernelIdeal)
    ∧ quiescent_KernelIdeal_pre_scores_finite_KernelIdeal (hKernelIdeal := hKernelIdeal) (hPre_scores_finite_KernelIdeal := hPre_scores_finite_KernelIdeal)
    ∧ quiescent_ReferenceIdeal (hReferenceIdeal := hReferenceIdeal)
    ∧ quiescent_ReferenceIdeal_pre_scores_finite_ReferenceIdeal (hReferenceIdeal := hReferenceIdeal) (hPre_scores_finite_ReferenceIdeal := hPre_scores_finite_ReferenceIdeal)
    ∧ preserves_Kernel_KernelIdeal
    ∧ algebraic_KernelIdeal_ReferenceIdeal_pre_scores_finite_KernelIdeal (hKernelIdeal := hKernelIdeal) (hReferenceIdeal := hReferenceIdeal) (hPre_scores_finite_KernelIdeal := hPre_scores_finite_KernelIdeal)
-- ==== Pre_scores_finite_KernelIdeal.lean ====
abbrev S16x1x16x64 : Shape := ⟨4, ![16, 1, 16, 64]⟩
abbrev S16x1024x16x64 : Shape := ⟨4, ![16, 1024, 16, 64]⟩
abbrev S_ : Shape := ⟨0, ![]⟩

class Facts : Prop where
  bcast_S_S16x1x16x64 : S_.BroadcastsInDim S16x1x16x64 (![] : Fin 0 → Fin S16x1x16x64.rank)
  reducesTo_S16x1x16x64_S_d0_1_2_3 : S16x1x16x64.ReducesTo [0, 1, 2, 3] S_
  h_S_ : 0 < S_.numel
  bcast_S_S16x1024x16x64 : S_.BroadcastsInDim S16x1024x16x64 (![] : Fin 0 → Fin S16x1024x16x64.rank)
  reducesTo_S16x1024x16x64_S_d0_1_2_3 : S16x1024x16x64.ReducesTo [0, 1, 2, 3] S_

variable [Facts]

def fn {F : FTy → Type} [FloatOps F] (main_arg0 : FVec F S16x1x16x64 .f32) (main_arg1 : FVec F S16x1024x16x64 .f32) (main_arg2 : FVec F S16x1024x16x64 .f32) : IVec S_ 1 :=
  let main_v0 : FVec F S16x1x16x64 .f32 := Host.absf main_arg0
  let main_cst : FVec F S_ .f32 := constant S_ .f32 0x7F800000#32
  let main_v1 : FVec F S16x1x16x64 .f32 := broadcastInDim S16x1x16x64 ![] bcast_S_S16x1x16x64 main_cst
  let main_v2 : IVec S16x1x16x64 1 := cmpf .olt main_v0 main_v1
  let main_c : IVec S_ 1 := constantI S_ 1 1#1
  let main_v3 : IVec S_ 1 := (fun x v => Host.reduce IntOp.andi x v reducesTo_S16x1x16x64_S_d0_1_2_3 h_S_) main_v2 main_c
  let main_v4 : FVec F S16x1024x16x64 .f32 := Host.absf main_arg1
  let main_cst_0 : FVec F S_ .f32 := constant S_ .f32 0x7F800000#32
  let main_v5 : FVec F S16x1024x16x64 .f32 := broadcastInDim S16x1024x16x64 ![] bcast_S_S16x1024x16x64 main_cst_0
  let main_v6 : IVec S16x1024x16x64 1 := cmpf .olt main_v4 main_v5
  let main_c_1 : IVec S_ 1 := constantI S_ 1 1#1
  let main_v7 : IVec S_ 1 := (fun x v => Host.reduce IntOp.andi x v reducesTo_S16x1024x16x64_S_d0_1_2_3 h_S_) main_v6 main_c_1
  let main_v8 : IVec S_ 1 := andi main_v3 main_v7
  main_v8
-- ==== Pre_scores_finite_ReferenceIdeal.lean ====
abbrev S16x1x16x64 : Shape := ⟨4, ![16, 1, 16, 64]⟩
abbrev S16x2048x16x64 : Shape := ⟨4, ![16, 2048, 16, 64]⟩
abbrev S_ : Shape := ⟨0, ![]⟩

class Facts : Prop where
  bcast_S_S16x1x16x64 : S_.BroadcastsInDim S16x1x16x64 (![] : Fin 0 → Fin S16x1x16x64.rank)
  reducesTo_S16x1x16x64_S_d0_1_2_3 : S16x1x16x64.ReducesTo [0, 1, 2, 3] S_
  h_S_ : 0 < S_.numel
  bcast_S_S16x2048x16x64 : S_.BroadcastsInDim S16x2048x16x64 (![] : Fin 0 → Fin S16x2048x16x64.rank)
  reducesTo_S16x2048x16x64_S_d0_1_2_3 : S16x2048x16x64.ReducesTo [0, 1, 2, 3] S_

variable [Facts]

def fn {F : FTy → Type} [FloatOps F] (main_arg0 : FVec F S16x1x16x64 .f32) (main_arg1 : FVec F S16x2048x16x64 .f32) (main_arg2 : FVec F S16x2048x16x64 .f32) : IVec S_ 1 :=
  let main_v0 : FVec F S16x1x16x64 .f32 := Host.absf main_arg0
  let main_cst : FVec F S_ .f32 := constant S_ .f32 0x7F800000#32
  let main_v1 : FVec F S16x1x16x64 .f32 := broadcastInDim S16x1x16x64 ![] bcast_S_S16x1x16x64 main_cst
  let main_v2 : IVec S16x1x16x64 1 := cmpf .olt main_v0 main_v1
  let main_c : IVec S_ 1 := constantI S_ 1 1#1
  let main_v3 : IVec S_ 1 := (fun x v => Host.reduce IntOp.andi x v reducesTo_S16x1x16x64_S_d0_1_2_3 h_S_) main_v2 main_c
  let main_v4 : FVec F S16x2048x16x64 .f32 := Host.absf main_arg1
  let main_cst_0 : FVec F S_ .f32 := constant S_ .f32 0x7F800000#32
  let main_v5 : FVec F S16x2048x16x64 .f32 := broadcastInDim S16x2048x16x64 ![] bcast_S_S16x2048x16x64 main_cst_0
  let main_v6 : IVec S16x2048x16x64 1 := cmpf .olt main_v4 main_v5
  let main_c_1 : IVec S_ 1 := constantI S_ 1 1#1
  let main_v7 : IVec S_ 1 := (fun x v => Host.reduce IntOp.andi x v reducesTo_S16x2048x16x64_S_d0_1_2_3 h_S_) main_v6 main_c_1
  let main_v8 : IVec S_ 1 := andi main_v3 main_v7
  main_v8
-- ==== Kernel.lean ====
abbrev S16x1x16x64 : Shape := ⟨4, ![16, 1, 16, 64]⟩
abbrev S16x1024x16x64 : Shape := ⟨4, ![16, 1024, 16, 64]⟩
abbrev S_ : Shape := ⟨0, ![]⟩
abbrev S16x16x64x1024 : Shape := ⟨4, ![16, 16, 64, 1024]⟩
abbrev S1 : Shape := ⟨1, ![1]⟩
abbrev S2x1x16x64 : Shape := ⟨4, ![2, 1, 16, 64]⟩
abbrev S2x8x64x1024 : Shape := ⟨4, ![2, 8, 64, 1024]⟩
abbrev S16x8x1 : Shape := ⟨3, ![16, 8, 1]⟩
abbrev S16x8x64 : Shape := ⟨3, ![16, 8, 64]⟩
abbrev S16x16x1 : Shape := ⟨3, ![16, 16, 1]⟩
abbrev S16x16x64 : Shape := ⟨3, ![16, 16, 64]⟩
abbrev S9 : Shape := ⟨1, ![9]⟩
abbrev S1x1x1x64 : Shape := ⟨4, ![1, 1, 1, 64]⟩
abbrev S1x64 : Shape := ⟨2, ![1, 64]⟩
abbrev S1x1x64x1024 : Shape := ⟨4, ![1, 1, 64, 1024]⟩
abbrev S64x1024 : Shape := ⟨2, ![64, 1024]⟩
abbrev S1x1024 : Shape := ⟨2, ![1, 1024]⟩
abbrev S8x1024 : Shape := ⟨2, ![8, 1024]⟩
abbrev S8 : Shape := ⟨1, ![8]⟩
abbrev S8x1 : Shape := ⟨2, ![8, 1]⟩
abbrev S8x64 : Shape := ⟨2, ![8, 64]⟩
abbrev S1x8x1 : Shape := ⟨3, ![1, 8, 1]⟩
abbrev S1x8x64 : Shape := ⟨3, ![1, 8, 64]⟩

abbrev nBuf : Space → Nat
  | .hbm => 12
  | .vmem => 16
  | .smem => 1
  | _ => 0

abbrev bufTy : (tb : Table) → Fin (tcTables nBuf tb) → BufTy
  | .hbm, ⟨0, _⟩ => ⟨S16x1x16x64, .f32⟩
  | .hbm, ⟨1, _⟩ => ⟨S16x1024x16x64, .f32⟩
  | .hbm, ⟨2, _⟩ => ⟨S16x1024x16x64, .f32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S16x16x64x1024, .f32⟩
  | .hbm, ⟨10, _⟩ => ⟨S16x16x64x1024, .f32⟩
  | .hbm, ⟨11, _⟩ => ⟨S16x1x16x64, .f32⟩
  | .local _ .vmem, ⟨0, _⟩ => ⟨S2x1x16x64, .f32⟩
  | .local _ .vmem, ⟨1, _⟩ => ⟨S2x1x16x64, .f32⟩
  | .local _ .vmem, ⟨2, _⟩ => ⟨S2x8x64x1024, .f32⟩
  | .local _ .vmem, ⟨3, _⟩ => ⟨S2x8x64x1024, .f32⟩
  | .local _ .vmem, ⟨4, _⟩ => ⟨S2x8x64x1024, .f32⟩
  | .local _ .vmem, ⟨5, _⟩ => ⟨S2x8x64x1024, .f32⟩
  | .local _ .vmem, ⟨6, _⟩ => ⟨S16x1x16x64, .f32⟩
  | .local _ .vmem, ⟨7, _⟩ => ⟨S16x8x1, .f32⟩
  | .local _ .vmem, ⟨8, _⟩ => ⟨S16x8x1, .f32⟩
  | .local _ .vmem, ⟨9, _⟩ => ⟨S16x8x64, .f32⟩
  | .local _ .vmem, ⟨10, _⟩ => ⟨S16x16x1, .f32⟩
  | .local _ .vmem, ⟨11, _⟩ => ⟨S16x16x1, .f32⟩
  | .local _ .vmem, ⟨12, _⟩ => ⟨S16x16x64, .f32⟩
  | .local _ .vmem, ⟨13, _⟩ => ⟨S16x16x1, .f32⟩
  | .local _ .vmem, ⟨14, _⟩ => ⟨S16x16x1, .f32⟩
  | .local _ .vmem, ⟨15, _⟩ => ⟨S16x16x64, .f32⟩
  | .local _ .smem, ⟨0, _⟩ => ⟨S1, .i32⟩
  | _, _ => ⟨S16x1x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 1 → Bool
  | ⟨0, _⟩ => false
  | _ => false

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  (ofTc nBuf bufTy 1 25 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v8 : Ref sig .tc := ⟨.hbm, 11, rfl⟩
abbrev main_v7 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_scratch5 : Ref sig .tc := ⟨.vmem, 12, rfl⟩
abbrev cc0_scratch6 : Ref sig .tc := ⟨.vmem, 13, rfl⟩
abbrev cc0_scratch7 : Ref sig .tc := ⟨.vmem, 14, rfl⟩
abbrev cc0_scratch8 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev barrier0 : Sem sig := 0

abbrev nD : Nat := 4
abbrev τ : Topo := Topo.v7x

variable {F : FTy → Type} [FloatOps F]

abbrev grid0 : Pipeline.Grid := ⟨1, ![8], ![false]⟩

abbrev pre0 : Pipeline.Prefetch sig := ⟨1, ![main_v7.idx], fun | 0 => main_v7.names | ⟨_ + 1, h⟩ => absurd h (Nat.not_lt.2 (Nat.le_add_left _ _)), fun | 0 => rfl | ⟨_ + 1, h⟩ => absurd h (Nat.not_lt.2 (Nat.le_add_left _ _))⟩

def k0_off1 (v0 : BitVec 32) (c0_i32 : BitVec 32) : Fin 4 → Nat :=
  let c0_0 : Index := 0#32
  let c0_1 : Index := 0#32
  let c8_i32 : BitVec 32 := 8#32
  let v1 : BitVec 32 := Scalar.muli v0 c8_i32
  let v2 : BitVec 32 := Scalar.addi v1 c0_i32
  let v3 : Index := Scalar.indexCast v2
  let c0_2 : Index := 0#32
  ![0, 0, v3.toNat, 0]

def k0_off2 (i : grid0.Coords) (c0_i32_100 : BitVec 32) : Fin 3 → Nat :=
  let c2_i32_99 : BitVec 32 := 2#32
  let arg0 : BitVec 32 := BitVec.ofNat 32 (i 0).val
  let v101 : BitVec 32 := Scalar.muli c2_i32_99 arg0
  let v102 : BitVec 32 := Scalar.addi v101 c0_i32_100
  let v104 : Index := Scalar.indexCast v102
  let c0_101 : Index := 0#32
  let c0_102 : Index := 0#32
  ![v104.toNat, 0, 0]
def k0_off3 (i : grid0.Coords) (c0_i32_100 : BitVec 32) : Fin 3 → Nat :=
  let c2_i32_99 : BitVec 32 := 2#32
  let arg0 : BitVec 32 := BitVec.ofNat 32 (i 0).val
  let v101 : BitVec 32 := Scalar.muli c2_i32_99 arg0
  let v102 : BitVec 32 := Scalar.addi v101 c0_i32_100
  let v114 : Index := Scalar.indexCast v102
  let c0_105 : Index := 0#32
  let c0_106 : Index := 0#32
  ![v114.toNat, 0, 0]
def k0_off4 (v0 : BitVec 32) (c0_i32_107 : BitVec 32) : Fin 4 → Nat :=
  let c1_108 : Index := 1#32
  let c0_109 : Index := 0#32
  let c8_i32 : BitVec 32 := 8#32
  let v1 : BitVec 32 := Scalar.muli v0 c8_i32
  let v118 : BitVec 32 := Scalar.addi v1 c0_i32_107
  let v119 : Index := Scalar.indexCast v118
  let c0_110 : Index := 0#32
  ![1, 0, v119.toNat, 0]
def k0_cond1 (i : grid0.Coords) : BitVec 1 :=
  let arg0 : BitVec 32 := BitVec.ofNat 32 (i 0).val
  let c7_i32_230 : BitVec 32 := 7#32
  let v234 : BitVec 1 := Scalar.cmpi .eq arg0 c7_i32_230
  let v235 : BitVec 32 := Scalar.extui v234
  let c0_i32_231 : BitVec 32 := 0#32
  let v236 : BitVec 1 := Scalar.cmpi .ne v235 c0_i32_231
  v236

def k0_dev1 (d237 : Dev nD) : Nat :=
  let c0_i32_242 : BitVec 32 := 0#32
  let c1_i32_236 : BitVec 32 := 1#32
  let v237 : BitVec 32 := Dev.word d237
  let c2_i32_233 : BitVec 32 := 2#32
  let v238 : BitVec 32 := Scalar.divsi v237 c2_i32_233
  let c2_i32_232 : BitVec 32 := 2#32
  let v239 : BitVec 32 := Scalar.remsi v238 c2_i32_232
  let v243 : BitVec 32 := Scalar.subi c1_i32_236 v239
  let c2_i32_241 : BitVec 32 := 2#32
  let v248 : BitVec 32 := Scalar.muli v243 c2_i32_241
  let v249 : BitVec 32 := Scalar.addi c0_i32_242 v248
  let v240 : BitVec 32 := Dev.word d237
  let c1_i32_235 : BitVec 32 := 1#32
  let v241 : BitVec 32 := Scalar.divsi v240 c1_i32_235
  let c2_i32_234 : BitVec 32 := 2#32
  let v242 : BitVec 32 := Scalar.remsi v241 c2_i32_234
  let c1_i32_243 : BitVec 32 := 1#32
  let v250 : BitVec 32 := Scalar.muli v242 c1_i32_243
  let v251 : BitVec 32 := Scalar.addi v249 v250
  v251.toNat
def k0_dev2 (d237 : Dev nD) : Nat :=
  let c0_i32_246 : BitVec 32 := 0#32
  let v237 : BitVec 32 := Dev.word d237
  let c2_i32_233 : BitVec 32 := 2#32
  let v238 : BitVec 32 := Scalar.divsi v237 c2_i32_233
  let c2_i32_232 : BitVec 32 := 2#32
  let v239 : BitVec 32 := Scalar.remsi v238 c2_i32_232
  let c2_i32_245 : BitVec 32 := 2#32
  let v252 : BitVec 32 := Scalar.muli v239 c2_i32_245
  let v253 : BitVec 32 := Scalar.addi c0_i32_246 v252
  let c1_i32_237 : BitVec 32 := 1#32
  let v240 : BitVec 32 := Dev.word d237
  let c1_i32_235 : BitVec 32 := 1#32
  let v241 : BitVec 32 := Scalar.divsi v240 c1_i32_235
  let c2_i32_234 : BitVec 32 := 2#32
  let v242 : BitVec 32 := Scalar.remsi v241 c2_i32_234
  let v244 : BitVec 32 := Scalar.subi c1_i32_237 v242
  let c1_i32_247 : BitVec 32 := 1#32
  let v254 : BitVec 32 := Scalar.muli v244 c1_i32_247
  let v255 : BitVec 32 := Scalar.addi v253 v254
  v255.toNat
def k0_dev3 (d237 : Dev nD) : Nat :=
  let c0_i32_250 : BitVec 32 := 0#32
  let c1_i32_238 : BitVec 32 := 1#32
  let v237 : BitVec 32 := Dev.word d237
  let c2_i32_233 : BitVec 32 := 2#32
  let v238 : BitVec 32 := Scalar.divsi v237 c2_i32_233
  let c2_i32_232 : BitVec 32 := 2#32
  let v239 : BitVec 32 := Scalar.remsi v238 c2_i32_232
  let v245 : BitVec 32 := Scalar.subi c1_i32_238 v239
  let c2_i32_249 : BitVec 32 := 2#32
  let v256 : BitVec 32 := Scalar.muli v245 c2_i32_249
  let v257 : BitVec 32 := Scalar.addi c0_i32_250 v256
  let c1_i32_239 : BitVec 32 := 1#32
  let v240 : BitVec 32 := Dev.word d237
  let c1_i32_235 : BitVec 32 := 1#32
  let v241 : BitVec 32 := Scalar.divsi v240 c1_i32_235
  let c2_i32_234 : BitVec 32 := 2#32
  let v242 : BitVec 32 := Scalar.remsi v241 c2_i32_234
  let v246 : BitVec 32 := Scalar.subi c1_i32_239 v242
  let c1_i32_251 : BitVec 32 := 1#32
  let v258 : BitVec 32 := Scalar.muli v246 c1_i32_251
  let v259 : BitVec 32 := Scalar.addi v257 v258
  v259.toNat
def k0_off5 (v0 : BitVec 32) : Fin 3 → Nat :=
  let c0_256 : Index := 0#32
  let c8_i32 : BitVec 32 := 8#32
  let v1 : BitVec 32 := Scalar.muli v0 c8_i32
  let v261 : Index := Scalar.indexCast v1
  let c0_257 : Index := 0#32
  ![0, v261.toNat, 0]
def k0_off6 (v0 : BitVec 32) : Fin 3 → Nat :=
  let c0_266 : Index := 0#32
  let c8_i32 : BitVec 32 := 8#32
  let v1 : BitVec 32 := Scalar.muli v0 c8_i32
  let v271 : Index := Scalar.indexCast v1
  let c0_267 : Index := 0#32
  ![0, v271.toNat, 0]
def k0_off7 (v0 : BitVec 32) : Fin 3 → Nat :=
  let c0_i32_273 : BitVec 32 := 0#32
  let c8_i32 : BitVec 32 := 8#32
  let v1 : BitVec 32 := Scalar.muli v0 c8_i32
  let c0_i32_274 : BitVec 32 := 0#32
  ![0, v1.toNat, 0]
def k0_dev4 (d237 : Dev nD) : Nat :=
  let c0_i32_271 : BitVec 32 := 0#32
  let v237 : BitVec 32 := Dev.word d237
  let c2_i32_233 : BitVec 32 := 2#32
  let v238 : BitVec 32 := Scalar.divsi v237 c2_i32_233
  let c2_i32_232 : BitVec 32 := 2#32
  let v239 : BitVec 32 := Scalar.remsi v238 c2_i32_232
  let c2_i32_270 : BitVec 32 := 2#32
  let v275 : BitVec 32 := Scalar.muli v239 c2_i32_270
  let v276 : BitVec 32 := Scalar.addi c0_i32_271 v275
  let c1_i32_237 : BitVec 32 := 1#32
  let v240 : BitVec 32 := Dev.word d237
  let c1_i32_235 : BitVec 32 := 1#32
  let v241 : BitVec 32 := Scalar.divsi v240 c1_i32_235
  let c2_i32_234 : BitVec 32 := 2#32
  let v242 : BitVec 32 := Scalar.remsi v241 c2_i32_234
  let v244 : BitVec 32 := Scalar.subi c1_i32_237 v242
  let c1_i32_272 : BitVec 32 := 1#32
  let v277 : BitVec 32 := Scalar.muli v244 c1_i32_272
  let v278 : BitVec 32 := Scalar.addi v276 v277
  v278.toNat
def k0_dev5 (d237 : Dev nD) : Nat :=
  let c0_i32_278 : BitVec 32 := 0#32
  let v237 : BitVec 32 := Dev.word d237
  let c2_i32_233 : BitVec 32 := 2#32
  let v238 : BitVec 32 := Scalar.divsi v237 c2_i32_233
  let c2_i32_232 : BitVec 32 := 2#32
  let v239 : BitVec 32 := Scalar.remsi v238 c2_i32_232
  let c2_i32_277 : BitVec 32 := 2#32
  let v284 : BitVec 32 := Scalar.muli v239 c2_i32_277
  let v285 : BitVec 32 := Scalar.addi c0_i32_278 v284
  let c1_i32_237 : BitVec 32 := 1#32
  let v240 : BitVec 32 := Dev.word d237
  let c1_i32_235 : BitVec 32 := 1#32
  let v241 : BitVec 32 := Scalar.divsi v240 c1_i32_235
  let c2_i32_234 : BitVec 32 := 2#32
  let v242 : BitVec 32 := Scalar.remsi v241 c2_i32_234
  let v244 : BitVec 32 := Scalar.subi c1_i32_237 v242
  let c1_i32_279 : BitVec 32 := 1#32
  let v286 : BitVec 32 := Scalar.muli v244 c1_i32_279
  let v287 : BitVec 32 := Scalar.addi v285 v286
  v287.toNat
def k0_off8 (v0 : BitVec 32) : Fin 3 → Nat :=
  let c0_i32_287 : BitVec 32 := 0#32
  let c8_i32 : BitVec 32 := 8#32
  let v1 : BitVec 32 := Scalar.muli v0 c8_i32
  let c0_i32_288 : BitVec 32 := 0#32
  ![0, v1.toNat, 0]

def k0_chk1 (i : grid0.Coords) (v0 : BitVec 32) : Prop :=
  (∀ (r : Fin 8), ∀ a, (k0_off1 v0 (BitVec.ofNat 32 r.val)) a + S1x1x1x64.size a ≤ S2x1x16x64.size a) ∧
  (∀ (r : Fin 8), ∀ a, (k0_off4 v0 (BitVec.ofNat 32 r.val)) a + S1x1x1x64.size a ≤ S2x1x16x64.size a) ∧
  (∀ (k0_h1 : k0_cond1 i = 1#1), ∀ a, (k0_off5 v0) a + S16x8x1.size a ≤ S16x16x1.size a) ∧
  (∀ (k0_h1 : k0_cond1 i = 1#1), ∀ a, (k0_off6 v0) a + S16x8x64.size a ≤ S16x16x64.size a) ∧
  (∀ (k0_h1 : k0_cond1 i = 1#1), ∀ a, (k0_off7 v0) a + S16x8x1.size a ≤ S16x16x1.size a) ∧
  (∀ (k0_h1 : k0_cond1 i = 1#1), ∀ a, (k0_off8 v0) a + S16x8x64.size a ≤ S16x16x64.size a)
theorem k0_off1_inb : ∀ (i : grid0.Coords) (v0 : BitVec 32) (k0_hw1 : k0_chk1 i v0), ∀ (r : Fin 8), ∀ a, (k0_off1 v0 (BitVec.ofNat 32 r.val)) a + S1x1x1x64.size a ≤ S2x1x16x64.size a := fun i v0 k0_hw1 r => k0_hw1.1 r
theorem k0_off4_inb : ∀ (i : grid0.Coords) (v0 : BitVec 32) (k0_hw1 : k0_chk1 i v0), ∀ (r : Fin 8), ∀ a, (k0_off4 v0 (BitVec.ofNat 32 r.val)) a + S1x1x1x64.size a ≤ S2x1x16x64.size a := fun i v0 k0_hw1 r => k0_hw1.2.1 r
theorem k0_off5_inb : ∀ (i : grid0.Coords) (v0 : BitVec 32) (k0_hw1 : k0_chk1 i v0), ∀ (k0_h1 : k0_cond1 i = 1#1), ∀ a, (k0_off5 v0) a + S16x8x1.size a ≤ S16x16x1.size a := fun i v0 k0_hw1 k0_h1 => k0_hw1.2.2.1 k0_h1
theorem k0_off6_inb : ∀ (i : grid0.Coords) (v0 : BitVec 32) (k0_hw1 : k0_chk1 i v0), ∀ (k0_h1 : k0_cond1 i = 1#1), ∀ a, (k0_off6 v0) a + S16x8x64.size a ≤ S16x16x64.size a := fun i v0 k0_hw1 k0_h1 => k0_hw1.2.2.2.1 k0_h1
theorem k0_off7_inb : ∀ (i : grid0.Coords) (v0 : BitVec 32) (k0_hw1 : k0_chk1 i v0), ∀ (k0_h1 : k0_cond1 i = 1#1), ∀ a, (k0_off7 v0) a + S16x8x1.size a ≤ S16x16x1.size a := fun i v0 k0_hw1 k0_h1 => k0_hw1.2.2.2.2.1 k0_h1
theorem k0_off8_inb : ∀ (i : grid0.Coords) (v0 : BitVec 32) (k0_hw1 : k0_chk1 i v0), ∀ (k0_h1 : k0_cond1 i = 1#1), ∀ a, (k0_off8 v0) a + S16x8x64.size a ≤ S16x16x64.size a := fun i v0 k0_hw1 k0_h1 => k0_hw1.2.2.2.2.2 k0_h1

def k0_dev6 (d237 : Dev nD) : Nat :=
  let c0_i32_285 : BitVec 32 := 0#32
  let v237 : BitVec 32 := Dev.word d237
  let c2_i32_233 : BitVec 32 := 2#32
  let v238 : BitVec 32 := Scalar.divsi v237 c2_i32_233
  let c2_i32_232 : BitVec 32 := 2#32
  let v239 : BitVec 32 := Scalar.remsi v238 c2_i32_232
  let c2_i32_284 : BitVec 32 := 2#32
  let v293 : BitVec 32 := Scalar.muli v239 c2_i32_284
  let v294 : BitVec 32 := Scalar.addi c0_i32_285 v293
  let c1_i32_237 : BitVec 32 := 1#32
  let v240 : BitVec 32 := Dev.word d237
  let c1_i32_235 : BitVec 32 := 1#32
  let v241 : BitVec 32 := Scalar.divsi v240 c1_i32_235
  let c2_i32_234 : BitVec 32 := 2#32
  let v242 : BitVec 32 := Scalar.remsi v241 c2_i32_234
  let v244 : BitVec 32 := Scalar.subi c1_i32_237 v242
  let c1_i32_286 : BitVec 32 := 1#32
  let v295 : BitVec 32 := Scalar.muli v244 c1_i32_286
  let v296 : BitVec 32 := Scalar.addi v294 v295
  v296.toNat
def k0_dev7 (d237 : Dev nD) : Nat :=
  let c0_i32_292 : BitVec 32 := 0#32
  let c1_i32_236 : BitVec 32 := 1#32
  let v237 : BitVec 32 := Dev.word d237
  let c2_i32_233 : BitVec 32 := 2#32
  let v238 : BitVec 32 := Scalar.divsi v237 c2_i32_233
  let c2_i32_232 : BitVec 32 := 2#32
  let v239 : BitVec 32 := Scalar.remsi v238 c2_i32_232
  let v243 : BitVec 32 := Scalar.subi c1_i32_236 v239
  let c2_i32_291 : BitVec 32 := 2#32
  let v302 : BitVec 32 := Scalar.muli v243 c2_i32_291
  let v303 : BitVec 32 := Scalar.addi c0_i32_292 v302
  let v240 : BitVec 32 := Dev.word d237
  let c1_i32_235 : BitVec 32 := 1#32
  let v241 : BitVec 32 := Scalar.divsi v240 c1_i32_235
  let c2_i32_234 : BitVec 32 := 2#32
  let v242 : BitVec 32 := Scalar.remsi v241 c2_i32_234
  let c1_i32_293 : BitVec 32 := 1#32
  let v304 : BitVec 32 := Scalar.muli v242 c1_i32_293
  let v305 : BitVec 32 := Scalar.addi v303 v304
  v305.toNat
def k0_dev8 (d237 : Dev nD) : Nat :=
  let c0_i32_299 : BitVec 32 := 0#32
  let c1_i32_236 : BitVec 32 := 1#32
  let v237 : BitVec 32 := Dev.word d237
  let c2_i32_233 : BitVec 32 := 2#32
  let v238 : BitVec 32 := Scalar.divsi v237 c2_i32_233
  let c2_i32_232 : BitVec 32 := 2#32
  let v239 : BitVec 32 := Scalar.remsi v238 c2_i32_232
  let v243 : BitVec 32 := Scalar.subi c1_i32_236 v239
  let c2_i32_298 : BitVec 32 := 2#32
  let v311 : BitVec 32 := Scalar.muli v243 c2_i32_298
  let v312 : BitVec 32 := Scalar.addi c0_i32_299 v311
  let v240 : BitVec 32 := Dev.word d237
  let c1_i32_235 : BitVec 32 := 1#32
  let v241 : BitVec 32 := Scalar.divsi v240 c1_i32_235
  let c2_i32_234 : BitVec 32 := 2#32
  let v242 : BitVec 32 := Scalar.remsi v241 c2_i32_234
  let c1_i32_300 : BitVec 32 := 1#32
  let v313 : BitVec 32 := Scalar.muli v242 c1_i32_300
  let v314 : BitVec 32 := Scalar.addi v312 v313
  v314.toNat
def k0_dev9 (d237 : Dev nD) : Nat :=
  let c0_i32_306 : BitVec 32 := 0#32
  let c1_i32_236 : BitVec 32 := 1#32
  let v237 : BitVec 32 := Dev.word d237
  let c2_i32_233 : BitVec 32 := 2#32
  let v238 : BitVec 32 := Scalar.divsi v237 c2_i32_233
  let c2_i32_232 : BitVec 32 := 2#32
  let v239 : BitVec 32 := Scalar.remsi v238 c2_i32_232
  let v243 : BitVec 32 := Scalar.subi c1_i32_236 v239
  let c2_i32_305 : BitVec 32 := 2#32
  let v320 : BitVec 32 := Scalar.muli v243 c2_i32_305
  let v321 : BitVec 32 := Scalar.addi c0_i32_306 v320
  let v240 : BitVec 32 := Dev.word d237
  let c1_i32_235 : BitVec 32 := 1#32
  let v241 : BitVec 32 := Scalar.divsi v240 c1_i32_235
  let c2_i32_234 : BitVec 32 := 2#32
  let v242 : BitVec 32 := Scalar.remsi v241 c2_i32_234
  let c1_i32_307 : BitVec 32 := 1#32
  let v322 : BitVec 32 := Scalar.muli v242 c1_i32_307
  let v323 : BitVec 32 := Scalar.addi v321 v322
  v323.toNat
def k0_dev10 (d237 : Dev nD) : Nat :=
  let c0_i32_313 : BitVec 32 := 0#32
  let c1_i32_238 : BitVec 32 := 1#32
  let v237 : BitVec 32 := Dev.word d237
  let c2_i32_233 : BitVec 32 := 2#32
  let v238 : BitVec 32 := Scalar.divsi v237 c2_i32_233
  let c2_i32_232 : BitVec 32 := 2#32
  let v239 : BitVec 32 := Scalar.remsi v238 c2_i32_232
  let v245 : BitVec 32 := Scalar.subi c1_i32_238 v239
  let c2_i32_312 : BitVec 32 := 2#32
  let v329 : BitVec 32 := Scalar.muli v245 c2_i32_312
  let v330 : BitVec 32 := Scalar.addi c0_i32_313 v329
  let c1_i32_239 : BitVec 32 := 1#32
  let v240 : BitVec 32 := Dev.word d237
  let c1_i32_235 : BitVec 32 := 1#32
  let v241 : BitVec 32 := Scalar.divsi v240 c1_i32_235
  let c2_i32_234 : BitVec 32 := 2#32
  let v242 : BitVec 32 := Scalar.remsi v241 c2_i32_234
  let v246 : BitVec 32 := Scalar.subi c1_i32_239 v242
  let c1_i32_314 : BitVec 32 := 1#32
  let v331 : BitVec 32 := Scalar.muli v246 c1_i32_314
  let v332 : BitVec 32 := Scalar.addi v330 v331
  v332.toNat
def k0_dev11 (d237 : Dev nD) : Nat :=
  let c0_i32_320 : BitVec 32 := 0#32
  let c1_i32_238 : BitVec 32 := 1#32
  let v237 : BitVec 32 := Dev.word d237
  let c2_i32_233 : BitVec 32 := 2#32
  let v238 : BitVec 32 := Scalar.divsi v237 c2_i32_233
  let c2_i32_232 : BitVec 32 := 2#32
  let v239 : BitVec 32 := Scalar.remsi v238 c2_i32_232
  let v245 : BitVec 32 := Scalar.subi c1_i32_238 v239
  let c2_i32_319 : BitVec 32 := 2#32
  let v338 : BitVec 32 := Scalar.muli v245 c2_i32_319
  let v339 : BitVec 32 := Scalar.addi c0_i32_320 v338
  let c1_i32_239 : BitVec 32 := 1#32
  let v240 : BitVec 32 := Dev.word d237
  let c1_i32_235 : BitVec 32 := 1#32
  let v241 : BitVec 32 := Scalar.divsi v240 c1_i32_235
  let c2_i32_234 : BitVec 32 := 2#32
  let v242 : BitVec 32 := Scalar.remsi v241 c2_i32_234
  let v246 : BitVec 32 := Scalar.subi c1_i32_239 v242
  let c1_i32_321 : BitVec 32 := 1#32
  let v340 : BitVec 32 := Scalar.muli v246 c1_i32_321
  let v341 : BitVec 32 := Scalar.addi v339 v340
  v341.toNat
def k0_dev12 (d237 : Dev nD) : Nat :=
  let c0_i32_327 : BitVec 32 := 0#32
  let c1_i32_238 : BitVec 32 := 1#32
  let v237 : BitVec 32 := Dev.word d237
  let c2_i32_233 : BitVec 32 := 2#32
  let v238 : BitVec 32 := Scalar.divsi v237 c2_i32_233
  let c2_i32_232 : BitVec 32 := 2#32
  let v239 : BitVec 32 := Scalar.remsi v238 c2_i32_232
  let v245 : BitVec 32 := Scalar.subi c1_i32_238 v239
  let c2_i32_326 : BitVec 32 := 2#32
  let v347 : BitVec 32 := Scalar.muli v245 c2_i32_326
  let v348 : BitVec 32 := Scalar.addi c0_i32_327 v347
  let c1_i32_239 : BitVec 32 := 1#32
  let v240 : BitVec 32 := Dev.word d237
  let c1_i32_235 : BitVec 32 := 1#32
  let v241 : BitVec 32 := Scalar.divsi v240 c1_i32_235
  let c2_i32_234 : BitVec 32 := 2#32
  let v242 : BitVec 32 := Scalar.remsi v241 c2_i32_234
  let v246 : BitVec 32 := Scalar.subi c1_i32_239 v242
  let c1_i32_328 : BitVec 32 := 1#32
  let v349 : BitVec 32 := Scalar.muli v246 c1_i32_328
  let v350 : BitVec 32 := Scalar.addi v348 v349
  v350.toNat
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![arg0.toNat, v0.toNat, c0_i32.toNat, c0_i32_0.toNat]

def cc0_transform_2 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![arg0.toNat, v0.toNat, c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 2 → Memref sig .tc .vmem S2x1x16x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x8x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x8x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x1x16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S16x1x16x64 : Shape := ⟨4, ![16, 1, 16, 64]⟩
abbrev S16x2048x16x64 : Shape := ⟨4, ![16, 2048, 16, 64]⟩
abbrev S16x16x1x2048 : Shape := ⟨4, ![16, 16, 1, 2048]⟩
abbrev S_ : Shape := ⟨0, ![]⟩
abbrev S16x16x1 : Shape := ⟨3, ![16, 16, 1]⟩
abbrev S16x16x1x1 : Shape := ⟨4, ![16, 16, 1, 1]⟩
abbrev S16x16x64x1 : Shape := ⟨4, ![16, 16, 64, 1]⟩

abbrev nBuf : Space → Nat
  | .hbm => 20
  | .vmem => 0
  | .smem => 0
  | _ => 0

abbrev bufTy : (tb : Table) → Fin (tcTables nBuf tb) → BufTy
  | .hbm, ⟨0, _⟩ => ⟨S16x1x16x64, .f32⟩
  | .hbm, ⟨1, _⟩ => ⟨S16x2048x16x64, .f32⟩
  | .hbm, ⟨2, _⟩ => ⟨S16x2048x16x64, .f32⟩
  | .hbm, ⟨3, _⟩ => ⟨S16x16x1x2048, .f32⟩
  | .hbm, ⟨4, _⟩ => ⟨S_, .f32⟩
  | .hbm, ⟨5, _⟩ => ⟨S16x16x1x2048, .f32⟩
  | .hbm, ⟨6, _⟩ => ⟨S16x16x1x2048, .f32⟩
  | .hbm, ⟨7, _⟩ => ⟨S_, .f32⟩
  | .hbm, ⟨8, _⟩ => ⟨S16x16x1, .f32⟩
  | .hbm, ⟨9, _⟩ => ⟨S16x16x1x1, .f32⟩
  | .hbm, ⟨10, _⟩ => ⟨S16x16x1x2048, .f32⟩
  | .hbm, ⟨11, _⟩ => ⟨S16x16x1x2048, .f32⟩
  | .hbm, ⟨12, _⟩ => ⟨S16x16x1x2048, .f32⟩
  | .hbm, ⟨13, _⟩ => ⟨S_, .f32⟩
  | .hbm, ⟨14, _⟩ => ⟨S16x16x1, .f32⟩
  | .hbm, ⟨15, _⟩ => ⟨S16x16x1x1, .f32⟩
  | .hbm, ⟨16, _⟩ => ⟨S16x16x1x2048, .f32⟩
  | .hbm, ⟨17, _⟩ => ⟨S16x16x1x2048, .f32⟩
  | .hbm, ⟨18, _⟩ => ⟨S16x16x64x1, .f32⟩
  | .hbm, ⟨19, _⟩ => ⟨S16x1x16x64, .f32⟩
  | _, _ => ⟨S16x1x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Protocol.lean ====
/- The exchange of partial results between the four devices: who talks to whom, which half of which buffer each copy
   writes, the semaphore cells with their duties, amounts and payloads, what a device owes at launch, and the levels
   of its cells. Everything is stated of one symbolic device and over any float values. -/
module

public import proofs.«01_k».proof.Proof.Gen.KernelIdeal.Launch
public import Idealize.ShloMosaic.Lib.Rounds
public import Idealize.ShloMosaic.Lib.Tactic

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Gen

variable {F : FTy → Type} [FloatOps F]

/-! ## The devices -/

/-- The partner of device `c` in exchange `t`: across the second mesh axis (`t = 0`), across the first (`t = 1`), across
    both (`t = 2`). Device `c` sits at row `c / 2`, column `c % 2`. -/
def pr (t : Fin 3) (c : Dev nD) : Dev nD := ⟨c.val ^^^ (t.val + 1), by revert t c; decide⟩
theorem pr_pr (t : Fin 3) (c : Dev nD) : pr t (pr t c) = c := by revert t c; decide
/-- The exchange as a permutation of the devices. -/
def prE (t : Fin 3) : Dev nD ≃ Dev nD := ⟨pr t, pr t, pr_pr t, pr_pr t⟩

/-- The row of a device: which half of the keys it holds. -/
def xo (c : Dev nD) : Fin 2 := ⟨c.val / 2, by revert c; decide⟩
/-- The column of a device: which half of the heads it works on. -/
def yo (c : Dev nD) : Fin 2 := ⟨c.val % 2, by omega⟩
/-- The device at a row and a column. -/
def dv (x y : Fin 2) : Dev nD := ⟨2 * x.val + y.val, by revert x y; decide⟩
/-- The other row. -/
def fl (x : Fin 2) : Fin 2 := ⟨1 - x.val, by omega⟩
theorem dv_xo_yo (c : Dev nD) : dv (xo c) (yo c) = c := by revert c; decide
theorem fl_fl (x : Fin 2) : fl (fl x) = x := by revert x; decide
theorem xo_pr0 (c : Dev nD) : xo (pr 0 c) = xo c := by revert c; decide
theorem xo_pr1 (c : Dev nD) : xo (pr 1 c) = fl (xo c) := by revert c; decide
theorem xo_pr2 (c : Dev nD) : xo (pr 2 c) = fl (xo c) := by revert c; decide
theorem yo_pr0 (c : Dev nD) : yo (pr 0 c) = fl (yo c) := by revert c; decide
theorem yo_pr1 (c : Dev nD) : yo (pr 1 c) = yo c := by revert c; decide
theorem yo_pr2 (c : Dev nD) : yo (pr 2 c) = fl (yo c) := by revert c; decide

/-- The word the prefetched table of device `c` holds: its column. -/
def ywd (c : Dev nD) : BitVec 32 := BitVec.ofNat 32 (c.val % 2)
theorem ywd_pr1 (c : Dev nD) : ywd (pr 1 c) = ywd c := by revert c; decide
theorem ywd_pr2 (c : Dev nD) : ywd (pr 2 c) = ywd (pr 0 c) := by revert c; decide

/-! ## The buffers -/

abbrev pmM : Memref sig .tc .vmem S16x8x1 .f32 := Memref.whole cc0_scratch0
abbrev plM : Memref sig .tc .vmem S16x8x1 .f32 := Memref.whole cc0_scratch1
abbrev poM : Memref sig .tc .vmem S16x8x64 .f32 := Memref.whole cc0_scratch2
abbrev amM : Memref sig .tc .vmem S16x16x1 .f32 := Memref.whole cc0_scratch3
abbrev alM : Memref sig .tc .vmem S16x16x1 .f32 := Memref.whole cc0_scratch4
abbrev aoM : Memref sig .tc .vmem S16x16x64 .f32 := Memref.whole cc0_scratch5
abbrev rmM : Memref sig .tc .vmem S16x16x1 .f32 := Memref.whole cc0_scratch6
abbrev rlM : Memref sig .tc .vmem S16x16x1 .f32 := Memref.whole cc0_scratch7
abbrev roM : Memref sig .tc .vmem S16x16x64 .f32 := Memref.whole cc0_scratch8

theorem off7_eq (w : Dev nD) : k0_off7 (ywd w) = ![0, 8 * (yo w).val, 0] := by revert w; decide
theorem off8_eq (w : Dev nD) : k0_off8 (ywd w) = ![0, 8 * (yo w).val, 0] := by revert w; decide
theorem inb7 (w : Dev nD) : ∀ a, k0_off7 (ywd w) a + S16x8x1.size a ≤ S16x16x1.size a := by
  rw [off7_eq]; revert w; decide
theorem inb8 (w : Dev nD) : ∀ a, k0_off8 (ywd w) a + S16x8x64.size a ≤ S16x16x64.size a := by
  rw [off8_eq]; revert w; decide

/-- The half of a statistics buffer that the partial results of device `w` go to: the heads of `w`'s column. -/
abbrev h1 (M : Memref sig .tc .vmem S16x16x1 .f32) (w : Dev nD) : Memref sig .tc .vmem S16x8x1 .f32 :=
  M.slice (Rect.unit (s := S16x16x1) (k0_off7 (ywd w)) S16x8x1.size (inb7 w)) (fun _ => rfl)
/-- The half of an accumulator buffer that the partial results of device `w` go to. -/
abbrev h64 (M : Memref sig .tc .vmem S16x16x64 .f32) (w : Dev nD) : Memref sig .tc .vmem S16x8x64 .f32 :=
  M.slice (Rect.unit (s := S16x16x64) (k0_off8 (ywd w)) S16x8x64.size (inb8 w)) (fun _ => rfl)

/-- The credit of a copy of a statistics block. -/
abbrev N1 : ℕ := pmM.view.dmaCredit
/-- The credit of a copy of an accumulator block. -/
abbrev N64 : ℕ := poM.view.dmaCredit
/-- The credit of the copy of the `j`-th of the three blocks, `j` counted round. -/
def NN (j : ℕ) : ℕ := if j % 3 = 2 then N64 else N1
theorem N1_pos : 0 < N1 := View.dmaCredit_pos _ (by decide)
theorem N64_pos : 0 < N64 := View.dmaCredit_pos _ (by decide)
theorem NN_pos (j : ℕ) : 0 < NN j := by unfold NN; split; exacts [N64_pos, N1_pos]

/-! ## The contents -/

/-- What each device's three partial-result buffers hold when the exchange begins: per batch and head of its column the
    maximum, the sum of exponentials and the unnormalised output over its half of the keys. -/
structure Parts (F : FTy → Type) where
  m : Dev nD → S16x8x1.Idx → Elt F .f32
  l : Dev nD → S16x8x1.Idx → Elt F .f32
  o : Dev nD → S16x8x64.Idx → Elt F .f32

/-- The index of the block of eight heads a full index falls in. -/
def hf {n : ℕ} (i : (⟨3, ![16, 16, n]⟩ : Shape).Idx) : Fin 2 := ⟨(i 1).val / 8, by have := (i 1).isLt; change (i 1).val < 16 at this; omega⟩
/-- The index within its block of eight heads. -/
def lo {n : ℕ} (i : (⟨3, ![16, 16, n]⟩ : Shape).Idx) : (⟨3, ![16, 8, n]⟩ : Shape).Idx
  | 0 => i 0
  | 1 => ⟨(i 1).val % 8, Nat.mod_lt _ (by decide)⟩
  | 2 => i 2

/-- The partial results of all heads over the keys of row `x`, gathered from the two devices of that row. -/
def gath {n : ℕ} {α : Type} (f : Dev nD → (⟨3, ![16, 8, n]⟩ : Shape).Idx → α) (x : Fin 2) :
    (⟨3, ![16, 16, n]⟩ : Shape).Idx → α := fun i => f (dv x (hf i)) (lo i)

/-! ## The resource algebra -/

abbrev UU : Type := UR sig nD τ × URounds (GSem nD τ sig) (Fin 3)

local notation "𝕄" => MT nD τ sig Unit (Elt F) ℕ UU ℕ

abbrev EP : Emb (UR sig nD τ) (MT nD τ sig Unit (Elt F) ℕ UU ℕ) := embL
abbrev ER : Emb (URounds (GSem nD τ sig) (Fin 3)) (MT nD τ sig Unit (Elt F) ℕ UU ℕ) := embR

/-- A memref's elements on device `c`, held at share `q` with contents `f`. -/
def vp {sp : CoreSpace} {s : Shape} {e : EltTy} (M : Memref sig .tc sp s e) (c : Dev nD) (q : PosShare TreeShare)
    (f : Buf (Elt F) (M.view.loc (c : Thread nD τ))) : sProp 𝕄 :=
  M.view.loc (c : Thread nD τ) ↦[M.view.set]{q} f

/-! ## The cells -/

abbrev barS : Sem sig := sig.barrier 0 rfl
/-- The DMA semaphores of the kernel: the nine of the senders, then the nine of the receivers. -/
abbrev dsem (n : Fin 18) : DmaSem sig := ⟨7 + n.val, by have := n.isLt; change 7 + n.val < 25; omega⟩
abbrev osem (n : Fin 18) : SemLoc sig := .dma (dsem n)
abbrev barCell (c : Dev nD) : GSem nD τ sig := ((c : Thread nD τ), .reg barS)
abbrev dcell (c : Dev nD) (n : Fin 18) : GSem nD τ sig := ((c : Thread nD τ), osem n)

/-- The three shares a source buffer is split into, one per copy in flight. -/
abbrev q1 : PosShare TreeShare := fullShare.left
abbrev q2 : PosShare TreeShare := fullShare.right.left
abbrev q3 : PosShare TreeShare := fullShare.right.right

instance vp_storable {sp : CoreSpace} {s : Shape} {e : EltTy} (M : Memref sig .tc sp s e) (c : Dev nD) (q : PosShare TreeShare)
    (f : Buf (Elt F) (M.view.loc (c : Thread nD τ))) : BI.Storable (upEmb : UEmb _ 𝕄) (vp M c q f) := by unfold vp; infer_instance

/-- A half of a statistics buffer of device `c`, at some contents. -/
def hand1 (M : Memref sig .tc .vmem S16x16x1 .f32) (w c : Dev nD) : sProp 𝕄 := iprop(∃ f, vp (h1 M w) c fullShare f)
/-- A half of an accumulator buffer of device `c`, at some contents. -/
def hand64 (M : Memref sig .tc .vmem S16x16x64 .f32) (w c : Dev nD) : sProp 𝕄 := iprop(∃ f, vp (h64 M w) c fullShare f)
instance hand1_storable (M : Memref sig .tc .vmem S16x16x1 .f32) (w c : Dev nD) :
    BI.Storable (upEmb : UEmb _ 𝕄) (hand1 M w c) := by unfold hand1; infer_instance
instance hand64_storable (M : Memref sig .tc .vmem S16x16x64 .f32) (w c : Dev nD) :
    BI.Storable (upEmb : UEmb _ 𝕄) (hand64 M w c) := by unfold hand64; infer_instance
section Payloads

variable (P : Parts F)

/-- What the barrier cell of device `c` receives in duty `d`, from its partner in exchange `d`: the three half buffers of
    the partner that `c` will write, and that the partner's three receiving cells are open. -/
def barPay (c : Dev nD) : Fin 3 → sProp 𝕄
  | 0 => iprop(hand1 amM c (pr 0 c) ∗ hand1 alM c (pr 0 c) ∗ hand64 aoM c (pr 0 c)
      ∗ reached ER (dcell (pr 0 c) 9) 0 ∗ reached ER (dcell (pr 0 c) 10) 0 ∗ reached ER (dcell (pr 0 c) 11) 0)
  | 1 => iprop(hand1 rmM c (pr 1 c) ∗ hand1 rlM c (pr 1 c) ∗ hand64 roM c (pr 1 c)
      ∗ reached ER (dcell (pr 1 c) 12) 0 ∗ reached ER (dcell (pr 1 c) 13) 0 ∗ reached ER (dcell (pr 1 c) 14) 0)
  | 2 => iprop(hand1 rmM c (pr 2 c) ∗ hand1 rlM c (pr 2 c) ∗ hand64 roM c (pr 2 c)
      ∗ reached ER (dcell (pr 2 c) 15) 0 ∗ reached ER (dcell (pr 2 c) 16) 0 ∗ reached ER (dcell (pr 2 c) 17) 0)

/-- What the `n`-th DMA cell of device `c` receives: a sending cell its share of the source back, a receiving cell the
    half buffer the partner has written, at the partner's partial results. -/
def dmaPay (c : Dev nD) : ℕ → sProp 𝕄
  | 0 => vp pmM c q1 (P.m c)
  | 1 => vp plM c q1 (P.l c)
  | 2 => vp poM c q1 (P.o c)
  | 3 => vp pmM c q2 (P.m c)
  | 4 => vp plM c q2 (P.l c)
  | 5 => vp poM c q2 (P.o c)
  | 6 => vp pmM c q3 (P.m c)
  | 7 => vp plM c q3 (P.l c)
  | 8 => vp poM c q3 (P.o c)
  | 9 => vp (h1 amM (pr 0 c)) c fullShare (gath P.m (xo c))
  | 10 => vp (h1 alM (pr 0 c)) c fullShare (gath P.l (xo c))
  | 11 => vp (h64 aoM (pr 0 c)) c fullShare (gath P.o (xo c))
  | 12 => vp (h1 rmM (pr 1 c)) c fullShare (gath P.m (fl (xo c)))
  | 13 => vp (h1 rlM (pr 1 c)) c fullShare (gath P.l (fl (xo c)))
  | 14 => vp (h64 roM (pr 1 c)) c fullShare (gath P.o (fl (xo c)))
  | 15 => vp (h1 rmM (pr 2 c)) c fullShare (gath P.m (fl (xo c)))
  | 16 => vp (h1 rlM (pr 2 c)) c fullShare (gath P.l (fl (xo c)))
  | 17 => vp (h64 roM (pr 2 c)) c fullShare (gath P.o (fl (xo c)))
  | _ => iprop(emp)

/-- The duties of a cell's one round: three on a barrier cell, one on a DMA cell of the kernel. -/
def semDuties : SemLoc sig → Finset (Fin 3)
  | .reg _ => Finset.univ
  | .dma s => if 7 ≤ s.val then {0} else ∅
def semAmount : SemLoc sig → ℕ
  | .reg _ => 1
  | .dma s => NN (s.val - 7)
def semPay (c : Dev nD) (d : Fin 3) : SemLoc sig → sProp 𝕄
  | .reg _ => barPay c d
  | .dma s => dmaPay P c (s.val - 7)

theorem semAmount_pos (s : SemLoc sig) : 0 < semAmount s := by
  cases s with
  | reg _ => exact Nat.one_pos
  | dma s => exact NN_pos _

/-- The schedule of the exchange: one round on every cell. -/
def Rd : Rounds.Schedule (GSem nD τ sig) (Fin 3) 𝕄 where
  duties g r := if r = 0 ∧ g.1.2 = .tc then semDuties g.2 else ∅
  unitless _ := False
  amount g _ _ := semAmount g.2
  payload g _ d := semPay P g.1.1 d g.2
  amount_pos g _ _ _ := semAmount_pos g.2

instance Rd_payload_storable (g : GSem nD τ sig) (r : ℕ) (d : Fin 3) :
    BI.Storable (upEmb : UEmb _ 𝕄) ((Rd P).payload g r d) := by
  show BI.Storable upEmb (semPay P g.1.1 d g.2)
  unfold semPay
  split
  · unfold barPay; split <;> infer_instance
  · unfold dmaPay; split <;> infer_instance

theorem duties_bar (c : Dev nD) : (Rd P).duties (barCell c) 0 = Finset.univ := by
  dsimp only [Rd]; exact if_pos ⟨rfl, rfl⟩
theorem duties_dma (c : Dev nD) (n : Fin 18) : (Rd P).duties (dcell c n) 0 = {0} := by
  dsimp only [Rd]; rw [if_pos ⟨rfl, rfl⟩]; exact if_pos (Nat.le_add_right _ _)
theorem duties_later (g : GSem nD τ sig) : ∀ r, 1 ≤ r → (Rd P).duties g r = ∅ :=
  fun r hr => by dsimp only [Rd]; exact if_neg fun h => by omega
theorem amount_bar (c : Dev nD) (d : Fin 3) : (Rd P).amount (barCell c) 0 d = 1 := rfl
theorem amount_dma (c : Dev nD) (n : Fin 18) (d : Fin 3) : (Rd P).amount (dcell c n) 0 d = NN n.val := by
  show NN (7 + n.val - 7) = _; rw [Nat.add_sub_cancel_left]
theorem payload_bar (c : Dev nD) (d : Fin 3) : (Rd P).payload (barCell c) 0 d = barPay c d := rfl
theorem payload_dma (c : Dev nD) (n : Fin 18) (d : Fin 3) : (Rd P).payload (dcell c n) 0 d = dmaPay P c n.val := by
  show dmaPay P c (7 + n.val - 7) = _; rw [Nat.add_sub_cancel_left]
theorem expect_bar (c : Dev nD) : (Rd P).expect (barCell c) 0 = 3 := by
  unfold Schedule.expect Schedule.amountOf; rw [duties_bar]; rfl
theorem expect_dma (c : Dev nD) (n : Fin 18) : (Rd P).expect (dcell c n) 0 = NN n.val := by
  unfold Schedule.expect Schedule.amountOf; rw [duties_dma, Finset.sum_singleton, amount_dma]
theorem rest_bar (c : Dev nD) : bigSep ((Rd P).duties (barCell c) 0 \ ∅) (fun u => (Rd P).payload (barCell c) 0 u)
    = iprop(barPay c 0 ∗ barPay c 1 ∗ barPay (F := F) c 2) := by
  rw [Finset.sdiff_empty, duties_bar]
  exact bigSep_univ_eq_bigSepL [(0 : Fin 3), 1, 2] (by decide) (by decide) _
theorem rest_dma (c : Dev nD) (n : Fin 18) : bigSep ((Rd P).duties (dcell c n) 0 \ ∅) (fun u => (Rd P).payload (dcell c n) 0 u)
    = dmaPay P c n.val := by
  rw [Finset.sdiff_empty, duties_dma, bigSep_singleton, payload_dma]

end Payloads

/-! ## What a device owes at launch; the levels -/

/-- The partner the `k`-th copy goes to. -/
def pk (k : Fin 9) : Fin 3 := ⟨k.val / 3, by omega⟩
abbrev sd (k : Fin 9) : Fin 18 := ⟨k.val, by omega⟩
abbrev rc (k : Fin 9) : Fin 18 := ⟨9 + k.val, by omega⟩

/-- The credit the `k`-th copy of device `c` owes its partner's receiving cell. -/
abbrev oweR (c : Dev nD) (k : Fin 9) : CellTallies nD τ sig Unit := tallyAt (dcell (pr (pk k) c) (rc k)) () (NN k.val)
abbrev oweB (c : Dev nD) (t : Fin 3) : CellTallies nD τ sig Unit := tallyAt (barCell (pr t c)) () 1

/-- What device `c` owes before its `n`-th last copy. -/
def sendO (c : Dev nD) : (n : ℕ) → CellTallies nD τ sig Unit
  | 0 => 0
  | n + 1 => sendO c n + oweR c ⟨8 - n, by omega⟩

/-- What device `c` owes at launch: nine copies, and a unit to each of the three other barrier cells, in the order the
    kernel pays them from the right. -/
def O₀ (c : Dev nD) : CellTallies nD τ sig Unit := sendO c 9 + oweB c 2 + oweB c 0 + oweB c 1

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- The level of a semaphore: receiving cells above the barrier above the rest. -/
def slv : SemLoc sig → ℕ
  | .reg _ => 1
  | .dma s => if 16 ≤ s.val then 2 else 0
def lv (g : GSem nD τ sig) (_ : Unit) : ℕ := slv g.2

/-- The copies owe only receiving cells. -/
theorem sendO_pos (c : Dev nD) : ∀ (n : ℕ) (g : GSem nD τ sig) (u : Unit), 0 < sendO c n g u → g.1.2 = .tc ∧ slv g.2 = 2
  | 0, g, u, h => absurd h (Nat.lt_irrefl 0)
  | n + 1, g, u, h => by
    have h' : 0 < sendO c n g u + (oweR c ⟨8 - n, by omega⟩) g u := h
    rcases Nat.eq_zero_or_pos (sendO c n g u) with h0 | h0
    · rw [h0, Nat.zero_add, tallyAt_apply] at h'
      by_cases he : g = dcell (pr (pk ⟨8 - n, by omega⟩) c) (rc ⟨8 - n, by omega⟩) ∧ u = ()
      · rw [he.1]; exact ⟨rfl, if_pos (by show 16 ≤ 7 + (9 + (8 - n)); omega)⟩
      · rw [if_neg he] at h'; exact absurd h' (Nat.lt_irrefl 0)
    · exact sendO_pos c n g u h0

/-- A device may wait on its barrier cell while it owes its copies. -/
theorem mayWait_bar (c : Dev nD) :
    (levAts L lv : sProp 𝕄) ⊢ MayWait (c : Thread nD τ) (.reg barS) () (sendO c 9) :=
  MayOwe.of_cut (L := L) (lev := lv) 1 (fun p hp => by rw [Finset.mem_singleton.mp hp, L_tc]; exact Finset.mem_singleton_self _)
    (fun g u hg => by rw [show L g = {()} from if_pos (sendO_pos c 9 g u hg).1]; exact Finset.mem_singleton_self _)
    (fun p hp => by rw [Finset.mem_singleton.mp hp]; exact Nat.le_refl 1)
    (fun g u hg => by show 1 < slv g.2; rw [(sendO_pos c 9 g u hg).2]; decide)

end Cert.KernelIdeal.Talk
-- ==== Proof.Halves.lean ====
/- The halves of the gathered buffers: which elements the block of a device covers, that the blocks of the two columns
   make the whole buffer, and what a block copied or stored there leaves. -/
module

public import proofs.«01_k».proof.Proof.Protocol
public import Idealize.ShloMosaic.Lib.Pipeline.ValueKit.Geometry

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ UU ℕ

/-- The rectangle of a statistics buffer that device `w` writes. -/
abbrev r7 (w : Dev nD) : Rect S16x16x1 := Rect.unit (s := S16x16x1) (k0_off7 (ywd w)) S16x8x1.size (inb7 w)
/-- The rectangle of an accumulator buffer that device `w` writes. -/
abbrev r8 (w : Dev nD) : Rect S16x16x64 := Rect.unit (s := S16x16x64) (k0_off8 (ywd w)) S16x8x64.size (inb8 w)

theorem off7_0 (w : Dev nD) : k0_off7 (ywd w) 0 = 0 := by rw [off7_eq]; rfl
theorem off7_1 (w : Dev nD) : k0_off7 (ywd w) 1 = 8 * (yo w).val := by rw [off7_eq]; rfl
theorem off7_2 (w : Dev nD) : k0_off7 (ywd w) 2 = 0 := by rw [off7_eq]; rfl
theorem off8_0 (w : Dev nD) : k0_off8 (ywd w) 0 = 0 := by rw [off8_eq]; rfl
theorem off8_1 (w : Dev nD) : k0_off8 (ywd w) 1 = 8 * (yo w).val := by rw [off8_eq]; rfl
theorem off8_2 (w : Dev nD) : k0_off8 (ywd w) 2 = 0 := by rw [off8_eq]; rfl

/-- An element lies in the rectangle of `w` exactly when its head is one of `w`'s column. -/
theorem mem_r7 (w : Dev nD) (i : S16x16x1.Idx) : i ∈ (r7 w).set ↔ hf i = yo w := by
  have h0 : (i 0).val < 16 := (i 0).isLt
  have h1 : (i 1).val < 16 := (i 1).isLt
  have h2 : (i 2).val < 1 := (i 2).isLt
  have hy := (yo w).isLt
  rw [Rect.mem_set_unit]
  constructor
  · intro h
    have h' := h 1
    rw [off7_1] at h'
    change _ ∧ _ < 8 * (yo w).val + 8 at h'
    apply Fin.ext; show (i 1).val / 8 = _; omega
  · intro h a
    have h' : (i 1).val / 8 = (yo w).val := congrArg Fin.val h
    match a with
    | 0 => rw [off7_0]; exact ⟨Nat.zero_le _, by show _ < 0 + 16; omega⟩
    | 1 => rw [off7_1]; exact ⟨by omega, by show _ < _ + 8; omega⟩
    | 2 => rw [off7_2]; exact ⟨Nat.zero_le _, by show _ < 0 + 1; omega⟩
theorem mem_r8 (w : Dev nD) (i : S16x16x64.Idx) : i ∈ (r8 w).set ↔ hf i = yo w := by
  have h0 : (i 0).val < 16 := (i 0).isLt
  have h1 : (i 1).val < 16 := (i 1).isLt
  have h2 : (i 2).val < 64 := (i 2).isLt
  have hy := (yo w).isLt
  rw [Rect.mem_set_unit]
  constructor
  · intro h
    have h' := h 1
    rw [off8_1] at h'
    change _ ∧ _ < 8 * (yo w).val + 8 at h'
    apply Fin.ext; show (i 1).val / 8 = _; omega
  · intro h a
    have h' : (i 1).val / 8 = (yo w).val := congrArg Fin.val h
    match a with
    | 0 => rw [off8_0]; exact ⟨Nat.zero_le _, by show _ < 0 + 16; omega⟩
    | 1 => rw [off8_1]; exact ⟨by omega, by show _ < _ + 8; omega⟩
    | 2 => rw [off8_2]; exact ⟨Nat.zero_le _, by show _ < 0 + 64; omega⟩

theorem fl_ne (x : Fin 2) : x ≠ fl x := by revert x; decide
theorem eq_or_fl (x y : Fin 2) : x = y ∨ x = fl y := by revert x y; decide

theorem r7_disjoint {w w' : Dev nD} (h : yo w' = fl (yo w)) : Disjoint (r7 w).set (r7 w').set :=
  Finset.disjoint_left.mpr fun i hi hi' => fl_ne (yo w) (by rw [← h, ← (mem_r7 w i).mp hi, ← (mem_r7 w' i).mp hi'])
theorem r8_disjoint {w w' : Dev nD} (h : yo w' = fl (yo w)) : Disjoint (r8 w).set (r8 w').set :=
  Finset.disjoint_left.mpr fun i hi hi' => fl_ne (yo w) (by rw [← h, ← (mem_r8 w i).mp hi, ← (mem_r8 w' i).mp hi'])
theorem r7_union {w w' : Dev nD} (h : yo w' = fl (yo w)) : (r7 w).set ∪ (r7 w').set = Finset.univ := by
  ext i
  rw [Finset.mem_union, mem_r7, mem_r7, h]
  exact iff_of_true (eq_or_fl _ _) (Finset.mem_univ i)
theorem r8_union {w w' : Dev nD} (h : yo w' = fl (yo w)) : (r8 w).set ∪ (r8 w').set = Finset.univ := by
  ext i
  rw [Finset.mem_union, mem_r8, mem_r8, h]
  exact iff_of_true (eq_or_fl _ _) (Finset.mem_univ i)

/-- The blocks of the two columns are the whole statistics buffer. -/
theorem vp_halves1 (M : Memref sig .tc .vmem S16x16x1 .f32) (c : Dev nD) {w w' : Dev nD} (h : yo w' = fl (yo w))
    (f : Buf (Elt F) (M.view.loc (c : Thread nD τ))) :
    (vp M c fullShare f : sProp 𝕄) ⊣⊢ iprop(vp (h1 M w) c fullShare f ∗ vp (h1 M w') c fullShare f) := by
  unfold vp
  have hd : Disjoint (h1 M w).view.set (h1 M w').view.set := by
    rw [show (h1 M w).view.set = (r7 w).set.map M.view.emb from View.set_slice _ _,
      show (h1 M w').view.set = (r7 w').set.map M.view.emb from View.set_slice _ _]
    exact (Finset.disjoint_map _).mpr (r7_disjoint h)
  have hu : (h1 M w).view.set ∪ (h1 M w').view.set = M.view.set := by
    rw [show (h1 M w).view.set = (r7 w).set.map M.view.emb from View.set_slice _ _,
      show (h1 M w').view.set = (r7 w').set.map M.view.emb from View.set_slice _ _, ← Finset.map_union, r7_union h]
    rfl
  have e := pointsTo_union (Ix := Unit) (ℓ := M.view.loc (c : Thread nD τ)) (q := fullShare) (f := f) (Val := Elt F) (Name := ℕ)
    (U := UU) (Lvl := ℕ) hd
  rw [hu] at e
  exact e
/-- The blocks of the two columns are the whole accumulator buffer. -/
theorem vp_halves64 (M : Memref sig .tc .vmem S16x16x64 .f32) (c : Dev nD) {w w' : Dev nD} (h : yo w' = fl (yo w))
    (f : Buf (Elt F) (M.view.loc (c : Thread nD τ))) :
    (vp M c fullShare f : sProp 𝕄) ⊣⊢ iprop(vp (h64 M w) c fullShare f ∗ vp (h64 M w') c fullShare f) := by
  unfold vp
  have hd : Disjoint (h64 M w).view.set (h64 M w').view.set := by
    rw [show (h64 M w).view.set = (r8 w).set.map M.view.emb from View.set_slice _ _,
      show (h64 M w').view.set = (r8 w').set.map M.view.emb from View.set_slice _ _]
    exact (Finset.disjoint_map _).mpr (r8_disjoint h)
  have hu : (h64 M w).view.set ∪ (h64 M w').view.set = M.view.set := by
    rw [show (h64 M w).view.set = (r8 w).set.map M.view.emb from View.set_slice _ _,
      show (h64 M w').view.set = (r8 w').set.map M.view.emb from View.set_slice _ _, ← Finset.map_union, r8_union h]
    rfl
  have e := pointsTo_union (Ix := Unit) (ℓ := M.view.loc (c : Thread nD τ)) (q := fullShare) (f := f) (Val := Elt F) (Name := ℕ)
    (U := UU) (Lvl := ℕ) hd
  rw [hu] at e
  exact e

/-- A source held outright is three shares of it. -/
theorem vp_thirds {sp : CoreSpace} {s : Shape} {e : EltTy} (M : Memref sig .tc sp s e) (c : Dev nD)
    (f : Buf (Elt F) (M.view.loc (c : Thread nD τ))) :
    (vp M c fullShare f : sProp 𝕄) ⊣⊢ iprop(vp M c q1 f ∗ vp M c q2 f ∗ vp M c q3 f) := by
  unfold vp
  refine (pointsTo_share (PosShare.mem_left_op_right fullShare)).trans ?_
  exact sep_congr_right (pointsTo_share (PosShare.mem_left_op_right _))

/-- The gathered value at an element of the block of `w` is `w`'s own. -/
theorem gath_emb7 {α : Type} (g : Dev nD → S16x8x1.Idx → α) (w : Dev nD) (x : Fin 2) (hx : x = xo w) (j : S16x8x1.Idx) :
    gath g x ((r7 w).emb j) = g w j := by
  subst hx
  have hj : (j 1).val < 8 := (j 1).isLt
  have e0 : ((r7 w).emb j 0).val = k0_off7 (ywd w) 0 + (j 0).val := ValueKit.rect_emb_unit_val _ _ _ _ _
  have e1 : ((r7 w).emb j 1).val = k0_off7 (ywd w) 1 + (j 1).val := ValueKit.rect_emb_unit_val _ _ _ _ _
  have e2 : ((r7 w).emb j 2).val = k0_off7 (ywd w) 2 + (j 2).val := ValueKit.rect_emb_unit_val _ _ _ _ _
  rw [off7_0] at e0; rw [off7_1] at e1; rw [off7_2] at e2
  have hh : hf ((r7 w).emb j) = yo w := Fin.ext (by show ((r7 w).emb j 1).val / 8 = _; omega)
  have hl : lo ((r7 w).emb j) = j := by
    funext a
    match a with
    | 0 => exact Fin.ext (by show ((r7 w).emb j 0).val = _; omega)
    | 1 => exact Fin.ext (by show ((r7 w).emb j 1).val % 8 = _; omega)
    | 2 => exact Fin.ext (by show ((r7 w).emb j 2).val = _; omega)
  unfold gath; rw [hh, hl, dv_xo_yo]
theorem gath_emb8 {α : Type} (g : Dev nD → S16x8x64.Idx → α) (w : Dev nD) (x : Fin 2) (hx : x = xo w) (j : S16x8x64.Idx) :
    gath g x ((r8 w).emb j) = g w j := by
  subst hx
  have hj : (j 1).val < 8 := (j 1).isLt
  have e0 : ((r8 w).emb j 0).val = k0_off8 (ywd w) 0 + (j 0).val := ValueKit.rect_emb_unit_val _ _ _ _ _
  have e1 : ((r8 w).emb j 1).val = k0_off8 (ywd w) 1 + (j 1).val := ValueKit.rect_emb_unit_val _ _ _ _ _
  have e2 : ((r8 w).emb j 2).val = k0_off8 (ywd w) 2 + (j 2).val := ValueKit.rect_emb_unit_val _ _ _ _ _
  rw [off8_0] at e0; rw [off8_1] at e1; rw [off8_2] at e2
  have hh : hf ((r8 w).emb j) = yo w := Fin.ext (by show ((r8 w).emb j 1).val / 8 = _; omega)
  have hl : lo ((r8 w).emb j) = j := by
    funext a
    match a with
    | 0 => exact Fin.ext (by show ((r8 w).emb j 0).val = _; omega)
    | 1 => exact Fin.ext (by show ((r8 w).emb j 1).val % 8 = _; omega)
    | 2 => exact Fin.ext (by show ((r8 w).emb j 2).val = _; omega)
  unfold gath; rw [hh, hl, dv_xo_yo]

/-- The block of `w` rewritten with values `v` holds any contents that read `v` there: a statistics buffer. -/
theorem land1 (M : Memref sig .tc .vmem S16x16x1 .f32) (c w : Dev nD) (fd g : Buf (Elt F) (M.view.loc (c : Thread nD τ)))
    (v : S16x8x1.Idx → Elt F .f32) (hg : ∀ j, M.view.read (Elt F) g ((r7 w).emb j) = v j) :
    (((h1 M w).view.loc (c : Thread nD τ) ↦[(h1 M w).view.set]{fullShare} ((h1 M w).view.write (Elt F) fd v Finset.univ)) : sProp 𝕄)
      = vp (h1 M w) c fullShare g := by
  unfold vp
  refine pointsTo_congr fun i hi => ?_
  obtain ⟨j, -, rfl⟩ := Finset.mem_map.mp hi
  rw [View.write_emb_of_mem _ _ (Finset.mem_univ j), ← hg j]
  exact cast_cast _ _ _
/-- The same of an accumulator buffer. -/
theorem land64 (M : Memref sig .tc .vmem S16x16x64 .f32) (c w : Dev nD) (fd g : Buf (Elt F) (M.view.loc (c : Thread nD τ)))
    (v : S16x8x64.Idx → Elt F .f32) (hg : ∀ j, M.view.read (Elt F) g ((r8 w).emb j) = v j) :
    (((h64 M w).view.loc (c : Thread nD τ) ↦[(h64 M w).view.set]{fullShare} ((h64 M w).view.write (Elt F) fd v Finset.univ)) : sProp 𝕄)
      = vp (h64 M w) c fullShare g := by
  unfold vp
  refine pointsTo_congr fun i hi => ?_
  obtain ⟨j, -, rfl⟩ := Finset.mem_map.mp hi
  rw [View.write_emb_of_mem _ _ (Finset.mem_univ j), ← hg j]
  exact cast_cast _ _ _

end Cert.KernelIdeal.Talk
-- ==== Proof.Rules.lean ====
/- The rules the exchange is run by: a signal to a partner, the wait on the barrier, a copy to a partner, the wait on one
   of the kernel's DMA cells, and the loads and stores of whole buffers and of halves. -/
module

public import proofs.«01_k».proof.Proof.Halves
public import proofs.«01_k».proof.Proof.Gen.KernelIdeal.Skeleton
public import Idealize.ShloMosaic.Lib.VecWindow
public import Idealize.ShloMosaic.Lib.Pipeline.Value

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-- The kernel calls nothing whose depth a proof would bound. -/
abbrev 𝒱₀ : Variants := Variants.none

/-- What device `c` owes, its waits so far forgotten. -/
def ow (c : Dev nD) (O : CellTallies nD τ sig Unit) : sProp 𝕄 := iprop(∃ W, owes (c : Thread nD τ) O W)

variable (P : Parts F) (K : GSem nD τ sig → ℕ)

/-- The invariants of all the cells of the exchange. -/
def invs : sProp 𝕄 :=
  iprop((bigSep Finset.univ fun c : Dev nD => cellInv ER (Rd P) (K (barCell c)) (barCell c))
    ∗ bigSep Finset.univ fun x : Dev nD × Fin 18 => cellInv ER (Rd P) (K (dcell x.1 x.2)) (dcell x.1 x.2))
instance invs_persistent : Persistent (invs P K) := by unfold invs; infer_instance
theorem inv_bar (c : Dev nD) : invs P K ⊢ cellInv ER (Rd P) (K (barCell c)) (barCell c) :=
  sep_elim_left.trans (bigSep_elim (Finset.mem_univ c) (Φ := fun c : Dev nD => cellInv ER (Rd P) (K (barCell c)) (barCell c)))
theorem inv_dma (c : Dev nD) (n : Fin 18) : invs P K ⊢ cellInv ER (Rd P) (K (dcell c n)) (dcell c n) :=
  sep_elim_right.trans
    (bigSep_elim (Finset.mem_univ (c, n)) (Φ := fun x : Dev nD × Fin 18 => cellInv ER (Rd P) (K (dcell x.1 x.2)) (dcell x.1 x.2)))

section Steps

variable (c : Dev nD)

/-- A signal to the barrier cell of the partner in exchange `t`, paid with what the partner receives. -/
theorem wp_sig {α : Type} {Q : α → sProp 𝕄} {k : PUnit → Prog (TpuEff nD τ sig (Elt F) Λ₀ .tc) α}
    (t : Fin 3) (O : CellTallies nD τ sig Unit) :
    iprop(invs P K ∗ ow c (O + oweB c t) ∗ dutyTok ER (barCell (pr t c)) 0 t ∗ barPay (pr t c) t ∗ reached ER (barCell (pr t c)) 0)
      ⊢ iprop((ow c O -∗ wp frame (wpE (defs₀ (F := F)) 𝒱₀ (c : Thread nD τ) none) Set.univ (k ⟨⟩) Q)
        -∗ wp frame (wpE (defs₀ (F := F)) 𝒱₀ (c : Thread nD τ) none) Set.univ
            (.op (.semSignal (Dev.tc (pr t c)) barS 1) k) Q) := by
  unfold ow
  iintro ⟨#HI, ⟨%W, HO⟩, Ht, Hp, #Hr⟩ Hk
  iapply (Rounds.wp_signal 𝒱₀ ER (Rd P) (c : Thread nD τ) none (dst := (pr t c : Thread nD τ)) (sem := barS) (r := 0) (d := t) (κ := K (barCell (pr t c)))
      (by rw [duties_bar]; exact Finset.mem_univ _) (amount_bar P (pr t c) t) () O rfl) $$ [HO Ht Hp]
  · isplitr; · iapply (inv_bar P K (pr t c)); iexact HI
    isplitl [HO]; · iexact HO
    isplitl [Ht]; · iexact Ht
    isplitl [Hp]; · rw [payload_bar]; iexact Hp
    iexact Hr
  iintro HO
  iapply Hk; iexists W; iexact HO

/-- The wait for all three partners, owing the copies. -/
theorem wp_bar {α : Type} {Q : α → sProp 𝕄} {k : PUnit → Prog (TpuEff nD τ sig (Elt F) Λ₀ .tc) α} :
    iprop(invs P K ∗ levAts L lv ∗ cred (tallyAt (barCell c) () 3) ∗ ow c (sendO c 9) ∗ atPos ER (barCell c) 0 ∅ 0)
      ⊢ iprop(((ow c (sendO c 9) ∗ semVal (barCell c) 0 ∗ barPay (F := F) c 0 ∗ barPay (F := F) c 1 ∗ barPay (F := F) c 2)
            -∗ wp frame (wpE (defs₀ (F := F)) 𝒱₀ (c : Thread nD τ) none) Set.univ (k ⟨⟩) Q)
        -∗ wp frame (wpE (defs₀ (F := F)) 𝒱₀ (c : Thread nD τ) none) Set.univ (.op (.semWait barS 3) k) Q) := by
  unfold ow
  iintro ⟨#HI, #Hl, Hc, ⟨%W, HO⟩, Hat⟩ Hk
  iapply (Rounds.wp_wait_rest_token 𝒱₀ ER (Rd P) (c : Thread nD τ) none (κ := K (barCell c))
      (wpE_semWait_eq 𝒱₀ (c : Thread nD τ) none Set.univ) (Set.mem_univ _) () (O := sendO c 9) (W := W) (R := 0) (m := 0) (T := ∅)
      (by rw [expect_bar])) $$ [Hc HO Hat]
  · isplitr; · iapply (inv_bar P K c); iexact HI
    isplitl [Hc]; · iexact Hc
    isplitl [HO]; · iexact HO
    isplitr; · iapply (mayWait_bar c); iexact Hl
    iexact Hat
  iintro ⟨HO, Hat, -, Hp⟩
  ihave Hp' := (Entails.of_eq (rest_bar P c)) $$ Hp
  imod (Rounds.cell_close ER (Rd P) (Set.mem_univ (K (barCell c))) (fun h => h) (R := 0 + 1) (duties_later P (barCell c))) $$ [Hat] with Hz
  · isplitr; · iapply (inv_bar P K c); iexact HI
    iexact Hat
  iapply Hk
  isplitl [HO]; · iexists _; iexact HO
  isplitl [Hz]; · iexact Hz
  iexact Hp'

/-- The wait on one of the kernel's DMA cells, owing nothing: its payload, and the cell closed. -/
theorem wp_wait_cell {α : Type} {Q : α → sProp 𝕄} {k : PUnit → Prog (TpuEff nD τ sig (Elt F) Λ₀ .tc) α}
    (n : Fin 18) {s : Shape} {src dst : Memref sig .tc .vmem s .f32} {hsrc : src.view.WordExact} {hdst : dst.view.WordExact}
    (hN : dst.view.dmaCredit = NN n.val) :
    iprop(invs P K ∗ cred (tallyAt (dcell c n) () (NN n.val)) ∗ ow c 0 ∗ atPos ER (dcell c n) 0 ∅ 0)
      ⊢ iprop(((ow c 0 ∗ semVal (dcell c n) 0 ∗ dmaPay P c n.val)
            -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 (dsem n) src dst hsrc hdst) k) Q) := by
  unfold ow
  iintro ⟨#HI, Hc, ⟨%W, HO⟩, Hat⟩ Hk
  iapply (Rounds.wp_wait_rest_token 𝒱₀ ER (Rd P) (c : Thread nD τ) none (κ := K (dcell c n))
      (wpE_waitDma2_eq 𝒱₀ (c : Thread nD τ) none Set.univ) (Set.mem_univ _) () (O := 0) (W := W) (R := 0) (m := 0) (T := ∅)
      (by rw [Nat.zero_add, hN, expect_dma])) $$ [Hc HO Hat]
  · isplitr; · iapply (inv_dma P K c n); iexact HI
    isplitl [Hc]; · rw [hN]; iexact Hc
    isplitl [HO]; · iexact HO
    isplitr; · rw [MayWait_zero]; iempintro
    iexact Hat
  iintro ⟨HO, Hat, -, Hp⟩
  ihave Hp' := (Entails.of_eq (rest_dma P c n)) $$ Hp
  imod (Rounds.cell_close ER (Rd P) (Set.mem_univ (K (dcell c n))) (fun h => h) (R := 0 + 1) (duties_later P (dcell c n))) $$ [Hat] with Hz
  · isplitr; · iapply (inv_dma P K c n); iexact HI
    iexact Hat
  iapply Hk
  isplitl [HO]; · iexists _; iexact HO
  isplitl [Hz]; · iexact Hz
  iexact Hp'

/-- A copy to the partner in exchange `t`, leaving from cell `a` and landing at the partner's cell `b`. -/
theorem wp_copy {α : Type} {Q : α → sProp 𝕄} {k : PUnit → Prog (TpuEff nD τ sig (Elt F) Λ₀ .tc) α}
    (t : Fin 3) (a b : Fin 18) {s : Shape} {src dst : Memref sig .tc .vmem s .f32} {hsrc : src.view.WordExact} {hdst : dst.view.WordExact}
    {hsem : DmaTarget.Typed .vmem (SemLoc.dma (dsem b)) (.remote (Dev.tc (pr t c)) dst (SemLoc.dma (dsem a)) rfl)}
    (hN : dst.view.dmaCredit = NN a.val) (hab : NN b.val = NN a.val) (q : PosShare TreeShare) (fs : Buf (Elt F) (src.view.loc (c : Thread nD τ)))
    (fd : Buf (Elt F) (dst.view.loc (pr t c : Thread nD τ)))
    (hp₁ : dmaPay P c a.val = vp src c q fs)
    (hp₂ : (dst.view.loc (pr t c : Thread nD τ) ↦[dst.view.set]{fullShare} (dst.view.write (Elt F) fd (src.view.read (Elt F) fs) Finset.univ))
      = dmaPay P (pr t c) b.val) (O O' : CellTallies nD τ sig Unit) (hO : O' = O + tallyAt (dcell (pr t c) b) () (NN a.val)) :
    iprop(invs P K ∗ vp src c q fs ∗ vp dst (pr t c) fullShare fd ∗ ow c O'
        ∗ dutyTok ER (dcell c a) 0 0 ∗ reached ER (dcell c a) 0 ∗ dutyTok ER (dcell (pr t c) b) 0 0 ∗ reached ER (dcell (pr t c) b) 0)
      ⊢ iprop(((cred (tallyAt (dcell c a) () (NN a.val)) ∗ ow c O)
            -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma src (.remote (Dev.tc (pr t c)) dst (.dma (dsem a)) rfl) (.dma (dsem b)) hsrc hdst hsem) k) Q) := by
  unfold ow
  iintro ⟨#HI, Hs, Hd, ⟨%W, HO⟩, Ht₁, #Hr₁, Ht₂, #Hr₂⟩ Hk
  iapply (Rounds.wp_send_pointsTo 𝒱₀ ER (Rd P) (c : Thread nD τ) none (c' := (pr t c : Thread nD τ)) (src := src) (dst := dst)
      (sS := .dma (dsem a)) (sem := .dma (dsem b)) (q := q) (fs := fs) (fd := fd) (κ₁ := K (dcell c a)) (κ₂ := K (dcell (pr t c) b))
      (r₁ := 0) (r₂ := 0) (d₁ := 0) (d₂ := 0) (by rw [duties_dma]; exact Finset.mem_singleton_self _)
      (by rw [duties_dma]; exact Finset.mem_singleton_self _) () () (NN a.val) hN (amount_dma P c a 0)
      ((amount_dma P (pr t c) b 0).trans hab) O hO (W := W)
      (Entails.of_eq ((payload_dma P c a 0).trans hp₁).symm) (Entails.of_eq (hp₂.trans (payload_dma P (pr t c) b 0).symm)))
    $$ [Hs Hd HO Ht₁ Ht₂]
  · isplitr; · iapply (inv_dma P K c a); iexact HI
    isplitr; · iapply (inv_dma P K (pr t c) b); iexact HI
    isplitl [Hs]; · unfold vp; iexact Hs
    isplitl [Hd]; · unfold vp; iexact Hd
    isplitl [HO]; · iexact HO
    isplitl [Ht₁]; · iexact Ht₁
    isplitr; · iexact Hr₁
    isplitl [Ht₂]; · iexact Ht₂
    iexact Hr₂
  iintro ⟨Hc, HO⟩
  iapply Hk
  isplitl [Hc]; · iexact Hc
  iexists W; iexact HO

/-- The same for a device `p` that is the partner. -/
theorem wp_copy_to {α : Type} {Q : α → sProp 𝕄} {k : PUnit → Prog (TpuEff nD τ sig (Elt F) Λ₀ .tc) α}
    (t : Fin 3) (a b : Fin 18) {p : Dev nD} (hp : p = pr t c) {s : Shape} {src dst : Memref sig .tc .vmem s .f32}
    {hsrc : src.view.WordExact} {hdst : dst.view.WordExact}
    {hsem : DmaTarget.Typed .vmem (SemLoc.dma (dsem b)) (.remote (Dev.tc p) dst (SemLoc.dma (dsem a)) rfl)}
    (hN : dst.view.dmaCredit = NN a.val) (hab : NN b.val = NN a.val) (q : PosShare TreeShare) (fs : Buf (Elt F) (src.view.loc (c : Thread nD τ)))
    (fd : Buf (Elt F) (dst.view.loc (pr t c : Thread nD τ)))
    (hp₁ : dmaPay P c a.val = vp src c q fs)
    (hp₂ : (dst.view.loc (pr t c : Thread nD τ) ↦[dst.view.set]{fullShare} (dst.view.write (Elt F) fd (src.view.read (Elt F) fs) Finset.univ))
      = dmaPay P (pr t c) b.val) (O O' : CellTallies nD τ sig Unit) (hO : O' = O + tallyAt (dcell (pr t c) b) () (NN a.val)) :
    iprop(invs P K ∗ vp src c q fs ∗ vp dst (pr t c) fullShare fd ∗ ow c O'
        ∗ dutyTok ER (dcell c a) 0 0 ∗ reached ER (dcell c a) 0 ∗ dutyTok ER (dcell (pr t c) b) 0 0 ∗ reached ER (dcell (pr t c) b) 0)
      ⊢ iprop(((cred (tallyAt (dcell c a) () (NN a.val)) ∗ ow c O)
            -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma src (.remote (Dev.tc p) dst (.dma (dsem a)) rfl) (.dma (dsem b)) hsrc hdst hsem) k) Q) := by
  subst hp
  exact wp_copy P K c t a b hN hab q fs fd hp₁ hp₂ O O' hO

/-- The load of a whole buffer held at any share. -/
theorem wp_load_full {s : Shape} {M : Memref sig .tc .vmem s .f32} {q : PosShare TreeShare} {f : Buf (Elt F) (M.view.loc (c : Thread nD τ))}
    {off : Fin s.rank → ℕ} {inb : ∀ a, off a + s.size a ≤ s.size a} {hl : M.view.LoadsAt (Rect.unit off s.size inb).toLoadRect}
    {α : Type} {Q : α → sProp 𝕄} {k : (s.Idx → Elt F .f32) → Prog (TpuEff nD τ sig (Elt F) Λ₀ .tc) α} :
    (vp M c q f : sProp 𝕄)
      ⊢ iprop((vp M c q f -∗ wp frame (wpE (defs₀ (F := F)) 𝒱₀ (c : Thread nD τ) none) Set.univ (k (M.view.read (Elt F) f)) Q)
        -∗ wp frame (wpE (defs₀ (F := F)) 𝒱₀ (c : Thread nD τ) none) Set.univ (.op (.load M (Rect.unit off s.size inb).toLoadRect hl) k) Q) := by
  have h := wp_load (defs := defs₀ (F := F)) 𝒱₀ (c : Thread nD τ) none (Γ := .empty) Set.univ (Q := Q) (m := M)
    (r := (Rect.unit off s.size inb).toLoadRect) (hl := hl) (k := k) (q := q) (f := f) (S := M.view.set) (View.setOn_subset_set _ _)
  rw [View.readAt_full] at h
  exact h

end Steps

end Cert.KernelIdeal.Talk
-- ==== Proof.Rows.lean ====
/- The partial results of one device as functions of the window blocks, and the rules of the loads and stores that put
   them, row by row, into the three buffers the copies are sent from. -/
module

public import proofs.«01_k».proof.Proof.Rules
public import Idealize.ShloMosaic.Lib.WritesUnit

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## Loads of windows and of the table -/

/-- The block of a window's contents at an offset. -/
def ldq (X : S2x1x16x64.Idx → Elt F .f32) (off : Fin 4 → ℕ) (inb : ∀ a, off a + S1x1x1x64.size a ≤ S2x1x16x64.size a) : S1x1x1x64.Idx → Elt F .f32 :=
  fun j => X ((Rect.unit (s := S2x1x16x64) off S1x1x1x64.size inb).emb j)
/-- Its load. -/
theorem wp_ldq (c : Dev nD) {α : Type} {Q : α → sProp 𝕄} {M : Memref sig .tc .vmem S2x1x16x64 .f32} {q : PosShare TreeShare}
    {X : S2x1x16x64.Idx → Elt F .f32} {off : Fin 4 → ℕ} {inb : ∀ a, off a + S1x1x1x64.size a ≤ S2x1x16x64.size a}
    {hl : M.view.LoadsAt (Rect.unit (s := S2x1x16x64) off S1x1x1x64.size inb).toLoadRect}
    {k : (S1x1x1x64.Idx → Elt F .f32) → Prog (TpuEff nD τ sig (Elt F) Λ₀ .tc) α} :
    (owns (c : Thread nD τ) M q X : sProp 𝕄)
      ⊢ iprop((owns (c : Thread nD τ) M q X -∗ wp frame (wpE (defs₀ (F := F)) 𝒱₀ (c : Thread nD τ) none) Set.univ (k (ldq X off inb)) Q)
        -∗ wp frame (wpE (defs₀ (F := F)) 𝒱₀ (c : Thread nD τ) none) Set.univ
            (.op (.load M (Rect.unit (s := S2x1x16x64) off S1x1x1x64.size inb).toLoadRect hl) k) Q) := by
  unfold owns
  iintro ⟨%f, %hf, H⟩ Hk
  subst hf
  iapply (wp_load_rect (defs := defs₀ (F := F)) 𝒱₀ (c : Thread nD τ) none Set.univ (m := M)
    (r := Rect.unit (s := S2x1x16x64) off S1x1x1x64.size inb) (q := q) (f := f) (S := M.view.set) (View.set_slice_subset _ _)) $$ H
  iintro H
  iapply Hk
  iexists f
  isplitr
  · ipureintro; rfl
  iexact H

/-- The block of a window's contents at an offset. -/
def ldk (X : S2x8x64x1024.Idx → Elt F .f32) (off : Fin 4 → ℕ) (inb : ∀ a, off a + S1x1x64x1024.size a ≤ S2x8x64x1024.size a) : S1x1x64x1024.Idx → Elt F .f32 :=
  fun j => X ((Rect.unit (s := S2x8x64x1024) off S1x1x64x1024.size inb).emb j)
/-- Its load. -/
theorem wp_ldk (c : Dev nD) {α : Type} {Q : α → sProp 𝕄} {M : Memref sig .tc .vmem S2x8x64x1024 .f32} {q : PosShare TreeShare}
    {X : S2x8x64x1024.Idx → Elt F .f32} {off : Fin 4 → ℕ} {inb : ∀ a, off a + S1x1x64x1024.size a ≤ S2x8x64x1024.size a}
    {hl : M.view.LoadsAt (Rect.unit (s := S2x8x64x1024) off S1x1x64x1024.size inb).toLoadRect}
    {k : (S1x1x64x1024.Idx → Elt F .f32) → Prog (TpuEff nD τ sig (Elt F) Λ₀ .tc) α} :
    (owns (c : Thread nD τ) M q X : sProp 𝕄)
      ⊢ iprop((owns (c : Thread nD τ) M q X -∗ wp frame (wpE (defs₀ (F := F)) 𝒱₀ (c : Thread nD τ) none) Set.univ (k (ldk X off inb)) Q)
        -∗ wp frame (wpE (defs₀ (F := F)) 𝒱₀ (c : Thread nD τ) none) Set.univ
            (.op (.load M (Rect.unit (s := S2x8x64x1024) off S1x1x64x1024.size inb).toLoadRect hl) k) Q) := by
  unfold owns
  iintro ⟨%f, %hf, H⟩ Hk
  subst hf
  iapply (wp_load_rect (defs := defs₀ (F := F)) 𝒱₀ (c : Thread nD τ) none Set.univ (m := M)
    (r := Rect.unit (s := S2x8x64x1024) off S1x1x64x1024.size inb) (q := q) (f := f) (S := M.view.set) (View.set_slice_subset _ _)) $$ H
  iintro H
  iapply Hk
  iexists f
  isplitr
  · ipureintro; rfl
  iexact H

/-! ## Rows of the buffers -/

/-- A buffer of partial results whose first `n` rows are those of `g`. -/
def rows1 (M : Memref sig .tc .vmem S16x8x1 .f32) (c : Dev nD) (n : ℕ) (g : Buf (Elt F) (M.view.loc (c : Thread nD τ))) : sProp 𝕄 :=
  iprop(∃ f, ⌜∀ j : S16x8x1.Idx, (j 0 : ℕ) < n → M.view.read (Elt F) f j = M.view.read (Elt F) g j⌝ ∗ vp M c fullShare f)
theorem wp_ld_rows1 (c : Dev nD) {α : Type} {Q : α → sProp 𝕄} {M : Memref sig .tc .vmem S16x8x1 .f32} {n : ℕ}
    {g : Buf (Elt F) (M.view.loc (c : Thread nD τ))} {off : Fin 3 → ℕ} {inb : ∀ a, off a + S1x8x1.size a ≤ S16x8x1.size a}
    {hl : M.view.LoadsAt (Rect.unit (s := S16x8x1) off S1x8x1.size inb).toLoadRect}
    {k : (S1x8x1.Idx → Elt F .f32) → Prog (TpuEff nD τ sig (Elt F) Λ₀ .tc) α} :
    (rows1 M c n g : sProp 𝕄)
      ⊢ iprop((∀ v, rows1 M c n g -∗ wp frame (wpE (defs₀ (F := F)) 𝒱₀ (c : Thread nD τ) none) Set.univ (k v) Q)
        -∗ wp frame (wpE (defs₀ (F := F)) 𝒱₀ (c : Thread nD τ) none) Set.univ
            (.op (.load M (Rect.unit (s := S16x8x1) off S1x8x1.size inb).toLoadRect hl) k) Q) := by
  unfold rows1 vp
  iintro ⟨%f, %hf, H⟩ Hk
  iapply (wp_load_rect (defs := defs₀ (F := F)) 𝒱₀ (c : Thread nD τ) none Set.univ (m := M)
    (r := Rect.unit (s := S16x8x1) off S1x8x1.size inb) (q := fullShare) (f := f) (S := M.view.set) (View.set_slice_subset _ _)) $$ H
  iintro H
  iapply Hk
  iexists f
  isplitr
  · ipureintro; exact hf
  iexact H
/-- Storing row `n`. -/
theorem wp_st_rows1 (c : Dev nD) {α : Type} {Q : α → sProp 𝕄} {M : Memref sig .tc .vmem S16x8x1 .f32} (n : ℕ)
    {g : Buf (Elt F) (M.view.loc (c : Thread nD τ))} {off : Fin 3 → ℕ} {inb : ∀ a, off a + S1x8x1.size a ≤ S16x8x1.size a}
    {v : S1x8x1.Idx → Elt F .f32}
    {hx : (M.access (Rect.unit (s := S16x8x1) off S1x8x1.size inb)).Stores Finset.univ}
    {hm : (Finset.univ : Finset S1x8x1.Idx) = Finset.univ ∨ ∀ a, (Rect.unit (s := S16x8x1) off S1x8x1.size inb).stride a = 1}
    {k : PUnit → Prog (TpuEff nD τ sig (Elt F) Λ₀ .tc) α} (hoff : off = ![n, 0, 0])
    (hv : ∀ (j : S1x8x1.Idx) (y : S16x8x1.Idx), (y 0 : ℕ) = n → (y 1 : ℕ) = (j 1 : ℕ) → (y 2 : ℕ) = (j 2 : ℕ) → v j = M.view.read (Elt F) g y) :
    (rows1 M c n g : sProp 𝕄)
      ⊢ iprop((rows1 M c (n + 1) g -∗ wp frame (wpE (defs₀ (F := F)) 𝒱₀ (c : Thread nD τ) none) Set.univ (k ⟨⟩) Q)
        -∗ wp frame (wpE (defs₀ (F := F)) 𝒱₀ (c : Thread nD τ) none) Set.univ
            (.op (.store M (Rect.unit (s := S16x8x1) off S1x8x1.size inb) v Finset.univ hx hm) k) Q) := by
  subst hoff
  unfold rows1 vp
  iintro ⟨%f, %hf, H⟩ Hk
  iapply (wp_store (defs := defs₀ (F := F)) 𝒱₀ (c : Thread nD τ) none Set.univ (m := M)
    (r := Rect.unit (s := S16x8x1) ![n, 0, 0] S1x8x1.size inb) (w := v) (Mk := Finset.univ) (f := f) (S := M.view.set)
    (View.set_slice_subset _ _)) $$ H
  iintro H
  iapply Hk
  iexists ((M.access (Rect.unit (s := S16x8x1) ![n, 0, 0] S1x8x1.size inb)).write (Elt F) f v Finset.univ)
  isplitr
  · ipureintro
    intro y hy
    have h := View.read_writes_cons_unit (v := M.view) (f := f) inb v [] y rfl
    refine Eq.trans h ?_
    have h1 : (y 1 : ℕ) < 8 := (y 1).isLt
    have h2 : (y 2 : ℕ) < 1 := (y 2).isLt
    by_cases hn : (y 0 : ℕ) = n
    · rw [dif_pos (fun a => by
        match a with
        | 0 => exact ⟨hn.ge, by show (y 0 : ℕ) < n + 1; omega⟩
        | 1 => exact ⟨Nat.zero_le _, by show (y 1 : ℕ) < 0 + 8; omega⟩
        | 2 => exact ⟨Nat.zero_le _, by show (y 2 : ℕ) < 0 + 1; omega⟩)]
      exact hv _ y hn rfl rfl
    · rw [dif_neg (fun hc => hn (Nat.le_antisymm (by omega) (hc 0).1))]
      exact hf y (by omega)
  iexact H
theorem rows1_all (b : Memref sig .tc .vmem S16x8x1 .f32) (c : Dev nD) (g : Buf (Elt F) (b.view.loc (c : Thread nD τ))) :
    (rows1 b c 16 g : sProp 𝕄) ⊢ vp b c fullShare g := by
  unfold rows1
  iintro ⟨%f, %hf, H⟩
  have h : (vp b c fullShare f : sProp 𝕄) = vp b c fullShare g := by
    unfold vp
    refine pointsTo_congr fun i hi => ?_
    obtain ⟨j, -, rfl⟩ := Finset.mem_map.mp hi
    have h := hf j (j 0).isLt
    rw [View.read_apply, View.read_apply] at h
    exact cast_inj _ |>.mp h
  rw [← h]
  iexact H
theorem rows1_none (b : Memref sig .tc .vmem S16x8x1 .f32) (c : Dev nD) (f g : Buf (Elt F) (b.view.loc (c : Thread nD τ))) :
    (vp b c fullShare f : sProp 𝕄) ⊢ rows1 b c 0 g := by
  unfold rows1
  iintro H
  iexists f
  isplitr
  · ipureintro; intro j hj; exact absurd hj (Nat.not_lt_zero _)
  iexact H

/-- A buffer of partial results whose first `n` rows are those of `g`. -/
def rows64 (M : Memref sig .tc .vmem S16x8x64 .f32) (c : Dev nD) (n : ℕ) (g : Buf (Elt F) (M.view.loc (c : Thread nD τ))) : sProp 𝕄 :=
  iprop(∃ f, ⌜∀ j : S16x8x64.Idx, (j 0 : ℕ) < n → M.view.read (Elt F) f j = M.view.read (Elt F) g j⌝ ∗ vp M c fullShare f)
theorem wp_ld_rows64 (c : Dev nD) {α : Type} {Q : α → sProp 𝕄} {M : Memref sig .tc .vmem S16x8x64 .f32} {n : ℕ}
    {g : Buf (Elt F) (M.view.loc (c : Thread nD τ))} {off : Fin 3 → ℕ} {inb : ∀ a, off a + S1x8x64.size a ≤ S16x8x64.size a}
    {hl : M.view.LoadsAt (Rect.unit (s := S16x8x64) off S1x8x64.size inb).toLoadRect}
    {k : (S1x8x64.Idx → Elt F .f32) → Prog (TpuEff nD τ sig (Elt F) Λ₀ .tc) α} :
    (rows64 M c n g : sProp 𝕄)
      ⊢ iprop((∀ v, rows64 M c n g -∗ wp frame (wpE (defs₀ (F := F)) 𝒱₀ (c : Thread nD τ) none) Set.univ (k v) Q)
        -∗ wp frame (wpE (defs₀ (F := F)) 𝒱₀ (c : Thread nD τ) none) Set.univ
            (.op (.load M (Rect.unit (s := S16x8x64) off S1x8x64.size inb).toLoadRect hl) k) Q) := by
  unfold rows64 vp
  iintro ⟨%f, %hf, H⟩ Hk
  iapply (wp_load_rect (defs := defs₀ (F := F)) 𝒱₀ (c : Thread nD τ) none Set.univ (m := M)
    (r := Rect.unit (s := S16x8x64) off S1x8x64.size inb) (q := fullShare) (f := f) (S := M.view.set) (View.set_slice_subset _ _)) $$ H
  iintro H
  iapply Hk
  iexists f
  isplitr
  · ipureintro; exact hf
  iexact H
/-- Storing row `n`. -/
theorem wp_st_rows64 (c : Dev nD) {α : Type} {Q : α → sProp 𝕄} {M : Memref sig .tc .vmem S16x8x64 .f32} (n : ℕ)
    {g : Buf (Elt F) (M.view.loc (c : Thread nD τ))} {off : Fin 3 → ℕ} {inb : ∀ a, off a + S1x8x64.size a ≤ S16x8x64.size a}
    {v : S1x8x64.Idx → Elt F .f32}
    {hx : (M.access (Rect.unit (s := S16x8x64) off S1x8x64.size inb)).Stores Finset.univ}
    {hm : (Finset.univ : Finset S1x8x64.Idx) = Finset.univ ∨ ∀ a, (Rect.unit (s := S16x8x64) off S1x8x64.size inb).stride a = 1}
    {k : PUnit → Prog (TpuEff nD τ sig (Elt F) Λ₀ .tc) α} (hoff : off = ![n, 0, 0])
    (hv : ∀ (j : S1x8x64.Idx) (y : S16x8x64.Idx), (y 0 : ℕ) = n → (y 1 : ℕ) = (j 1 : ℕ) → (y 2 : ℕ) = (j 2 : ℕ) → v j = M.view.read (Elt F) g y) :
    (rows64 M c n g : sProp 𝕄)
      ⊢ iprop((rows64 M c (n + 1) g -∗ wp frame (wpE (defs₀ (F := F)) 𝒱₀ (c : Thread nD τ) none) Set.univ (k ⟨⟩) Q)
        -∗ wp frame (wpE (defs₀ (F := F)) 𝒱₀ (c : Thread nD τ) none) Set.univ
            (.op (.store M (Rect.unit (s := S16x8x64) off S1x8x64.size inb) v Finset.univ hx hm) k) Q) := by
  subst hoff
  unfold rows64 vp
  iintro ⟨%f, %hf, H⟩ Hk
  iapply (wp_store (defs := defs₀ (F := F)) 𝒱₀ (c : Thread nD τ) none Set.univ (m := M)
    (r := Rect.unit (s := S16x8x64) ![n, 0, 0] S1x8x64.size inb) (w := v) (Mk := Finset.univ) (f := f) (S := M.view.set)
    (View.set_slice_subset _ _)) $$ H
  iintro H
  iapply Hk
  iexists ((M.access (Rect.unit (s := S16x8x64) ![n, 0, 0] S1x8x64.size inb)).write (Elt F) f v Finset.univ)
  isplitr
  · ipureintro
    intro y hy
    have h := View.read_writes_cons_unit (v := M.view) (f := f) inb v [] y rfl
    refine Eq.trans h ?_
    have h1 : (y 1 : ℕ) < 8 := (y 1).isLt
    have h2 : (y 2 : ℕ) < 64 := (y 2).isLt
    by_cases hn : (y 0 : ℕ) = n
    · rw [dif_pos (fun a => by
        match a with
        | 0 => exact ⟨hn.ge, by show (y 0 : ℕ) < n + 1; omega⟩
        | 1 => exact ⟨Nat.zero_le _, by show (y 1 : ℕ) < 0 + 8; omega⟩
        | 2 => exact ⟨Nat.zero_le _, by show (y 2 : ℕ) < 0 + 64; omega⟩)]
      exact hv _ y hn rfl rfl
    · rw [dif_neg (fun hc => hn (Nat.le_antisymm (by omega) (hc 0).1))]
      exact hf y (by omega)
  iexact H
theorem rows64_all (b : Memref sig .tc .vmem S16x8x64 .f32) (c : Dev nD) (g : Buf (Elt F) (b.view.loc (c : Thread nD τ))) :
    (rows64 b c 16 g : sProp 𝕄) ⊢ vp b c fullShare g := by
  unfold rows64
  iintro ⟨%f, %hf, H⟩
  have h : (vp b c fullShare f : sProp 𝕄) = vp b c fullShare g := by
    unfold vp
    refine pointsTo_congr fun i hi => ?_
    obtain ⟨j, -, rfl⟩ := Finset.mem_map.mp hi
    have h := hf j (j 0).isLt
    rw [View.read_apply, View.read_apply] at h
    exact cast_inj _ |>.mp h
  rw [← h]
  iexact H
theorem rows64_none (b : Memref sig .tc .vmem S16x8x64 .f32) (c : Dev nD) (f g : Buf (Elt F) (b.view.loc (c : Thread nD τ))) :
    (vp b c fullShare f : sProp 𝕄) ⊢ rows64 b c 0 g := by
  unfold rows64
  iintro H
  iexists f
  isplitr
  · ipureintro; intro j hj; exact absurd hj (Nat.not_lt_zero _)
  iexact H

/-! ## The partial results -/

theorem chk_ywd : ∀ (i : grid0.Coords) (c : Dev nD), k0_chk1 i (ywd c) := by decide +kernel

theorem inb1 : ∀ (c : Dev nD) (r : Fin 8), ∀ a, (k0_off1 (ywd c) (BitVec.ofNat 32 r.val)) a + S1x1x1x64.size a ≤ S2x1x16x64.size a := by decide +kernel
theorem inb4 : ∀ (c : Dev nD) (r : Fin 8), ∀ a, (k0_off4 (ywd c) (BitVec.ofNat 32 r.val)) a + S1x1x1x64.size a ≤ S2x1x16x64.size a := by decide +kernel

abbrev maxP0 (c : Dev nD) (X2 : S2x1x16x64.Idx → Elt F .f32) (X3 : S2x8x64x1024.Idx → Elt F .f32) : FVec F S8x1 .f32 :=
  k0_pay19 (k0_pay11 (ldq X2 (k0_off1 (ywd c) 0#32) (inb1 c 0)) (ldk X3 ![0, 0, 0, 0] inb_S2x8x64x1024_S1x1x64x1024_0_0_0_0))
    (k0_pay12 (ldq X2 (k0_off1 (ywd c) 1#32) (inb1 c 1)) (ldk X3 ![0, 1, 0, 0] inb_S2x8x64x1024_S1x1x64x1024_0_1_0_0))
    (k0_pay13 (ldq X2 (k0_off1 (ywd c) 2#32) (inb1 c 2)) (ldk X3 ![0, 2, 0, 0] inb_S2x8x64x1024_S1x1x64x1024_0_2_0_0))
    (k0_pay14 (ldq X2 (k0_off1 (ywd c) 3#32) (inb1 c 3)) (ldk X3 ![0, 3, 0, 0] inb_S2x8x64x1024_S1x1x64x1024_0_3_0_0))
    (k0_pay15 (ldq X2 (k0_off1 (ywd c) 4#32) (inb1 c 4)) (ldk X3 ![0, 4, 0, 0] inb_S2x8x64x1024_S1x1x64x1024_0_4_0_0))
    (k0_pay16 (ldq X2 (k0_off1 (ywd c) 5#32) (inb1 c 5)) (ldk X3 ![0, 5, 0, 0] inb_S2x8x64x1024_S1x1x64x1024_0_5_0_0))
    (k0_pay17 (ldq X2 (k0_off1 (ywd c) 6#32) (inb1 c 6)) (ldk X3 ![0, 6, 0, 0] inb_S2x8x64x1024_S1x1x64x1024_0_6_0_0))
    (ldq X2 (k0_off1 (ywd c) 7#32) (inb1 c 7)) (ldk X3 ![0, 7, 0, 0] inb_S2x8x64x1024_S1x1x64x1024_0_7_0_0)
abbrev expP0 (c : Dev nD) (X2 : S2x1x16x64.Idx → Elt F .f32) (X3 : S2x8x64x1024.Idx → Elt F .f32) : FVec F S8x1024 .f32 :=
  k0_pay20 (k0_pay11 (ldq X2 (k0_off1 (ywd c) 0#32) (inb1 c 0)) (ldk X3 ![0, 0, 0, 0] inb_S2x8x64x1024_S1x1x64x1024_0_0_0_0))
    (k0_pay12 (ldq X2 (k0_off1 (ywd c) 1#32) (inb1 c 1)) (ldk X3 ![0, 1, 0, 0] inb_S2x8x64x1024_S1x1x64x1024_0_1_0_0))
    (k0_pay13 (ldq X2 (k0_off1 (ywd c) 2#32) (inb1 c 2)) (ldk X3 ![0, 2, 0, 0] inb_S2x8x64x1024_S1x1x64x1024_0_2_0_0))
    (k0_pay14 (ldq X2 (k0_off1 (ywd c) 3#32) (inb1 c 3)) (ldk X3 ![0, 3, 0, 0] inb_S2x8x64x1024_S1x1x64x1024_0_3_0_0))
    (k0_pay15 (ldq X2 (k0_off1 (ywd c) 4#32) (inb1 c 4)) (ldk X3 ![0, 4, 0, 0] inb_S2x8x64x1024_S1x1x64x1024_0_4_0_0))
    (k0_pay16 (ldq X2 (k0_off1 (ywd c) 5#32) (inb1 c 5)) (ldk X3 ![0, 5, 0, 0] inb_S2x8x64x1024_S1x1x64x1024_0_5_0_0))
    (k0_pay17 (ldq X2 (k0_off1 (ywd c) 6#32) (inb1 c 6)) (ldk X3 ![0, 6, 0, 0] inb_S2x8x64x1024_S1x1x64x1024_0_6_0_0))
    (ldq X2 (k0_off1 (ywd c) 7#32) (inb1 c 7)) (ldk X3 ![0, 7, 0, 0] inb_S2x8x64x1024_S1x1x64x1024_0_7_0_0)
abbrev sumP0 (c : Dev nD) (X2 : S2x1x16x64.Idx → Elt F .f32) (X3 : S2x8x64x1024.Idx → Elt F .f32) : FVec F S8x1 .f32 :=
  k0_pay21 (k0_pay11 (ldq X2 (k0_off1 (ywd c) 0#32) (inb1 c 0)) (ldk X3 ![0, 0, 0, 0] inb_S2x8x64x1024_S1x1x64x1024_0_0_0_0))
    (k0_pay12 (ldq X2 (k0_off1 (ywd c) 1#32) (inb1 c 1)) (ldk X3 ![0, 1, 0, 0] inb_S2x8x64x1024_S1x1x64x1024_0_1_0_0))
    (k0_pay13 (ldq X2 (k0_off1 (ywd c) 2#32) (inb1 c 2)) (ldk X3 ![0, 2, 0, 0] inb_S2x8x64x1024_S1x1x64x1024_0_2_0_0))
    (k0_pay14 (ldq X2 (k0_off1 (ywd c) 3#32) (inb1 c 3)) (ldk X3 ![0, 3, 0, 0] inb_S2x8x64x1024_S1x1x64x1024_0_3_0_0))
    (k0_pay15 (ldq X2 (k0_off1 (ywd c) 4#32) (inb1 c 4)) (ldk X3 ![0, 4, 0, 0] inb_S2x8x64x1024_S1x1x64x1024_0_4_0_0))
    (k0_pay16 (ldq X2 (k0_off1 (ywd c) 5#32) (inb1 c 5)) (ldk X3 ![0, 5, 0, 0] inb_S2x8x64x1024_S1x1x64x1024_0_5_0_0))
    (k0_pay17 (ldq X2 (k0_off1 (ywd c) 6#32) (inb1 c 6)) (ldk X3 ![0, 6, 0, 0] inb_S2x8x64x1024_S1x1x64x1024_0_6_0_0))
    (ldq X2 (k0_off1 (ywd c) 7#32) (inb1 c 7)) (ldk X3 ![0, 7, 0, 0] inb_S2x8x64x1024_S1x1x64x1024_0_7_0_0)
abbrev outP0 (c : Dev nD) (X2 : S2x1x16x64.Idx → Elt F .f32) (X3 X4 : S2x8x64x1024.Idx → Elt F .f32) : FVec F S8x64 .f32 :=
  k0_pay26 (expP0 c X2 X3) (k0_pay22 (k0_pay11 (ldq X2 (k0_off1 (ywd c) 0#32) (inb1 c 0)) (ldk X3 ![0, 0, 0, 0] inb_S2x8x64x1024_S1x1x64x1024_0_0_0_0))
    (k0_pay12 (ldq X2 (k0_off1 (ywd c) 1#32) (inb1 c 1)) (ldk X3 ![0, 1, 0, 0] inb_S2x8x64x1024_S1x1x64x1024_0_1_0_0))
    (k0_pay13 (ldq X2 (k0_off1 (ywd c) 2#32) (inb1 c 2)) (ldk X3 ![0, 2, 0, 0] inb_S2x8x64x1024_S1x1x64x1024_0_2_0_0))
    (k0_pay14 (ldq X2 (k0_off1 (ywd c) 3#32) (inb1 c 3)) (ldk X3 ![0, 3, 0, 0] inb_S2x8x64x1024_S1x1x64x1024_0_3_0_0))
    (k0_pay15 (ldq X2 (k0_off1 (ywd c) 4#32) (inb1 c 4)) (ldk X3 ![0, 4, 0, 0] inb_S2x8x64x1024_S1x1x64x1024_0_4_0_0))
    (k0_pay16 (ldq X2 (k0_off1 (ywd c) 5#32) (inb1 c 5)) (ldk X3 ![0, 5, 0, 0] inb_S2x8x64x1024_S1x1x64x1024_0_5_0_0))
    (k0_pay17 (ldq X2 (k0_off1 (ywd c) 6#32) (inb1 c 6)) (ldk X3 ![0, 6, 0, 0] inb_S2x8x64x1024_S1x1x64x1024_0_6_0_0))
    (ldq X2 (k0_off1 (ywd c) 7#32) (inb1 c 7)) (ldk X3 ![0, 7, 0, 0] inb_S2x8x64x1024_S1x1x64x1024_0_7_0_0) (ldk X4 ![0, 0, 0, 0] inb_S2x8x64x1024_S1x1x64x1024_0_0_0_0)) (k0_pay23 (k0_pay11 (ldq X2 (k0_off1 (ywd c) 0#32) (inb1 c 0)) (ldk X3 ![0, 0, 0, 0] inb_S2x8x64x1024_S1x1x64x1024_0_0_0_0))
    (k0_pay12 (ldq X2 (k0_off1 (ywd c) 1#32) (inb1 c 1)) (ldk X3 ![0, 1, 0, 0] inb_S2x8x64x1024_S1x1x64x1024_0_1_0_0))
    (k0_pay13 (ldq X2 (k0_off1 (ywd c) 2#32) (inb1 c 2)) (ldk X3 ![0, 2, 0, 0] inb_S2x8x64x1024_S1x1x64x1024_0_2_0_0))
    (k0_pay14 (ldq X2 (k0_off1 (ywd c) 3#32) (inb1 c 3)) (ldk X3 ![0, 3, 0, 0] inb_S2x8x64x1024_S1x1x64x1024_0_3_0_0))
    (k0_pay15 (ldq X2 (k0_off1 (ywd c) 4#32) (inb1 c 4)) (ldk X3 ![0, 4, 0, 0] inb_S2x8x64x1024_S1x1x64x1024_0_4_0_0))
    (k0_pay16 (ldq X2 (k0_off1 (ywd c) 5#32) (inb1 c 5)) (ldk X3 ![0, 5, 0, 0] inb_S2x8x64x1024_S1x1x64x1024_0_5_0_0))
    (k0_pay17 (ldq X2 (k0_off1 (ywd c) 6#32) (inb1 c 6)) (ldk X3 ![0, 6, 0, 0] inb_S2x8x64x1024_S1x1x64x1024_0_6_0_0))
    (ldq X2 (k0_off1 (ywd c) 7#32) (inb1 c 7)) (ldk X3 ![0, 7, 0, 0] inb_S2x8x64x1024_S1x1x64x1024_0_7_0_0) (ldk X4 ![0, 1, 0, 0] inb_S2x8x64x1024_S1x1x64x1024_0_1_0_0)) (k0_pay24 (k0_pay11 (ldq X2 (k0_off1 (ywd c) 0#32) (inb1 c 0)) (ldk X3 ![0, 0, 0, 0] inb_S2x8x64x1024_S1x1x64x1024_0_0_0_0))
    (k0_pay12 (ldq X2 (k0_off1 (ywd c) 1#32) (inb1 c 1)) (ldk X3 ![0, 1, 0, 0] inb_S2x8x64x1024_S1x1x64x1024_0_1_0_0))
    (k0_pay13 (ldq X2 (k0_off1 (ywd c) 2#32) (inb1 c 2)) (ldk X3 ![0, 2, 0, 0] inb_S2x8x64x1024_S1x1x64x1024_0_2_0_0))
    (k0_pay14 (ldq X2 (k0_off1 (ywd c) 3#32) (inb1 c 3)) (ldk X3 ![0, 3, 0, 0] inb_S2x8x64x1024_S1x1x64x1024_0_3_0_0))
    (k0_pay15 (ldq X2 (k0_off1 (ywd c) 4#32) (inb1 c 4)) (ldk X3 ![0, 4, 0, 0] inb_S2x8x64x1024_S1x1x64x1024_0_4_0_0))
    (k0_pay16 (ldq X2 (k0_off1 (ywd c) 5#32) (inb1 c 5)) (ldk X3 ![0, 5, 0, 0] inb_S2x8x64x1024_S1x1x64x1024_0_5_0_0))
    (k0_pay17 (ldq X2 (k0_off1 (ywd c) 6#32) (inb1 c 6)) (ldk X3 ![0, 6, 0, 0] inb_S2x8x64x1024_S1x1x64x1024_0_6_0_0))
    (ldq X2 (k0_off1 (ywd c) 7#32) (inb1 c 7)) (ldk X3 ![0, 7, 0, 0] inb_S2x8x64x1024_S1x1x64x1024_0_7_0_0) (ldk X4 ![0, 2, 0, 0] inb_S2x8x64x1024_S1x1x64x1024_0_2_0_0)) (k0_pay25 (ldk X4 ![0, 3, 0, 0] inb_S2x8x64x1024_S1x1x64x1024_0_3_0_0)) (ldk X4 ![0, 4, 0, 0] inb_S2x8x64x1024_S1x1x64x1024_0_4_0_0) (ldk X4 ![0, 5, 0, 0] inb_S2x8x64x1024_S1x1x64x1024_0_5_0_0) (ldk X4 ![0, 6, 0, 0] inb_S2x8x64x1024_S1x1x64x1024_0_6_0_0) (ldk X4 ![0, 7, 0, 0] inb_S2x8x64x1024_S1x1x64x1024_0_7_0_0)
abbrev maxP1 (c : Dev nD) (X2 : S2x1x16x64.Idx → Elt F .f32) (X3 : S2x8x64x1024.Idx → Elt F .f32) : FVec F S8x1 .f32 :=
  k0_pay38 (k0_pay30 (ldq X2 (k0_off4 (ywd c) 0#32) (inb4 c 0)) (ldk X3 ![1, 0, 0, 0] inb_S2x8x64x1024_S1x1x64x1024_1_0_0_0))
    (k0_pay31 (ldq X2 (k0_off4 (ywd c) 1#32) (inb4 c 1)) (ldk X3 ![1, 1, 0, 0] inb_S2x8x64x1024_S1x1x64x1024_1_1_0_0))
    (k0_pay32 (ldq X2 (k0_off4 (ywd c) 2#32) (inb4 c 2)) (ldk X3 ![1, 2, 0, 0] inb_S2x8x64x1024_S1x1x64x1024_1_2_0_0))
    (k0_pay33 (ldq X2 (k0_off4 (ywd c) 3#32) (inb4 c 3)) (ldk X3 ![1, 3, 0, 0] inb_S2x8x64x1024_S1x1x64x1024_1_3_0_0))
    (k0_pay34 (ldq X2 (k0_off4 (ywd c) 4#32) (inb4 c 4)) (ldk X3 ![1, 4, 0, 0] inb_S2x8x64x1024_S1x1x64x1024_1_4_0_0))
    (k0_pay35 (ldq X2 (k0_off4 (ywd c) 5#32) (inb4 c 5)) (ldk X3 ![1, 5, 0, 0] inb_S2x8x64x1024_S1x1x64x1024_1_5_0_0))
    (k0_pay36 (ldq X2 (k0_off4 (ywd c) 6#32) (inb4 c 6)) (ldk X3 ![1, 6, 0, 0] inb_S2x8x64x1024_S1x1x64x1024_1_6_0_0))
    (ldq X2 (k0_off4 (ywd c) 7#32) (inb4 c 7)) (ldk X3 ![1, 7, 0, 0] inb_S2x8x64x1024_S1x1x64x1024_1_7_0_0)
abbrev expP1 (c : Dev nD) (X2 : S2x1x16x64.Idx → Elt F .f32) (X3 : S2x8x64x1024.Idx → Elt F .f32) : FVec F S8x1024 .f32 :=
  k0_pay39 (k0_pay30 (ldq X2 (k0_off4 (ywd c) 0#32) (inb4 c 0)) (ldk X3 ![1, 0, 0, 0] inb_S2x8x64x1024_S1x1x64x1024_1_0_0_0))
    (k0_pay31 (ldq X2 (k0_off4 (ywd c) 1#32) (inb4 c 1)) (ldk X3 ![1, 1, 0, 0] inb_S2x8x64x1024_S1x1x64x1024_1_1_0_0))
    (k0_pay32 (ldq X2 (k0_off4 (ywd c) 2#32) (inb4 c 2)) (ldk X3 ![1, 2, 0, 0] inb_S2x8x64x1024_S1x1x64x1024_1_2_0_0))
    (k0_pay33 (ldq X2 (k0_off4 (ywd c) 3#32) (inb4 c 3)) (ldk X3 ![1, 3, 0, 0] inb_S2x8x64x1024_S1x1x64x1024_1_3_0_0))
    (k0_pay34 (ldq X2 (k0_off4 (ywd c) 4#32) (inb4 c 4)) (ldk X3 ![1, 4, 0, 0] inb_S2x8x64x1024_S1x1x64x1024_1_4_0_0))
    (k0_pay35 (ldq X2 (k0_off4 (ywd c) 5#32) (inb4 c 5)) (ldk X3 ![1, 5, 0, 0] inb_S2x8x64x1024_S1x1x64x1024_1_5_0_0))
    (k0_pay36 (ldq X2 (k0_off4 (ywd c) 6#32) (inb4 c 6)) (ldk X3 ![1, 6, 0, 0] inb_S2x8x64x1024_S1x1x64x1024_1_6_0_0))
    (ldq X2 (k0_off4 (ywd c) 7#32) (inb4 c 7)) (ldk X3 ![1, 7, 0, 0] inb_S2x8x64x1024_S1x1x64x1024_1_7_0_0)
abbrev sumP1 (c : Dev nD) (X2 : S2x1x16x64.Idx → Elt F .f32) (X3 : S2x8x64x1024.Idx → Elt F .f32) : FVec F S8x1 .f32 :=
  k0_pay40 (k0_pay30 (ldq X2 (k0_off4 (ywd c) 0#32) (inb4 c 0)) (ldk X3 ![1, 0, 0, 0] inb_S2x8x64x1024_S1x1x64x1024_1_0_0_0))
    (k0_pay31 (ldq X2 (k0_off4 (ywd c) 1#32) (inb4 c 1)) (ldk X3 ![1, 1, 0, 0] inb_S2x8x64x1024_S1x1x64x1024_1_1_0_0))
    (k0_pay32 (ldq X2 (k0_off4 (ywd c) 2#32) (inb4 c 2)) (ldk X3 ![1, 2, 0, 0] inb_S2x8x64x1024_S1x1x64x1024_1_2_0_0))
    (k0_pay33 (ldq X2 (k0_off4 (ywd c) 3#32) (inb4 c 3)) (ldk X3 ![1, 3, 0, 0] inb_S2x8x64x1024_S1x1x64x1024_1_3_0_0))
    (k0_pay34 (ldq X2 (k0_off4 (ywd c) 4#32) (inb4 c 4)) (ldk X3 ![1, 4, 0, 0] inb_S2x8x64x1024_S1x1x64x1024_1_4_0_0))
    (k0_pay35 (ldq X2 (k0_off4 (ywd c) 5#32) (inb4 c 5)) (ldk X3 ![1, 5, 0, 0] inb_S2x8x64x1024_S1x1x64x1024_1_5_0_0))
    (k0_pay36 (ldq X2 (k0_off4 (ywd c) 6#32) (inb4 c 6)) (ldk X3 ![1, 6, 0, 0] inb_S2x8x64x1024_S1x1x64x1024_1_6_0_0))
    (ldq X2 (k0_off4 (ywd c) 7#32) (inb4 c 7)) (ldk X3 ![1, 7, 0, 0] inb_S2x8x64x1024_S1x1x64x1024_1_7_0_0)
abbrev outP1 (c : Dev nD) (X2 : S2x1x16x64.Idx → Elt F .f32) (X3 X4 : S2x8x64x1024.Idx → Elt F .f32) : FVec F S8x64 .f32 :=
  k0_pay44 (expP1 c X2 X3) (k0_pay41 (k0_pay30 (ldq X2 (k0_off4 (ywd c) 0#32) (inb4 c 0)) (ldk X3 ![1, 0, 0, 0] inb_S2x8x64x1024_S1x1x64x1024_1_0_0_0))
    (k0_pay31 (ldq X2 (k0_off4 (ywd c) 1#32) (inb4 c 1)) (ldk X3 ![1, 1, 0, 0] inb_S2x8x64x1024_S1x1x64x1024_1_1_0_0))
    (k0_pay32 (ldq X2 (k0_off4 (ywd c) 2#32) (inb4 c 2)) (ldk X3 ![1, 2, 0, 0] inb_S2x8x64x1024_S1x1x64x1024_1_2_0_0))
    (k0_pay33 (ldq X2 (k0_off4 (ywd c) 3#32) (inb4 c 3)) (ldk X3 ![1, 3, 0, 0] inb_S2x8x64x1024_S1x1x64x1024_1_3_0_0))
    (k0_pay34 (ldq X2 (k0_off4 (ywd c) 4#32) (inb4 c 4)) (ldk X3 ![1, 4, 0, 0] inb_S2x8x64x1024_S1x1x64x1024_1_4_0_0))
    (k0_pay35 (ldq X2 (k0_off4 (ywd c) 5#32) (inb4 c 5)) (ldk X3 ![1, 5, 0, 0] inb_S2x8x64x1024_S1x1x64x1024_1_5_0_0))
    (k0_pay36 (ldq X2 (k0_off4 (ywd c) 6#32) (inb4 c 6)) (ldk X3 ![1, 6, 0, 0] inb_S2x8x64x1024_S1x1x64x1024_1_6_0_0))
    (ldq X2 (k0_off4 (ywd c) 7#32) (inb4 c 7)) (ldk X3 ![1, 7, 0, 0] inb_S2x8x64x1024_S1x1x64x1024_1_7_0_0) (ldk X4 ![1, 0, 0, 0] inb_S2x8x64x1024_S1x1x64x1024_1_0_0_0)) (k0_pay42 (k0_pay30 (ldq X2 (k0_off4 (ywd c) 0#32) (inb4 c 0)) (ldk X3 ![1, 0, 0, 0] inb_S2x8x64x1024_S1x1x64x1024_1_0_0_0))
    (k0_pay31 (ldq X2 (k0_off4 (ywd c) 1#32) (inb4 c 1)) (ldk X3 ![1, 1, 0, 0] inb_S2x8x64x1024_S1x1x64x1024_1_1_0_0))
    (k0_pay32 (ldq X2 (k0_off4 (ywd c) 2#32) (inb4 c 2)) (ldk X3 ![1, 2, 0, 0] inb_S2x8x64x1024_S1x1x64x1024_1_2_0_0))
    (k0_pay33 (ldq X2 (k0_off4 (ywd c) 3#32) (inb4 c 3)) (ldk X3 ![1, 3, 0, 0] inb_S2x8x64x1024_S1x1x64x1024_1_3_0_0))
    (k0_pay34 (ldq X2 (k0_off4 (ywd c) 4#32) (inb4 c 4)) (ldk X3 ![1, 4, 0, 0] inb_S2x8x64x1024_S1x1x64x1024_1_4_0_0))
    (k0_pay35 (ldq X2 (k0_off4 (ywd c) 5#32) (inb4 c 5)) (ldk X3 ![1, 5, 0, 0] inb_S2x8x64x1024_S1x1x64x1024_1_5_0_0))
    (k0_pay36 (ldq X2 (k0_off4 (ywd c) 6#32) (inb4 c 6)) (ldk X3 ![1, 6, 0, 0] inb_S2x8x64x1024_S1x1x64x1024_1_6_0_0))
    (ldq X2 (k0_off4 (ywd c) 7#32) (inb4 c 7)) (ldk X3 ![1, 7, 0, 0] inb_S2x8x64x1024_S1x1x64x1024_1_7_0_0) (ldk X4 ![1, 1, 0, 0] inb_S2x8x64x1024_S1x1x64x1024_1_1_0_0)) (k0_pay43 (k0_pay30 (ldq X2 (k0_off4 (ywd c) 0#32) (inb4 c 0)) (ldk X3 ![1, 0, 0, 0] inb_S2x8x64x1024_S1x1x64x1024_1_0_0_0))
    (k0_pay31 (ldq X2 (k0_off4 (ywd c) 1#32) (inb4 c 1)) (ldk X3 ![1, 1, 0, 0] inb_S2x8x64x1024_S1x1x64x1024_1_1_0_0))
    (k0_pay32 (ldq X2 (k0_off4 (ywd c) 2#32) (inb4 c 2)) (ldk X3 ![1, 2, 0, 0] inb_S2x8x64x1024_S1x1x64x1024_1_2_0_0))
    (k0_pay33 (ldq X2 (k0_off4 (ywd c) 3#32) (inb4 c 3)) (ldk X3 ![1, 3, 0, 0] inb_S2x8x64x1024_S1x1x64x1024_1_3_0_0))
    (k0_pay34 (ldq X2 (k0_off4 (ywd c) 4#32) (inb4 c 4)) (ldk X3 ![1, 4, 0, 0] inb_S2x8x64x1024_S1x1x64x1024_1_4_0_0))
    (k0_pay35 (ldq X2 (k0_off4 (ywd c) 5#32) (inb4 c 5)) (ldk X3 ![1, 5, 0, 0] inb_S2x8x64x1024_S1x1x64x1024_1_5_0_0))
    (k0_pay36 (ldq X2 (k0_off4 (ywd c) 6#32) (inb4 c 6)) (ldk X3 ![1, 6, 0, 0] inb_S2x8x64x1024_S1x1x64x1024_1_6_0_0))
    (ldq X2 (k0_off4 (ywd c) 7#32) (inb4 c 7)) (ldk X3 ![1, 7, 0, 0] inb_S2x8x64x1024_S1x1x64x1024_1_7_0_0) (ldk X4 ![1, 2, 0, 0] inb_S2x8x64x1024_S1x1x64x1024_1_2_0_0)) (ldk X4 ![1, 3, 0, 0] inb_S2x8x64x1024_S1x1x64x1024_1_3_0_0) (ldk X4 ![1, 4, 0, 0] inb_S2x8x64x1024_S1x1x64x1024_1_4_0_0) (ldk X4 ![1, 5, 0, 0] inb_S2x8x64x1024_S1x1x64x1024_1_5_0_0) (ldk X4 ![1, 6, 0, 0] inb_S2x8x64x1024_S1x1x64x1024_1_6_0_0) (ldk X4 ![1, 7, 0, 0] inb_S2x8x64x1024_S1x1x64x1024_1_7_0_0)

/-- The grid point that fills a row, and an index of one row. -/
def pt (n : Fin 16) : Fin 8 := ⟨n.val / 2, by have := n.isLt; omega⟩
def row1 (j : S16x8x1.Idx) : S1x8x1.Idx := fun a => match a with
  | ⟨0, _⟩ => (0 : Fin 1)
  | ⟨1, _⟩ => (j 1 : Fin 8)
  | ⟨2, _⟩ => (j 2 : Fin 1)
def row64 (j : S16x8x64.Idx) : S1x8x64.Idx := fun a => match a with
  | ⟨0, _⟩ => (0 : Fin 1)
  | ⟨1, _⟩ => (j 1 : Fin 8)
  | ⟨2, _⟩ => (j 2 : Fin 64)
theorem row1_eq (j : S1x8x1.Idx) (y : S16x8x1.Idx) (h1 : (y 1 : ℕ) = (j 1 : ℕ)) (h2 : (y 2 : ℕ) = (j 2 : ℕ)) : row1 y = j :=
  funext fun a => Fin.ext (match a with
    | ⟨0, _⟩ => (Nat.lt_one_iff.mp (j 0).isLt).symm
    | ⟨1, _⟩ => h1
    | ⟨2, _⟩ => h2)
theorem row64_eq (j : S1x8x64.Idx) (y : S16x8x64.Idx) (h1 : (y 1 : ℕ) = (j 1 : ℕ)) (h2 : (y 2 : ℕ) = (j 2 : ℕ)) : row64 y = j :=
  funext fun a => Fin.ext (match a with
    | ⟨0, _⟩ => (Nat.lt_one_iff.mp (j 0).isLt).symm
    | ⟨1, _⟩ => h1
    | ⟨2, _⟩ => h2)
theorem pt_eq (n : Fin 16) (t : Fin 8) (h : n.val = 2 * t.val ∨ n.val = 2 * t.val + 1) : pt n = t := Fin.ext (by show n.val / 2 = t.val; omega)

/-- The partial results of every device from the window blocks at every grid point: grid point `t` fills the rows `2 t` and
    `2 t + 1`. -/
def partsOf (B2 : Dev nD → Fin 8 → S2x1x16x64.Idx → Elt F .f32) (B3 B4 : Dev nD → Fin 8 → S2x8x64x1024.Idx → Elt F .f32) : Parts F where
  m c j := if (j 0 : ℕ) % 2 = 0 then k0_pay27 (maxP0 c (B2 c (pt (j 0))) (B3 c (pt (j 0)))) (row1 j)
    else k0_pay45 (maxP1 c (B2 c (pt (j 0))) (B3 c (pt (j 0)))) (row1 j)
  l c j := if (j 0 : ℕ) % 2 = 0 then k0_pay28 (sumP0 c (B2 c (pt (j 0))) (B3 c (pt (j 0)))) (row1 j)
    else k0_pay1 (k0_pay46 (sumP1 c (B2 c (pt (j 0))) (B3 c (pt (j 0))))) (row1 j)
  o c j := if (j 0 : ℕ) % 2 = 0 then k0_pay29 (outP0 c (B2 c (pt (j 0))) (B3 c (pt (j 0))) (B4 c (pt (j 0)))) (row64 j)
    else k0_pay2 (outP1 c (B2 c (pt (j 0))) (B3 c (pt (j 0))) (B4 c (pt (j 0)))) (row64 j)

section Fill

variable (B2 : Dev nD → Fin 8 → S2x1x16x64.Idx → Elt F .f32) (B3 B4 : Dev nD → Fin 8 → S2x8x64x1024.Idx → Elt F .f32) (c : Dev nD) (t : Fin 8)

theorem fill_m0 (j : S1x8x1.Idx) (y : S16x8x1.Idx) (h0 : (y 0 : ℕ) = 2 * t.val) (h1 : (y 1 : ℕ) = (j 1 : ℕ)) (h2 : (y 2 : ℕ) = (j 2 : ℕ)) :
    k0_pay27 (maxP0 c (B2 c t) (B3 c t)) j = pmM.view.read (Elt F) ((partsOf B2 B3 B4).m c) y := by
  symm
  show (partsOf B2 B3 B4).m c y = _
  refine Eq.trans (if_pos (by omega)) ?_
  rw [pt_eq (y 0) t (Or.inl h0), row1_eq j y h1 h2]
theorem fill_m1 (j : S1x8x1.Idx) (y : S16x8x1.Idx) (h0 : (y 0 : ℕ) = 2 * t.val + 1) (h1 : (y 1 : ℕ) = (j 1 : ℕ)) (h2 : (y 2 : ℕ) = (j 2 : ℕ)) :
    k0_pay45 (maxP1 c (B2 c t) (B3 c t)) j = pmM.view.read (Elt F) ((partsOf B2 B3 B4).m c) y := by
  symm
  show (partsOf B2 B3 B4).m c y = _
  refine Eq.trans (if_neg (by omega)) ?_
  rw [pt_eq (y 0) t (Or.inr h0), row1_eq j y h1 h2]
theorem fill_l0 (j : S1x8x1.Idx) (y : S16x8x1.Idx) (h0 : (y 0 : ℕ) = 2 * t.val) (h1 : (y 1 : ℕ) = (j 1 : ℕ)) (h2 : (y 2 : ℕ) = (j 2 : ℕ)) :
    k0_pay28 (sumP0 c (B2 c t) (B3 c t)) j = plM.view.read (Elt F) ((partsOf B2 B3 B4).l c) y := by
  symm
  show (partsOf B2 B3 B4).l c y = _
  refine Eq.trans (if_pos (by omega)) ?_
  rw [pt_eq (y 0) t (Or.inl h0), row1_eq j y h1 h2]
theorem fill_l1 (j : S1x8x1.Idx) (y : S16x8x1.Idx) (h0 : (y 0 : ℕ) = 2 * t.val + 1) (h1 : (y 1 : ℕ) = (j 1 : ℕ)) (h2 : (y 2 : ℕ) = (j 2 : ℕ)) :
    k0_pay1 (k0_pay46 (sumP1 c (B2 c t) (B3 c t))) j = plM.view.read (Elt F) ((partsOf B2 B3 B4).l c) y := by
  symm
  show (partsOf B2 B3 B4).l c y = _
  refine Eq.trans (if_neg (by omega)) ?_
  rw [pt_eq (y 0) t (Or.inr h0), row1_eq j y h1 h2]
theorem fill_o0 (j : S1x8x64.Idx) (y : S16x8x64.Idx) (h0 : (y 0 : ℕ) = 2 * t.val) (h1 : (y 1 : ℕ) = (j 1 : ℕ)) (h2 : (y 2 : ℕ) = (j 2 : ℕ)) :
    k0_pay29 (outP0 c (B2 c t) (B3 c t) (B4 c t)) j = poM.view.read (Elt F) ((partsOf B2 B3 B4).o c) y := by
  symm
  show (partsOf B2 B3 B4).o c y = _
  refine Eq.trans (if_pos (by omega)) ?_
  rw [pt_eq (y 0) t (Or.inl h0), row64_eq j y h1 h2]
theorem fill_o1 (j : S1x8x64.Idx) (y : S16x8x64.Idx) (h0 : (y 0 : ℕ) = 2 * t.val + 1) (h1 : (y 1 : ℕ) = (j 1 : ℕ)) (h2 : (y 2 : ℕ) = (j 2 : ℕ)) :
    k0_pay2 (outP1 c (B2 c t) (B3 c t) (B4 c t)) j = poM.view.read (Elt F) ((partsOf B2 B3 B4).o c) y := by
  symm
  show (partsOf B2 B3 B4).o c y = _
  refine Eq.trans (if_neg (by omega)) ?_
  rw [pt_eq (y 0) t (Or.inr h0), row64_eq j y h1 h2]

end Fill

end Cert.KernelIdeal.Talk
-- ==== Proof.Comp.lean ====
/- The computation of one grid point, part by part, at one symbolic device. -/
module

public import proofs.«01_k».proof.Proof.Rows

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-- The table of device `c`: its column of the mesh. -/
def tblAt (c : Dev nD) : sProp 𝕄 :=
  (Memref.whole main_v7).view.loc (c : Thread nD τ) ↦[(Memref.whole main_v7).view.set]{fullShare} (fun _ => ywd c)
/-- Its load. -/
theorem wp_tbl (c : Dev nD) {α : Type} {Q : α → sProp 𝕄} {inb : ∀ a, (![0] : Fin 1 → ℕ) a + S1.size a ≤ S1.size a}
    {h1 : (Rect.unit (s := S1) ![0] S1.size inb).shape.numel = 1} {hp : EltTy.i32.packing = 1}
    {k : Elt F .i32 → Prog (TpuEff nD τ sig (Elt F) Λ₀ .tc) α} :
    (tblAt c : sProp 𝕄)
      ⊢ iprop((tblAt c -∗ wp frame (wpE (defs₀ (F := F)) 𝒱₀ (c : Thread nD τ) none) Set.univ (k (ywd c)) Q)
        -∗ wp frame (wpE (defs₀ (F := F)) 𝒱₀ (c : Thread nD τ) none) Set.univ
            ((smemLoad (Memref.whole main_v7) (Rect.unit (s := S1) ![0] S1.size inb) h1 hp : Prog (TpuEff nD τ sig (Elt F) Λ₀ .tc) (Elt F .i32)) >>= k) Q) := by
  unfold tblAt
  iintro H Hk
  iapply (wp_smemLoadElt (defs := defs₀ (F := F)) 𝒱₀ (c : Thread nD τ) none Set.univ (m := Memref.whole main_v7)
    (r := Rect.unit (s := S1) ![0] S1.size inb) (q := fullShare) (f := fun _ => ywd c) (S := (Memref.whole main_v7).view.set)
    (hw := View.loads_smem_one hp h1) (x := Shape.Idx.first (h1.symm ▸ Nat.one_pos)) (k := k) (View.set_slice_subset _ _)) $$ H
  iintro H
  iapply Hk; iexact H

section Parts

variable (g1 gl : S16x8x1.Idx → Elt F .f32) (g64 : S16x8x64.Idx → Elt F .f32)
variable (X2 : S2x1x16x64.Idx → Elt F .f32) (X3 X4 : S2x8x64x1024.Idx → Elt F .f32)

set_option maxHeartbeats 1000000 in
/-- Part 9: the table is read and three heads of the first batch are scored. -/
theorem part9_run (c : Dev nD) (i : grid0.Coords) (arg2 : Memref sig .tc .vmem S2x1x16x64 .f32) (harg2 : arg2.IsWhole) (arg3 : Memref sig .tc .vmem S2x8x64x1024 .f32) (harg3 : arg3.IsWhole)
    (arg4 : Memref sig .tc .vmem S2x8x64x1024 .f32) (harg4 : arg4.IsWhole) (arg5 : Memref sig .tc .vmem S16x1x16x64 .f32) (harg5 : arg5.IsWhole)
      (Φ : _ → sProp 𝕄) :
    iprop(tblAt c ∗ owns (c : Thread nD τ) arg2 fullShare X2 ∗ owns (c : Thread nD τ) arg3 fullShare X3
      ∗ ((tblAt c ∗ owns (c : Thread nD τ) arg2 fullShare X2 ∗ owns (c : Thread nD τ) arg3 fullShare X3) -∗ Φ ⟨(BitVec.ofNat 32 (i 0).val), (ywd c), (chk_ywd i c), (Scalar.muli (ywd c) 8#32), k0_pay11 (ldq X2 (k0_off1 (ywd c) 0#32) (k0_off1_inb i (ywd c) (chk_ywd i c) 0)) (ldk X3 ![0, 0, 0, 0] inb_S2x8x64x1024_S1x1x64x1024_0_0_0_0), k0_pay12 (ldq X2 (k0_off1 (ywd c) 1#32) (k0_off1_inb i (ywd c) (chk_ywd i c) 1)) (ldk X3 ![0, 1, 0, 0] inb_S2x8x64x1024_S1x1x64x1024_0_1_0_0), k0_pay13 (ldq X2 (k0_off1 (ywd c) 2#32) (k0_off1_inb i (ywd c) (chk_ywd i c) 2)) (ldk X3 ![0, 2, 0, 0] inb_S2x8x64x1024_S1x1x64x1024_0_2_0_0)⟩))
      ⊢ wp frame (wpE (defs₀ (F := F)) 𝒱₀ (c : Thread nD τ) none) Set.univ
          (k0_part9 (F := F) i (Memref.whole main_v7) (Memref.isWhole_whole _) arg2 harg2 arg3 harg3 arg4 harg4 arg5 harg5 pmM (Memref.isWhole_whole _) plM (Memref.isWhole_whole _) poM (Memref.isWhole_whole _) amM (Memref.isWhole_whole _) alM (Memref.isWhole_whole _) aoM (Memref.isWhole_whole _) rmM (Memref.isWhole_whole _) rlM (Memref.isWhole_whole _) roM (Memref.isWhole_whole _) cc0_scratch9 cc0_scratch10 ) Φ := by
  rw [k0_part9_eq_skeleton]
  unfold k0_part9_skel
  simp only [Prog.lift, Prog.bind_op, Prog.bind_ret, Prog.pure_eq_ret, Prog.bind_assoc]
  iintro ⟨Ht, H2, H3, Hk⟩
  iapply (wp_tbl c) $$ Ht; iintro Ht
  rw [wp_assume_of 𝒱₀ (c : Thread nD τ) none Set.univ (chk_ywd i c)]
  iapply (wp_ldq c) $$ H2; iintro H2
  iapply (wp_ldk c) $$ H3; iintro H3
  iapply (wp_ldq c) $$ H2; iintro H2
  iapply (wp_ldk c) $$ H3; iintro H3
  iapply (wp_ldq c) $$ H2; iintro H2
  iapply (wp_ldk c) $$ H3; iintro H3
  rw [wp_ret]; imodintro
  iapply Hk
  isplitl [Ht]; · iexact Ht
  isplitl [H2]; · iexact H2
  iexact H3

set_option maxHeartbeats 1000000 in
/-- Part 10: four more heads. -/
theorem part10_run (c : Dev nD) (i : grid0.Coords) (arg2 : Memref sig .tc .vmem S2x1x16x64 .f32) (harg2 : arg2.IsWhole) (arg3 : Memref sig .tc .vmem S2x8x64x1024 .f32) (harg3 : arg3.IsWhole)
    (arg4 : Memref sig .tc .vmem S2x8x64x1024 .f32) (harg4 : arg4.IsWhole) (arg5 : Memref sig .tc .vmem S16x1x16x64 .f32) (harg5 : arg5.IsWhole)
    (v1 : BitVec 32)  (Φ : _ → sProp 𝕄) :
    iprop(owns (c : Thread nD τ) arg2 fullShare X2 ∗ owns (c : Thread nD τ) arg3 fullShare X3
      ∗ ((owns (c : Thread nD τ) arg2 fullShare X2 ∗ owns (c : Thread nD τ) arg3 fullShare X3) -∗ Φ ⟨k0_pay14 (ldq X2 (k0_off1 (ywd c) 3#32) (k0_off1_inb i (ywd c) (chk_ywd i c) 3)) (ldk X3 ![0, 3, 0, 0] inb_S2x8x64x1024_S1x1x64x1024_0_3_0_0), k0_pay15 (ldq X2 (k0_off1 (ywd c) 4#32) (k0_off1_inb i (ywd c) (chk_ywd i c) 4)) (ldk X3 ![0, 4, 0, 0] inb_S2x8x64x1024_S1x1x64x1024_0_4_0_0), k0_pay16 (ldq X2 (k0_off1 (ywd c) 5#32) (k0_off1_inb i (ywd c) (chk_ywd i c) 5)) (ldk X3 ![0, 5, 0, 0] inb_S2x8x64x1024_S1x1x64x1024_0_5_0_0), k0_pay17 (ldq X2 (k0_off1 (ywd c) 6#32) (k0_off1_inb i (ywd c) (chk_ywd i c) 6)) (ldk X3 ![0, 6, 0, 0] inb_S2x8x64x1024_S1x1x64x1024_0_6_0_0), (Scalar.addi v1 7#32)⟩))
      ⊢ wp frame (wpE (defs₀ (F := F)) 𝒱₀ (c : Thread nD τ) none) Set.univ
          (k0_part10 (F := F) i (Memref.whole main_v7) (Memref.isWhole_whole _) arg2 harg2 arg3 harg3 arg4 harg4 arg5 harg5 pmM (Memref.isWhole_whole _) plM (Memref.isWhole_whole _) poM (Memref.isWhole_whole _) amM (Memref.isWhole_whole _) alM (Memref.isWhole_whole _) aoM (Memref.isWhole_whole _) rmM (Memref.isWhole_whole _) rlM (Memref.isWhole_whole _) roM (Memref.isWhole_whole _) cc0_scratch9 cc0_scratch10 (ywd c) (chk_ywd i c) v1) Φ := by
  rw [k0_part10_eq_skeleton]
  unfold k0_part10_skel
  simp only [Prog.lift, Prog.bind_op, Prog.bind_ret, Prog.pure_eq_ret, Prog.bind_assoc]
  iintro ⟨H2, H3, Hk⟩
  iapply (wp_ldq c) $$ H2; iintro H2
  iapply (wp_ldk c) $$ H3; iintro H3
  iapply (wp_ldq c) $$ H2; iintro H2
  iapply (wp_ldk c) $$ H3; iintro H3
  iapply (wp_ldq c) $$ H2; iintro H2
  iapply (wp_ldk c) $$ H3; iintro H3
  iapply (wp_ldq c) $$ H2; iintro H2
  iapply (wp_ldk c) $$ H3; iintro H3
  rw [wp_ret]; imodintro
  iapply Hk
  isplitl [H2]; · iexact H2
  iexact H3

set_option maxHeartbeats 1000000 in
/-- Part 11: the last head, the exponentials of the first batch and the products of four heads. -/
theorem part11_run (c : Dev nD) (i : grid0.Coords) (arg2 : Memref sig .tc .vmem S2x1x16x64 .f32) (harg2 : arg2.IsWhole) (arg3 : Memref sig .tc .vmem S2x8x64x1024 .f32) (harg3 : arg3.IsWhole)
    (arg4 : Memref sig .tc .vmem S2x8x64x1024 .f32) (harg4 : arg4.IsWhole) (arg5 : Memref sig .tc .vmem S16x1x16x64 .f32) (harg5 : arg5.IsWhole)
    (v8 : FVec F S1x1024 .f32) (v15 : FVec F S1x1024 .f32) (v22 : FVec F S1x1024 .f32) (v29 : FVec F S1x1024 .f32) (v36 : FVec F S1x1024 .f32) (v43 : FVec F S1x1024 .f32) (v50 : FVec F S1x1024 .f32) (v51 : BitVec 32)  (Φ : _ → sProp 𝕄) :
    iprop(owns (c : Thread nD τ) arg2 fullShare X2 ∗ owns (c : Thread nD τ) arg3 fullShare X3 ∗ owns (c : Thread nD τ) arg4 fullShare X4
      ∗ ((owns (c : Thread nD τ) arg2 fullShare X2 ∗ owns (c : Thread nD τ) arg3 fullShare X3 ∗ owns (c : Thread nD τ) arg4 fullShare X4) -∗ Φ ⟨k0_pay19 v8 v15 v22 v29 v36 v43 v50 (ldq X2 (k0_off1 (ywd c) 7#32) (k0_off1_inb i (ywd c) (chk_ywd i c) 7)) (ldk X3 ![0, 7, 0, 0] inb_S2x8x64x1024_S1x1x64x1024_0_7_0_0), k0_pay20 v8 v15 v22 v29 v36 v43 v50 (ldq X2 (k0_off1 (ywd c) 7#32) (k0_off1_inb i (ywd c) (chk_ywd i c) 7)) (ldk X3 ![0, 7, 0, 0] inb_S2x8x64x1024_S1x1x64x1024_0_7_0_0), k0_pay21 v8 v15 v22 v29 v36 v43 v50 (ldq X2 (k0_off1 (ywd c) 7#32) (k0_off1_inb i (ywd c) (chk_ywd i c) 7)) (ldk X3 ![0, 7, 0, 0] inb_S2x8x64x1024_S1x1x64x1024_0_7_0_0), k0_pay22 v8 v15 v22 v29 v36 v43 v50 (ldq X2 (k0_off1 (ywd c) 7#32) (k0_off1_inb i (ywd c) (chk_ywd i c) 7)) (ldk X3 ![0, 7, 0, 0] inb_S2x8x64x1024_S1x1x64x1024_0_7_0_0) (ldk X4 ![0, 0, 0, 0] inb_S2x8x64x1024_S1x1x64x1024_0_0_0_0), k0_pay23 v8 v15 v22 v29 v36 v43 v50 (ldq X2 (k0_off1 (ywd c) 7#32) (k0_off1_inb i (ywd c) (chk_ywd i c) 7)) (ldk X3 ![0, 7, 0, 0] inb_S2x8x64x1024_S1x1x64x1024_0_7_0_0) (ldk X4 ![0, 1, 0, 0] inb_S2x8x64x1024_S1x1x64x1024_0_1_0_0), k0_pay24 v8 v15 v22 v29 v36 v43 v50 (ldq X2 (k0_off1 (ywd c) 7#32) (k0_off1_inb i (ywd c) (chk_ywd i c) 7)) (ldk X3 ![0, 7, 0, 0] inb_S2x8x64x1024_S1x1x64x1024_0_7_0_0) (ldk X4 ![0, 2, 0, 0] inb_S2x8x64x1024_S1x1x64x1024_0_2_0_0), k0_pay25 (ldk X4 ![0, 3, 0, 0] inb_S2x8x64x1024_S1x1x64x1024_0_3_0_0)⟩))
      ⊢ wp frame (wpE (defs₀ (F := F)) 𝒱₀ (c : Thread nD τ) none) Set.univ
          (k0_part11 (F := F) i (Memref.whole main_v7) (Memref.isWhole_whole _) arg2 harg2 arg3 harg3 arg4 harg4 arg5 harg5 pmM (Memref.isWhole_whole _) plM (Memref.isWhole_whole _) poM (Memref.isWhole_whole _) amM (Memref.isWhole_whole _) alM (Memref.isWhole_whole _) aoM (Memref.isWhole_whole _) rmM (Memref.isWhole_whole _) rlM (Memref.isWhole_whole _) roM (Memref.isWhole_whole _) cc0_scratch9 cc0_scratch10 (ywd c) (chk_ywd i c) v8 v15 v22 v29 v36 v43 v50 v51) Φ := by
  rw [k0_part11_eq_skeleton]
  unfold k0_part11_skel
  simp only [Prog.lift, Prog.bind_op, Prog.bind_ret, Prog.pure_eq_ret, Prog.bind_assoc]
  iintro ⟨H2, H3, H4, Hk⟩
  iapply (wp_ldq c) $$ H2; iintro H2
  iapply (wp_ldk c) $$ H3; iintro H3
  iapply (wp_ldk c) $$ H4; iintro H4
  iapply (wp_ldk c) $$ H4; iintro H4
  iapply (wp_ldk c) $$ H4; iintro H4
  iapply (wp_ldk c) $$ H4; iintro H4
  rw [wp_ret]; imodintro
  iapply Hk
  isplitl [H2]; · iexact H2
  isplitl [H3]; · iexact H3
  iexact H4

set_option maxHeartbeats 1000000 in
/-- Part 12: the other four heads, and the row statistics are stored. -/
theorem part12_run (c : Dev nD) (i : grid0.Coords) (arg2 : Memref sig .tc .vmem S2x1x16x64 .f32) (harg2 : arg2.IsWhole) (arg3 : Memref sig .tc .vmem S2x8x64x1024 .f32) (harg3 : arg3.IsWhole)
    (arg4 : Memref sig .tc .vmem S2x8x64x1024 .f32) (harg4 : arg4.IsWhole) (arg5 : Memref sig .tc .vmem S16x1x16x64 .f32) (harg5 : arg5.IsWhole)
    (arg0 : BitVec 32) (v62 : FVec F S8x1 .f32) (v65 : FVec F S8x1024 .f32) (v67 : FVec F S8x1 .f32) (v71 : FVec F S1x64 .f32) (v75 : FVec F S1x64 .f32) (v79 : FVec F S1x64 .f32) (v81 : FVec F S64x1024 .f32) (hpm : ∀ (j : S1x8x1.Idx) (y : S16x8x1.Idx), (y 0 : ℕ) = 2 * (i 0).val + 0 → (y 1 : ℕ) = (j 1 : ℕ) → (y 2 : ℕ) = (j 2 : ℕ) → (k0_pay27 v62) j = pmM.view.read (Elt F) g1 y) (hpl : ∀ (j : S1x8x1.Idx) (y : S16x8x1.Idx), (y 0 : ℕ) = 2 * (i 0).val + 0 → (y 1 : ℕ) = (j 1 : ℕ) → (y 2 : ℕ) = (j 2 : ℕ) → (k0_pay28 v67) j = plM.view.read (Elt F) gl y) (Φ : _ → sProp 𝕄) :
    iprop(owns (c : Thread nD τ) arg4 fullShare X4 ∗ rows1 pmM c (2 * (i 0).val + 0) g1 ∗ rows1 plM c (2 * (i 0).val + 0) gl
      ∗ ((owns (c : Thread nD τ) arg4 fullShare X4 ∗ rows1 pmM c (2 * (i 0).val + 1) g1 ∗ rows1 plM c (2 * (i 0).val + 1) gl) -∗ Φ ⟨k0_pay26 v65 v71 v75 v79 v81 (ldk X4 ![0, 4, 0, 0] inb_S2x8x64x1024_S1x1x64x1024_0_4_0_0) (ldk X4 ![0, 5, 0, 0] inb_S2x8x64x1024_S1x1x64x1024_0_5_0_0) (ldk X4 ![0, 6, 0, 0] inb_S2x8x64x1024_S1x1x64x1024_0_6_0_0) (ldk X4 ![0, 7, 0, 0] inb_S2x8x64x1024_S1x1x64x1024_0_7_0_0), (Scalar.addi (Scalar.muli 2#32 arg0) 0#32)⟩))
      ⊢ wp frame (wpE (defs₀ (F := F)) 𝒱₀ (c : Thread nD τ) none) Set.univ
          (k0_part12 (F := F) i (Memref.whole main_v7) (Memref.isWhole_whole _) arg2 harg2 arg3 harg3 arg4 harg4 arg5 harg5 pmM (Memref.isWhole_whole _) plM (Memref.isWhole_whole _) poM (Memref.isWhole_whole _) amM (Memref.isWhole_whole _) alM (Memref.isWhole_whole _) aoM (Memref.isWhole_whole _) rmM (Memref.isWhole_whole _) rlM (Memref.isWhole_whole _) roM (Memref.isWhole_whole _) cc0_scratch9 cc0_scratch10 arg0 v62 v65 v67 v71 v75 v79 v81) Φ := by
  rw [k0_part12_eq_skeleton]
  unfold k0_part12_skel
  simp only [Prog.lift, Prog.bind_op, Prog.bind_ret, Prog.pure_eq_ret, Prog.bind_assoc]
  iintro ⟨H4, Hpm, Hpl, Hk⟩
  iapply (wp_ldk c) $$ H4; iintro H4
  iapply (wp_ldk c) $$ H4; iintro H4
  iapply (wp_ldk c) $$ H4; iintro H4
  iapply (wp_ldk c) $$ H4; iintro H4
  iapply (wp_ld_rows1 c) $$ Hpm; iintro %v105 Hpm
  iapply (wp_st_rows1 c (2 * (i 0).val + 0) (k0_off2_eq i 0) hpm) $$ Hpm; iintro Hpm
  iapply (wp_ld_rows1 c) $$ Hpl; iintro %v110 Hpl
  iapply (wp_st_rows1 c (2 * (i 0).val + 0) (k0_off2_eq i 0) hpl) $$ Hpl; iintro Hpl
  rw [wp_ret]; imodintro
  iapply Hk
  isplitl [H4]; · iexact H4
  isplitl [Hpm]; · iexact Hpm
  iexact Hpl

set_option maxHeartbeats 1000000 in
/-- Part 13: the row of products is stored, and three heads of the second batch are scored. -/
theorem part13_run (c : Dev nD) (i : grid0.Coords) (arg2 : Memref sig .tc .vmem S2x1x16x64 .f32) (harg2 : arg2.IsWhole) (arg3 : Memref sig .tc .vmem S2x8x64x1024 .f32) (harg3 : arg3.IsWhole)
    (arg4 : Memref sig .tc .vmem S2x8x64x1024 .f32) (harg4 : arg4.IsWhole) (arg5 : Memref sig .tc .vmem S16x1x16x64 .f32) (harg5 : arg5.IsWhole)
    (v1 : BitVec 32) (v100 : FVec F S8x64 .f32) (v102 : BitVec 32) (hpo : ∀ (j : S1x8x64.Idx) (y : S16x8x64.Idx), (y 0 : ℕ) = 2 * (i 0).val + 0 → (y 1 : ℕ) = (j 1 : ℕ) → (y 2 : ℕ) = (j 2 : ℕ) → (k0_pay29 v100) j = poM.view.read (Elt F) g64 y) (Φ : _ → sProp 𝕄) :
    iprop(rows64 poM c (2 * (i 0).val + 0) g64 ∗ owns (c : Thread nD τ) arg2 fullShare X2 ∗ owns (c : Thread nD τ) arg3 fullShare X3
      ∗ ((rows64 poM c (2 * (i 0).val + 1) g64 ∗ owns (c : Thread nD τ) arg2 fullShare X2 ∗ owns (c : Thread nD τ) arg3 fullShare X3) -∗ Φ ⟨k0_pay30 (ldq X2 (k0_off4 (ywd c) 0#32) (k0_off4_inb i (ywd c) (chk_ywd i c) 0)) (ldk X3 ![1, 0, 0, 0] inb_S2x8x64x1024_S1x1x64x1024_1_0_0_0), k0_pay31 (ldq X2 (k0_off4 (ywd c) 1#32) (k0_off4_inb i (ywd c) (chk_ywd i c) 1)) (ldk X3 ![1, 1, 0, 0] inb_S2x8x64x1024_S1x1x64x1024_1_1_0_0), k0_pay32 (ldq X2 (k0_off4 (ywd c) 2#32) (k0_off4_inb i (ywd c) (chk_ywd i c) 2)) (ldk X3 ![1, 2, 0, 0] inb_S2x8x64x1024_S1x1x64x1024_1_2_0_0), (Scalar.addi v1 3#32)⟩))
      ⊢ wp frame (wpE (defs₀ (F := F)) 𝒱₀ (c : Thread nD τ) none) Set.univ
          (k0_part13 (F := F) i (Memref.whole main_v7) (Memref.isWhole_whole _) arg2 harg2 arg3 harg3 arg4 harg4 arg5 harg5 pmM (Memref.isWhole_whole _) plM (Memref.isWhole_whole _) poM (Memref.isWhole_whole _) amM (Memref.isWhole_whole _) alM (Memref.isWhole_whole _) aoM (Memref.isWhole_whole _) rmM (Memref.isWhole_whole _) rlM (Memref.isWhole_whole _) roM (Memref.isWhole_whole _) cc0_scratch9 cc0_scratch10 (ywd c) (chk_ywd i c) v1 v100 v102) Φ := by
  rw [k0_part13_eq_skeleton]
  unfold k0_part13_skel
  simp only [Prog.lift, Prog.bind_op, Prog.bind_ret, Prog.pure_eq_ret, Prog.bind_assoc]
  iintro ⟨Hpo, H2, H3, Hk⟩
  iapply (wp_ld_rows64 c) $$ Hpo; iintro %v115 Hpo
  iapply (wp_st_rows64 c (2 * (i 0).val + 0) (k0_off3_eq i 0) hpo) $$ Hpo; iintro Hpo
  iapply (wp_ldq c) $$ H2; iintro H2
  iapply (wp_ldk c) $$ H3; iintro H3
  iapply (wp_ldq c) $$ H2; iintro H2
  iapply (wp_ldk c) $$ H3; iintro H3
  iapply (wp_ldq c) $$ H2; iintro H2
  iapply (wp_ldk c) $$ H3; iintro H3
  rw [wp_ret]; imodintro
  iapply Hk
  isplitl [Hpo]; · iexact Hpo
  isplitl [H2]; · iexact H2
  iexact H3

set_option maxHeartbeats 1000000 in
/-- Part 14: four more heads. -/
theorem part14_run (c : Dev nD) (i : grid0.Coords) (arg2 : Memref sig .tc .vmem S2x1x16x64 .f32) (harg2 : arg2.IsWhole) (arg3 : Memref sig .tc .vmem S2x8x64x1024 .f32) (harg3 : arg3.IsWhole)
    (arg4 : Memref sig .tc .vmem S2x8x64x1024 .f32) (harg4 : arg4.IsWhole) (arg5 : Memref sig .tc .vmem S16x1x16x64 .f32) (harg5 : arg5.IsWhole)
    (v1 : BitVec 32) (v139 : BitVec 32)  (Φ : _ → sProp 𝕄) :
    iprop(owns (c : Thread nD τ) arg2 fullShare X2 ∗ owns (c : Thread nD τ) arg3 fullShare X3
      ∗ ((owns (c : Thread nD τ) arg2 fullShare X2 ∗ owns (c : Thread nD τ) arg3 fullShare X3) -∗ Φ ⟨k0_pay33 (ldq X2 (k0_off4 (ywd c) 3#32) (k0_off4_inb i (ywd c) (chk_ywd i c) 3)) (ldk X3 ![1, 3, 0, 0] inb_S2x8x64x1024_S1x1x64x1024_1_3_0_0), k0_pay34 (ldq X2 (k0_off4 (ywd c) 4#32) (k0_off4_inb i (ywd c) (chk_ywd i c) 4)) (ldk X3 ![1, 4, 0, 0] inb_S2x8x64x1024_S1x1x64x1024_1_4_0_0), k0_pay35 (ldq X2 (k0_off4 (ywd c) 5#32) (k0_off4_inb i (ywd c) (chk_ywd i c) 5)) (ldk X3 ![1, 5, 0, 0] inb_S2x8x64x1024_S1x1x64x1024_1_5_0_0), k0_pay36 (ldq X2 (k0_off4 (ywd c) 6#32) (k0_off4_inb i (ywd c) (chk_ywd i c) 6)) (ldk X3 ![1, 6, 0, 0] inb_S2x8x64x1024_S1x1x64x1024_1_6_0_0)⟩))
      ⊢ wp frame (wpE (defs₀ (F := F)) 𝒱₀ (c : Thread nD τ) none) Set.univ
          (k0_part14 (F := F) i (Memref.whole main_v7) (Memref.isWhole_whole _) arg2 harg2 arg3 harg3 arg4 harg4 arg5 harg5 pmM (Memref.isWhole_whole _) plM (Memref.isWhole_whole _) poM (Memref.isWhole_whole _) amM (Memref.isWhole_whole _) alM (Memref.isWhole_whole _) aoM (Memref.isWhole_whole _) rmM (Memref.isWhole_whole _) rlM (Memref.isWhole_whole _) roM (Memref.isWhole_whole _) cc0_scratch9 cc0_scratch10 (ywd c) (chk_ywd i c) v1 v139) Φ := by
  rw [k0_part14_eq_skeleton]
  unfold k0_part14_skel
  simp only [Prog.lift, Prog.bind_op, Prog.bind_ret, Prog.pure_eq_ret, Prog.bind_assoc]
  iintro ⟨H2, H3, Hk⟩
  iapply (wp_ldq c) $$ H2; iintro H2
  iapply (wp_ldk c) $$ H3; iintro H3
  iapply (wp_ldq c) $$ H2; iintro H2
  iapply (wp_ldk c) $$ H3; iintro H3
  iapply (wp_ldq c) $$ H2; iintro H2
  iapply (wp_ldk c) $$ H3; iintro H3
  iapply (wp_ldq c) $$ H2; iintro H2
  iapply (wp_ldk c) $$ H3; iintro H3
  rw [wp_ret]; imodintro
  iapply Hk
  isplitl [H2]; · iexact H2
  iexact H3

set_option maxHeartbeats 1000000 in
/-- Part 15: the last head, the exponentials of the second batch and the products of three heads. -/
theorem part15_run (c : Dev nD) (i : grid0.Coords) (arg2 : Memref sig .tc .vmem S2x1x16x64 .f32) (harg2 : arg2.IsWhole) (arg3 : Memref sig .tc .vmem S2x8x64x1024 .f32) (harg3 : arg3.IsWhole)
    (arg4 : Memref sig .tc .vmem S2x8x64x1024 .f32) (harg4 : arg4.IsWhole) (arg5 : Memref sig .tc .vmem S16x1x16x64 .f32) (harg5 : arg5.IsWhole)
    (v1 : BitVec 32) (v124 : FVec F S1x1024 .f32) (v131 : FVec F S1x1024 .f32) (v138 : FVec F S1x1024 .f32) (v145 : FVec F S1x1024 .f32) (v152 : FVec F S1x1024 .f32) (v159 : FVec F S1x1024 .f32) (v166 : FVec F S1x1024 .f32)  (Φ : _ → sProp 𝕄) :
    iprop(owns (c : Thread nD τ) arg2 fullShare X2 ∗ owns (c : Thread nD τ) arg3 fullShare X3 ∗ owns (c : Thread nD τ) arg4 fullShare X4
      ∗ ((owns (c : Thread nD τ) arg2 fullShare X2 ∗ owns (c : Thread nD τ) arg3 fullShare X3 ∗ owns (c : Thread nD τ) arg4 fullShare X4) -∗ Φ ⟨k0_pay38 v124 v131 v138 v145 v152 v159 v166 (ldq X2 (k0_off4 (ywd c) 7#32) (k0_off4_inb i (ywd c) (chk_ywd i c) 7)) (ldk X3 ![1, 7, 0, 0] inb_S2x8x64x1024_S1x1x64x1024_1_7_0_0), k0_pay39 v124 v131 v138 v145 v152 v159 v166 (ldq X2 (k0_off4 (ywd c) 7#32) (k0_off4_inb i (ywd c) (chk_ywd i c) 7)) (ldk X3 ![1, 7, 0, 0] inb_S2x8x64x1024_S1x1x64x1024_1_7_0_0), k0_pay40 v124 v131 v138 v145 v152 v159 v166 (ldq X2 (k0_off4 (ywd c) 7#32) (k0_off4_inb i (ywd c) (chk_ywd i c) 7)) (ldk X3 ![1, 7, 0, 0] inb_S2x8x64x1024_S1x1x64x1024_1_7_0_0), k0_pay41 v124 v131 v138 v145 v152 v159 v166 (ldq X2 (k0_off4 (ywd c) 7#32) (k0_off4_inb i (ywd c) (chk_ywd i c) 7)) (ldk X3 ![1, 7, 0, 0] inb_S2x8x64x1024_S1x1x64x1024_1_7_0_0) (ldk X4 ![1, 0, 0, 0] inb_S2x8x64x1024_S1x1x64x1024_1_0_0_0), k0_pay42 v124 v131 v138 v145 v152 v159 v166 (ldq X2 (k0_off4 (ywd c) 7#32) (k0_off4_inb i (ywd c) (chk_ywd i c) 7)) (ldk X3 ![1, 7, 0, 0] inb_S2x8x64x1024_S1x1x64x1024_1_7_0_0) (ldk X4 ![1, 1, 0, 0] inb_S2x8x64x1024_S1x1x64x1024_1_1_0_0), k0_pay43 v124 v131 v138 v145 v152 v159 v166 (ldq X2 (k0_off4 (ywd c) 7#32) (k0_off4_inb i (ywd c) (chk_ywd i c) 7)) (ldk X3 ![1, 7, 0, 0] inb_S2x8x64x1024_S1x1x64x1024_1_7_0_0) (ldk X4 ![1, 2, 0, 0] inb_S2x8x64x1024_S1x1x64x1024_1_2_0_0)⟩))
      ⊢ wp frame (wpE (defs₀ (F := F)) 𝒱₀ (c : Thread nD τ) none) Set.univ
          (k0_part15 (F := F) i (Memref.whole main_v7) (Memref.isWhole_whole _) arg2 harg2 arg3 harg3 arg4 harg4 arg5 harg5 pmM (Memref.isWhole_whole _) plM (Memref.isWhole_whole _) poM (Memref.isWhole_whole _) amM (Memref.isWhole_whole _) alM (Memref.isWhole_whole _) aoM (Memref.isWhole_whole _) rmM (Memref.isWhole_whole _) rlM (Memref.isWhole_whole _) roM (Memref.isWhole_whole _) cc0_scratch9 cc0_scratch10 (ywd c) (chk_ywd i c) v1 v124 v131 v138 v145 v152 v159 v166) Φ := by
  rw [k0_part15_eq_skeleton]
  unfold k0_part15_skel
  simp only [Prog.lift, Prog.bind_op, Prog.bind_ret, Prog.pure_eq_ret, Prog.bind_assoc]
  iintro ⟨H2, H3, H4, Hk⟩
  iapply (wp_ldq c) $$ H2; iintro H2
  iapply (wp_ldk c) $$ H3; iintro H3
  iapply (wp_ldk c) $$ H4; iintro H4
  iapply (wp_ldk c) $$ H4; iintro H4
  iapply (wp_ldk c) $$ H4; iintro H4
  rw [wp_ret]; imodintro
  iapply Hk
  isplitl [H2]; · iexact H2
  isplitl [H3]; · iexact H3
  iexact H4

set_option maxHeartbeats 1000000 in
/-- Part 16: the other five heads, and the row maximum is stored. -/
theorem part16_run (c : Dev nD) (i : grid0.Coords) (arg2 : Memref sig .tc .vmem S2x1x16x64 .f32) (harg2 : arg2.IsWhole) (arg3 : Memref sig .tc .vmem S2x8x64x1024 .f32) (harg3 : arg3.IsWhole)
    (arg4 : Memref sig .tc .vmem S2x8x64x1024 .f32) (harg4 : arg4.IsWhole) (arg5 : Memref sig .tc .vmem S16x1x16x64 .f32) (harg5 : arg5.IsWhole)
    (arg0 : BitVec 32) (v178 : FVec F S8x1 .f32) (v181 : FVec F S8x1024 .f32) (v183 : FVec F S8x1 .f32) (v187 : FVec F S1x64 .f32) (v191 : FVec F S1x64 .f32) (v195 : FVec F S1x64 .f32) (hpm : ∀ (j : S1x8x1.Idx) (y : S16x8x1.Idx), (y 0 : ℕ) = 2 * (i 0).val + 1 → (y 1 : ℕ) = (j 1 : ℕ) → (y 2 : ℕ) = (j 2 : ℕ) → (k0_pay45 v178) j = pmM.view.read (Elt F) g1 y) (Φ : _ → sProp 𝕄) :
    iprop(owns (c : Thread nD τ) arg4 fullShare X4 ∗ rows1 pmM c (2 * (i 0).val + 1) g1 ∗ rows1 plM c (2 * (i 0).val + 1) gl
      ∗ ((owns (c : Thread nD τ) arg4 fullShare X4 ∗ rows1 pmM c (2 * (i 0).val + 2) g1 ∗ rows1 plM c (2 * (i 0).val + 1) gl) -∗ Φ ⟨k0_pay44 v181 v187 v191 v195 (ldk X4 ![1, 3, 0, 0] inb_S2x8x64x1024_S1x1x64x1024_1_3_0_0) (ldk X4 ![1, 4, 0, 0] inb_S2x8x64x1024_S1x1x64x1024_1_4_0_0) (ldk X4 ![1, 5, 0, 0] inb_S2x8x64x1024_S1x1x64x1024_1_5_0_0) (ldk X4 ![1, 6, 0, 0] inb_S2x8x64x1024_S1x1x64x1024_1_6_0_0) (ldk X4 ![1, 7, 0, 0] inb_S2x8x64x1024_S1x1x64x1024_1_7_0_0), (Scalar.addi (Scalar.muli 2#32 arg0) 1#32), k0_pay46 v183⟩))
      ⊢ wp frame (wpE (defs₀ (F := F)) 𝒱₀ (c : Thread nD τ) none) Set.univ
          (k0_part16 (F := F) i (Memref.whole main_v7) (Memref.isWhole_whole _) arg2 harg2 arg3 harg3 arg4 harg4 arg5 harg5 pmM (Memref.isWhole_whole _) plM (Memref.isWhole_whole _) poM (Memref.isWhole_whole _) amM (Memref.isWhole_whole _) alM (Memref.isWhole_whole _) aoM (Memref.isWhole_whole _) rmM (Memref.isWhole_whole _) rlM (Memref.isWhole_whole _) roM (Memref.isWhole_whole _) cc0_scratch9 cc0_scratch10 arg0 v178 v181 v183 v187 v191 v195) Φ := by
  rw [k0_part16_eq_skeleton]
  unfold k0_part16_skel
  simp only [Prog.lift, Prog.bind_op, Prog.bind_ret, Prog.pure_eq_ret, Prog.bind_assoc]
  iintro ⟨H4, Hpm, Hpl, Hk⟩
  iapply (wp_ldk c) $$ H4; iintro H4
  iapply (wp_ldk c) $$ H4; iintro H4
  iapply (wp_ldk c) $$ H4; iintro H4
  iapply (wp_ldk c) $$ H4; iintro H4
  iapply (wp_ldk c) $$ H4; iintro H4
  iapply (wp_ld_rows1 c) $$ Hpm; iintro %v221 Hpm
  iapply (wp_st_rows1 c (2 * (i 0).val + 1) (k0_off2_eq i 1) hpm) $$ Hpm; iintro Hpm
  iapply (wp_ld_rows1 c) $$ Hpl; iintro %v226 Hpl
  rw [wp_ret]; imodintro
  iapply Hk
  isplitl [H4]; · iexact H4
  isplitl [Hpm]; · iexact Hpm
  iexact Hpl

end Parts

end Cert.KernelIdeal.Talk
-- ==== Proof.Talk.lean ====
/- The exchange run at one symbolic device: the signals, the wait for the partners, the nine copies, the eighteen waits, and
   the combination of the gathered partial results into the result. -/
module

public import proofs.«01_k».proof.Proof.Rules

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (P : Parts F) (K : GSem nD τ sig → ℕ)

/-! ## Loads and stores of the device's own halves -/

theorem off5_eq (w : Dev nD) : k0_off5 (ywd w) = k0_off7 (ywd w) := by revert w; decide
theorem off6_eq (w : Dev nD) : k0_off6 (ywd w) = k0_off8 (ywd w) := by revert w; decide

/-- A load of the device's own half, its value whatever it is. -/
theorem wp_load_own1 (c : Dev nD) {α : Type} {Q : α → sProp 𝕄} {M : Memref sig .tc .vmem S16x16x1 .f32}
    {off : Fin 3 → ℕ} {inb : ∀ a, off a + S16x8x1.size a ≤ S16x16x1.size a}
    {hl : M.view.LoadsAt (Rect.unit (s := S16x16x1) off S16x8x1.size inb).toLoadRect}
    {k : (S16x8x1.Idx → Elt F .f32) → Prog (TpuEff nD τ sig (Elt F) Λ₀ .tc) α} (hoff : off = k0_off7 (ywd c))
    (f : Buf (Elt F) (M.view.loc (c : Thread nD τ))) :
    (vp (h1 M c) c fullShare f : sProp 𝕄)
      ⊢ iprop((∀ v, vp (h1 M c) c fullShare f -∗ wp frame (wpE (defs₀ (F := F)) 𝒱₀ (c : Thread nD τ) none) Set.univ (k v) Q)
        -∗ wp frame (wpE (defs₀ (F := F)) 𝒱₀ (c : Thread nD τ) none) Set.univ
            (.op (.load M (Rect.unit (s := S16x16x1) off S16x8x1.size inb).toLoadRect hl) k) Q) := by
  subst hoff
  unfold vp
  iintro H Hk
  iapply (wp_load_rect (defs := defs₀ (F := F)) 𝒱₀ (c : Thread nD τ) none Set.univ (m := M) (r := r7 c) (q := fullShare) (f := f)
    (S := (h1 M c).view.set) (Finset.Subset.refl _)) $$ H
  iintro H
  iapply Hk; iexact H
/-- A store to the device's own half of values `v`, read back from contents `g`. -/
theorem wp_store_own1 (c : Dev nD) {α : Type} {Q : α → sProp 𝕄} {M : Memref sig .tc .vmem S16x16x1 .f32}
    {off : Fin 3 → ℕ} {inb : ∀ a, off a + S16x8x1.size a ≤ S16x16x1.size a} {v : S16x8x1.Idx → Elt F .f32}
    {hx : (M.access (Rect.unit (s := S16x16x1) off S16x8x1.size inb)).Stores Finset.univ}
    {hm : (Finset.univ : Finset S16x8x1.Idx) = Finset.univ ∨ ∀ a, (Rect.unit (s := S16x16x1) off S16x8x1.size inb).stride a = 1}
    {k : PUnit → Prog (TpuEff nD τ sig (Elt F) Λ₀ .tc) α} (hoff : off = k0_off7 (ywd c))
    (f g : Buf (Elt F) (M.view.loc (c : Thread nD τ))) (hg : ∀ j, M.view.read (Elt F) g ((r7 c).emb j) = v j) :
    (vp (h1 M c) c fullShare f : sProp 𝕄)
      ⊢ iprop((vp (h1 M c) c fullShare g -∗ wp frame (wpE (defs₀ (F := F)) 𝒱₀ (c : Thread nD τ) none) Set.univ (k ⟨⟩) Q)
        -∗ wp frame (wpE (defs₀ (F := F)) 𝒱₀ (c : Thread nD τ) none) Set.univ
            (.op (.store M (Rect.unit (s := S16x16x1) off S16x8x1.size inb) v Finset.univ hx hm) k) Q) := by
  subst hoff
  rw [← land1 M c c f g v hg]
  unfold vp
  iintro H Hk
  iapply (wp_store (defs := defs₀ (F := F)) 𝒱₀ (c : Thread nD τ) none Set.univ (m := M) (r := r7 c) (w := v) (Mk := Finset.univ) (f := f)
    (S := (h1 M c).view.set) (Finset.Subset.refl _)) $$ H
  iintro H
  iapply Hk; iexact H

/-- A load of the device's own half, its value whatever it is. -/
theorem wp_load_own64 (c : Dev nD) {α : Type} {Q : α → sProp 𝕄} {M : Memref sig .tc .vmem S16x16x64 .f32}
    {off : Fin 3 → ℕ} {inb : ∀ a, off a + S16x8x64.size a ≤ S16x16x64.size a}
    {hl : M.view.LoadsAt (Rect.unit (s := S16x16x64) off S16x8x64.size inb).toLoadRect}
    {k : (S16x8x64.Idx → Elt F .f32) → Prog (TpuEff nD τ sig (Elt F) Λ₀ .tc) α} (hoff : off = k0_off8 (ywd c))
    (f : Buf (Elt F) (M.view.loc (c : Thread nD τ))) :
    (vp (h64 M c) c fullShare f : sProp 𝕄)
      ⊢ iprop((∀ v, vp (h64 M c) c fullShare f -∗ wp frame (wpE (defs₀ (F := F)) 𝒱₀ (c : Thread nD τ) none) Set.univ (k v) Q)
        -∗ wp frame (wpE (defs₀ (F := F)) 𝒱₀ (c : Thread nD τ) none) Set.univ
            (.op (.load M (Rect.unit (s := S16x16x64) off S16x8x64.size inb).toLoadRect hl) k) Q) := by
  subst hoff
  unfold vp
  iintro H Hk
  iapply (wp_load_rect (defs := defs₀ (F := F)) 𝒱₀ (c : Thread nD τ) none Set.univ (m := M) (r := r8 c) (q := fullShare) (f := f)
    (S := (h64 M c).view.set) (Finset.Subset.refl _)) $$ H
  iintro H
  iapply Hk; iexact H
/-- A store to the device's own half of values `v`, read back from contents `g`. -/
theorem wp_store_own64 (c : Dev nD) {α : Type} {Q : α → sProp 𝕄} {M : Memref sig .tc .vmem S16x16x64 .f32}
    {off : Fin 3 → ℕ} {inb : ∀ a, off a + S16x8x64.size a ≤ S16x16x64.size a} {v : S16x8x64.Idx → Elt F .f32}
    {hx : (M.access (Rect.unit (s := S16x16x64) off S16x8x64.size inb)).Stores Finset.univ}
    {hm : (Finset.univ : Finset S16x8x64.Idx) = Finset.univ ∨ ∀ a, (Rect.unit (s := S16x16x64) off S16x8x64.size inb).stride a = 1}
    {k : PUnit → Prog (TpuEff nD τ sig (Elt F) Λ₀ .tc) α} (hoff : off = k0_off8 (ywd c))
    (f g : Buf (Elt F) (M.view.loc (c : Thread nD τ))) (hg : ∀ j, M.view.read (Elt F) g ((r8 c).emb j) = v j) :
    (vp (h64 M c) c fullShare f : sProp 𝕄)
      ⊢ iprop((vp (h64 M c) c fullShare g -∗ wp frame (wpE (defs₀ (F := F)) 𝒱₀ (c : Thread nD τ) none) Set.univ (k ⟨⟩) Q)
        -∗ wp frame (wpE (defs₀ (F := F)) 𝒱₀ (c : Thread nD τ) none) Set.univ
            (.op (.store M (Rect.unit (s := S16x16x64) off S16x8x64.size inb) v Finset.univ hx hm) k) Q) := by
  subst hoff
  rw [← land64 M c c f g v hg]
  unfold vp
  iintro H Hk
  iapply (wp_store (defs := defs₀ (F := F)) 𝒱₀ (c : Thread nD τ) none Set.univ (m := M) (r := r8 c) (w := v) (Mk := Finset.univ) (f := f)
    (S := (h64 M c).view.set) (Finset.Subset.refl _)) $$ H
  iintro H
  iapply Hk; iexact H

/-- A store of the whole result buffer. -/
theorem wp_store_out (c : Dev nD) {α : Type} {Q : α → sProp 𝕄} {M : Memref sig .tc .vmem S16x1x16x64 .f32}
    {inb : ∀ a, ![0, 0, 0, 0] a + S16x1x16x64.size a ≤ S16x1x16x64.size a} {v : S16x1x16x64.Idx → Elt F .f32}
    {hx : (M.access (Rect.unit (s := S16x1x16x64) ![0, 0, 0, 0] S16x1x16x64.size inb)).Stores Finset.univ}
    {hm : (Finset.univ : Finset S16x1x16x64.Idx) = Finset.univ ∨ ∀ a, (Rect.unit (s := S16x1x16x64) ![0, 0, 0, 0] S16x1x16x64.size inb).stride a = 1}
    {k : PUnit → Prog (TpuEff nD τ sig (Elt F) Λ₀ .tc) α} (f : Buf (Elt F) (M.view.loc (c : Thread nD τ))) :
    (vp M c fullShare f : sProp 𝕄)
      ⊢ iprop((owns (c : Thread nD τ) M fullShare v -∗ wp frame (wpE (defs₀ (F := F)) 𝒱₀ (c : Thread nD τ) none) Set.univ (k ⟨⟩) Q)
        -∗ wp frame (wpE (defs₀ (F := F)) 𝒱₀ (c : Thread nD τ) none) Set.univ
            (.op (.store M (Rect.unit (s := S16x1x16x64) ![0, 0, 0, 0] S16x1x16x64.size inb) v Finset.univ hx hm) k) Q) := by
  unfold vp owns
  iintro H Hk
  iapply (wp_store (defs := defs₀ (F := F)) 𝒱₀ (c : Thread nD τ) none Set.univ (m := M)
    (r := Rect.unit (s := S16x1x16x64) ![0, 0, 0, 0] S16x1x16x64.size inb) (w := v) (Mk := Finset.univ) (f := f)
    (S := M.view.set) (View.set_slice_subset _ _)) $$ H
  iintro H
  iapply Hk
  iexists ((M.access (Rect.unit (s := S16x1x16x64) ![0, 0, 0, 0] S16x1x16x64.size inb)).write (Elt F) f v Finset.univ)
  isplitr
  · ipureintro
    funext j
    have hj : (Rect.unit (s := S16x1x16x64) ![0, 0, 0, 0] S16x1x16x64.size inb).emb j = j := funext fun a => Fin.ext (by
      rw [ValueKit.rect_emb_unit_val]
      match a with
      | 0 | 1 | 2 | 3 => exact Nat.zero_add _)
    rw [View.read_apply]
    conv_lhs => rw [← hj]
    erw [View.write_emb_of_mem _ _ (Finset.mem_univ j)]
    exact cast_cast _ _ _
  iexact H

/-! ## The semaphores and devices of the program -/

theorem bar_sem : (SemArray.scalar (sig.barrier 0 rfl) : Sems sig S_).sem = barS := rfl
theorem send_sem0 : ((cc0_scratch9.slice (Rect.unit (s := S9) ![0] ![1] inb_S9_S1_0)).squeeze S_ squeezes_S1_S_).sem = dsem 0 := rfl
theorem recv_sem0 : ((cc0_scratch10.slice (Rect.unit (s := S9) ![0] ![1] inb_S9_S1_0)).squeeze S_ squeezes_S1_S_).sem = dsem 9 := rfl
theorem send_sem1 : ((cc0_scratch9.slice (Rect.unit (s := S9) ![1] ![1] inb_S9_S1_1)).squeeze S_ squeezes_S1_S_).sem = dsem 1 := rfl
theorem recv_sem1 : ((cc0_scratch10.slice (Rect.unit (s := S9) ![1] ![1] inb_S9_S1_1)).squeeze S_ squeezes_S1_S_).sem = dsem 10 := rfl
theorem send_sem2 : ((cc0_scratch9.slice (Rect.unit (s := S9) ![2] ![1] inb_S9_S1_2)).squeeze S_ squeezes_S1_S_).sem = dsem 2 := rfl
theorem recv_sem2 : ((cc0_scratch10.slice (Rect.unit (s := S9) ![2] ![1] inb_S9_S1_2)).squeeze S_ squeezes_S1_S_).sem = dsem 11 := rfl
theorem send_sem3 : ((cc0_scratch9.slice (Rect.unit (s := S9) ![3] ![1] inb_S9_S1_3)).squeeze S_ squeezes_S1_S_).sem = dsem 3 := rfl
theorem recv_sem3 : ((cc0_scratch10.slice (Rect.unit (s := S9) ![3] ![1] inb_S9_S1_3)).squeeze S_ squeezes_S1_S_).sem = dsem 12 := rfl
theorem send_sem4 : ((cc0_scratch9.slice (Rect.unit (s := S9) ![4] ![1] inb_S9_S1_4)).squeeze S_ squeezes_S1_S_).sem = dsem 4 := rfl
theorem recv_sem4 : ((cc0_scratch10.slice (Rect.unit (s := S9) ![4] ![1] inb_S9_S1_4)).squeeze S_ squeezes_S1_S_).sem = dsem 13 := rfl
theorem send_sem5 : ((cc0_scratch9.slice (Rect.unit (s := S9) ![5] ![1] inb_S9_S1_5)).squeeze S_ squeezes_S1_S_).sem = dsem 5 := rfl
theorem recv_sem5 : ((cc0_scratch10.slice (Rect.unit (s := S9) ![5] ![1] inb_S9_S1_5)).squeeze S_ squeezes_S1_S_).sem = dsem 14 := rfl
theorem send_sem6 : ((cc0_scratch9.slice (Rect.unit (s := S9) ![6] ![1] inb_S9_S1_6)).squeeze S_ squeezes_S1_S_).sem = dsem 6 := rfl
theorem recv_sem6 : ((cc0_scratch10.slice (Rect.unit (s := S9) ![6] ![1] inb_S9_S1_6)).squeeze S_ squeezes_S1_S_).sem = dsem 15 := rfl
theorem send_sem7 : ((cc0_scratch9.slice (Rect.unit (s := S9) ![7] ![1] inb_S9_S1_7)).squeeze S_ squeezes_S1_S_).sem = dsem 7 := rfl
theorem recv_sem7 : ((cc0_scratch10.slice (Rect.unit (s := S9) ![7] ![1] inb_S9_S1_7)).squeeze S_ squeezes_S1_S_).sem = dsem 16 := rfl
theorem send_sem8 : ((cc0_scratch9.slice (Rect.unit (s := S9) ![8] ![1] inb_S9_S1_8)).squeeze S_ squeezes_S1_S_).sem = dsem 8 := rfl
theorem recv_sem8 : ((cc0_scratch10.slice (Rect.unit (s := S9) ![8] ![1] inb_S9_S1_8)).squeeze S_ squeezes_S1_S_).sem = dsem 17 := rfl
theorem dev1_eq (c : Dev nD) (h) : (⟨k0_dev1 c, h⟩ : Dev nD) = pr 1 c := Fin.ext (by show k0_dev1 c = _; revert c; decide +kernel)
theorem dev2_eq (c : Dev nD) (h) : (⟨k0_dev2 c, h⟩ : Dev nD) = pr 0 c := Fin.ext (by show k0_dev2 c = _; revert c; decide +kernel)
theorem dev3_eq (c : Dev nD) (h) : (⟨k0_dev3 c, h⟩ : Dev nD) = pr 2 c := Fin.ext (by show k0_dev3 c = _; revert c; decide +kernel)
theorem dev4_eq (c : Dev nD) (h) : (⟨k0_dev4 c, h⟩ : Dev nD) = pr 0 c := Fin.ext (by show k0_dev4 c = _; revert c; decide +kernel)
theorem dev5_eq (c : Dev nD) (h) : (⟨k0_dev5 c, h⟩ : Dev nD) = pr 0 c := Fin.ext (by show k0_dev5 c = _; revert c; decide +kernel)
theorem dev6_eq (c : Dev nD) (h) : (⟨k0_dev6 c, h⟩ : Dev nD) = pr 0 c := Fin.ext (by show k0_dev6 c = _; revert c; decide +kernel)
theorem dev7_eq (c : Dev nD) (h) : (⟨k0_dev7 c, h⟩ : Dev nD) = pr 1 c := Fin.ext (by show k0_dev7 c = _; revert c; decide +kernel)
theorem dev8_eq (c : Dev nD) (h) : (⟨k0_dev8 c, h⟩ : Dev nD) = pr 1 c := Fin.ext (by show k0_dev8 c = _; revert c; decide +kernel)
theorem dev9_eq (c : Dev nD) (h) : (⟨k0_dev9 c, h⟩ : Dev nD) = pr 1 c := Fin.ext (by show k0_dev9 c = _; revert c; decide +kernel)
theorem dev10_eq (c : Dev nD) (h) : (⟨k0_dev10 c, h⟩ : Dev nD) = pr 2 c := Fin.ext (by show k0_dev10 c = _; revert c; decide +kernel)
theorem dev11_eq (c : Dev nD) (h) : (⟨k0_dev11 c, h⟩ : Dev nD) = pr 2 c := Fin.ext (by show k0_dev11 c = _; revert c; decide +kernel)
theorem dev12_eq (c : Dev nD) (h) : (⟨k0_dev12 c, h⟩ : Dev nD) = pr 2 c := Fin.ext (by show k0_dev12 c = _; revert c; decide +kernel)

/-! ## What is handed over -/

theorem barPay_mk0 (c : Dev nD) :
    iprop(hand1 amM (pr 0 c) c ∗ hand1 alM (pr 0 c) c ∗ hand64 aoM (pr 0 c) c
      ∗ reached ER (dcell c 9) 0 ∗ reached ER (dcell c 10) 0 ∗ reached ER (dcell c 11) 0) ⊢ (barPay (pr 0 c) 0 : sProp 𝕄) := by
  unfold barPay; rw [pr_pr]
theorem barPay_mk1 (c : Dev nD) :
    iprop(hand1 rmM (pr 1 c) c ∗ hand1 rlM (pr 1 c) c ∗ hand64 roM (pr 1 c) c
      ∗ reached ER (dcell c 12) 0 ∗ reached ER (dcell c 13) 0 ∗ reached ER (dcell c 14) 0) ⊢ (barPay (pr 1 c) 1 : sProp 𝕄) := by
  unfold barPay; rw [pr_pr]
theorem barPay_mk2 (c : Dev nD) :
    iprop(hand1 rmM (pr 2 c) c ∗ hand1 rlM (pr 2 c) c ∗ hand64 roM (pr 2 c) c
      ∗ reached ER (dcell c 15) 0 ∗ reached ER (dcell c 16) 0 ∗ reached ER (dcell c 17) 0) ⊢ (barPay (pr 2 c) 2 : sProp 𝕄) := by
  unfold barPay; rw [pr_pr]

/-- The gathered contents of a statistics buffer of the partner `p`, at the block of its partner. -/
theorem vp_pr1 (M : Memref sig .tc .vmem S16x16x1 .f32) (p w w' : Dev nD) (h : w = w') (f f' : Buf (Elt F) (M.view.loc (p : Thread nD τ))) (hf : f = f') :
    (vp (h1 M w) p fullShare f : sProp 𝕄) = vp (h1 M w') p fullShare f' := by subst h hf; rfl
theorem vp_pr64 (M : Memref sig .tc .vmem S16x16x64 .f32) (p w w' : Dev nD) (h : w = w') (f f' : Buf (Elt F) (M.view.loc (p : Thread nD τ))) (hf : f = f') :
    (vp (h64 M w) p fullShare f : sProp 𝕄) = vp (h64 M w') p fullShare f' := by subst h hf; rfl
theorem fl_xo_pr1 (c : Dev nD) : fl (xo (pr 1 c)) = xo c := by rw [xo_pr1, fl_fl]
theorem fl_xo_pr2 (c : Dev nD) : fl (xo (pr 2 c)) = xo c := by rw [xo_pr2, fl_fl]

/-- Copy 0 lands as the partner's cell 9 pays. -/
theorem lands0 (c : Dev nD) (fd : Buf (Elt F) (amM.view.loc (pr 0 c : Thread nD τ))) :
    (((h1 amM c).view.loc (pr 0 c : Thread nD τ) ↦[(h1 amM c).view.set]{fullShare}
        ((h1 amM c).view.write (Elt F) fd (pmM.view.read (Elt F) (P.m c)) Finset.univ)) : sProp 𝕄) = dmaPay P (pr 0 c) 9 :=
  (land1 amM (pr 0 c) c fd (gath P.m (xo (pr 0 c))) _ fun j => gath_emb7 P.m c _ (xo_pr0 c) j).trans
    (vp_pr1 amM (pr 0 c) c (pr 0 (pr 0 c)) (pr_pr 0 c).symm _ _ rfl)
/-- Copy 1 lands as the partner's cell 10 pays. -/
theorem lands1 (c : Dev nD) (fd : Buf (Elt F) (alM.view.loc (pr 0 c : Thread nD τ))) :
    (((h1 alM c).view.loc (pr 0 c : Thread nD τ) ↦[(h1 alM c).view.set]{fullShare}
        ((h1 alM c).view.write (Elt F) fd (plM.view.read (Elt F) (P.l c)) Finset.univ)) : sProp 𝕄) = dmaPay P (pr 0 c) 10 :=
  (land1 alM (pr 0 c) c fd (gath P.l (xo (pr 0 c))) _ fun j => gath_emb7 P.l c _ (xo_pr0 c) j).trans
    (vp_pr1 alM (pr 0 c) c (pr 0 (pr 0 c)) (pr_pr 0 c).symm _ _ rfl)
/-- Copy 2 lands as the partner's cell 11 pays. -/
theorem lands2 (c : Dev nD) (fd : Buf (Elt F) (aoM.view.loc (pr 0 c : Thread nD τ))) :
    (((h64 aoM c).view.loc (pr 0 c : Thread nD τ) ↦[(h64 aoM c).view.set]{fullShare}
        ((h64 aoM c).view.write (Elt F) fd (poM.view.read (Elt F) (P.o c)) Finset.univ)) : sProp 𝕄) = dmaPay P (pr 0 c) 11 :=
  (land64 aoM (pr 0 c) c fd (gath P.o (xo (pr 0 c))) _ fun j => gath_emb8 P.o c _ (xo_pr0 c) j).trans
    (vp_pr64 aoM (pr 0 c) c (pr 0 (pr 0 c)) (pr_pr 0 c).symm _ _ rfl)
/-- Copy 3 lands as the partner's cell 12 pays. -/
theorem lands3 (c : Dev nD) (fd : Buf (Elt F) (rmM.view.loc (pr 1 c : Thread nD τ))) :
    (((h1 rmM c).view.loc (pr 1 c : Thread nD τ) ↦[(h1 rmM c).view.set]{fullShare}
        ((h1 rmM c).view.write (Elt F) fd (pmM.view.read (Elt F) (P.m c)) Finset.univ)) : sProp 𝕄) = dmaPay P (pr 1 c) 12 :=
  (land1 rmM (pr 1 c) c fd (gath P.m (fl (xo (pr 1 c)))) _ fun j => gath_emb7 P.m c _ (fl_xo_pr1 c) j).trans
    (vp_pr1 rmM (pr 1 c) c (pr 1 (pr 1 c)) (pr_pr 1 c).symm _ _ rfl)
/-- Copy 4 lands as the partner's cell 13 pays. -/
theorem lands4 (c : Dev nD) (fd : Buf (Elt F) (rlM.view.loc (pr 1 c : Thread nD τ))) :
    (((h1 rlM c).view.loc (pr 1 c : Thread nD τ) ↦[(h1 rlM c).view.set]{fullShare}
        ((h1 rlM c).view.write (Elt F) fd (plM.view.read (Elt F) (P.l c)) Finset.univ)) : sProp 𝕄) = dmaPay P (pr 1 c) 13 :=
  (land1 rlM (pr 1 c) c fd (gath P.l (fl (xo (pr 1 c)))) _ fun j => gath_emb7 P.l c _ (fl_xo_pr1 c) j).trans
    (vp_pr1 rlM (pr 1 c) c (pr 1 (pr 1 c)) (pr_pr 1 c).symm _ _ rfl)
/-- Copy 5 lands as the partner's cell 14 pays. -/
theorem lands5 (c : Dev nD) (fd : Buf (Elt F) (roM.view.loc (pr 1 c : Thread nD τ))) :
    (((h64 roM c).view.loc (pr 1 c : Thread nD τ) ↦[(h64 roM c).view.set]{fullShare}
        ((h64 roM c).view.write (Elt F) fd (poM.view.read (Elt F) (P.o c)) Finset.univ)) : sProp 𝕄) = dmaPay P (pr 1 c) 14 :=
  (land64 roM (pr 1 c) c fd (gath P.o (fl (xo (pr 1 c)))) _ fun j => gath_emb8 P.o c _ (fl_xo_pr1 c) j).trans
    (vp_pr64 roM (pr 1 c) c (pr 1 (pr 1 c)) (pr_pr 1 c).symm _ _ rfl)
/-- Copy 6 lands as the partner's cell 15 pays. -/
theorem lands6 (c : Dev nD) (fd : Buf (Elt F) (rmM.view.loc (pr 2 c : Thread nD τ))) :
    (((h1 rmM c).view.loc (pr 2 c : Thread nD τ) ↦[(h1 rmM c).view.set]{fullShare}
        ((h1 rmM c).view.write (Elt F) fd (pmM.view.read (Elt F) (P.m c)) Finset.univ)) : sProp 𝕄) = dmaPay P (pr 2 c) 15 :=
  (land1 rmM (pr 2 c) c fd (gath P.m (fl (xo (pr 2 c)))) _ fun j => gath_emb7 P.m c _ (fl_xo_pr2 c) j).trans
    (vp_pr1 rmM (pr 2 c) c (pr 2 (pr 2 c)) (pr_pr 2 c).symm _ _ rfl)
/-- Copy 7 lands as the partner's cell 16 pays. -/
theorem lands7 (c : Dev nD) (fd : Buf (Elt F) (rlM.view.loc (pr 2 c : Thread nD τ))) :
    (((h1 rlM c).view.loc (pr 2 c : Thread nD τ) ↦[(h1 rlM c).view.set]{fullShare}
        ((h1 rlM c).view.write (Elt F) fd (plM.view.read (Elt F) (P.l c)) Finset.univ)) : sProp 𝕄) = dmaPay P (pr 2 c) 16 :=
  (land1 rlM (pr 2 c) c fd (gath P.l (fl (xo (pr 2 c)))) _ fun j => gath_emb7 P.l c _ (fl_xo_pr2 c) j).trans
    (vp_pr1 rlM (pr 2 c) c (pr 2 (pr 2 c)) (pr_pr 2 c).symm _ _ rfl)
/-- Copy 8 lands as the partner's cell 17 pays. -/
theorem lands8 (c : Dev nD) (fd : Buf (Elt F) (roM.view.loc (pr 2 c : Thread nD τ))) :
    (((h64 roM c).view.loc (pr 2 c : Thread nD τ) ↦[(h64 roM c).view.set]{fullShare}
        ((h64 roM c).view.write (Elt F) fd (poM.view.read (Elt F) (P.o c)) Finset.univ)) : sProp 𝕄) = dmaPay P (pr 2 c) 17 :=
  (land64 roM (pr 2 c) c fd (gath P.o (fl (xo (pr 2 c)))) _ fun j => gath_emb8 P.o c _ (fl_xo_pr2 c) j).trans
    (vp_pr64 roM (pr 2 c) c (pr 2 (pr 2 c)) (pr_pr 2 c).symm _ _ rfl)
/-- The device's own half of the gathered contents is its own partial results. -/
theorem own_reads0 (c : Dev nD) (j) : amM.view.read (Elt F) (gath P.m (xo c)) ((r7 c).emb j) = k0_pay4 (pmM.view.read (Elt F) (P.m c)) j :=
  (gath_emb7 P.m c _ rfl j).trans (congrFun (shapeCast_self (P.m c) _).symm j)
/-- The device's own half of the gathered contents is its own partial results. -/
theorem own_reads1 (c : Dev nD) (j) : alM.view.read (Elt F) (gath P.l (xo c)) ((r7 c).emb j) = k0_pay5 (plM.view.read (Elt F) (P.l c)) j :=
  (gath_emb7 P.l c _ rfl j).trans (congrFun (shapeCast_self (P.l c) _).symm j)
/-- The device's own half of the gathered contents is its own partial results. -/
theorem own_reads2 (c : Dev nD) (j) : aoM.view.read (Elt F) (gath P.o (xo c)) ((r8 c).emb j) = k0_pay6 (poM.view.read (Elt F) (P.o c)) j :=
  (gath_emb8 P.o c _ rfl j).trans (congrFun (shapeCast_self (P.o c) _).symm j)
/-- The device's own half and the half its partner sent make the whole buffer. -/
theorem join_am (c : Dev nD) : iprop(vp (h1 amM c) c fullShare (gath P.m (xo c)) ∗ dmaPay P c ((9 : Fin 18) : ℕ)) ⊢ (vp amM c fullShare (gath P.m (xo c)) : sProp 𝕄) :=
  (vp_halves1 amM c (yo_pr0 c) (gath P.m (xo c))).2
/-- The halves the other two partners sent make the whole buffer. -/
theorem join_rm (c : Dev nD) : iprop(dmaPay P c ((12 : Fin 18) : ℕ) ∗ dmaPay P c ((15 : Fin 18) : ℕ)) ⊢ (vp rmM c fullShare (gath P.m (fl (xo c))) : sProp 𝕄) :=
  (vp_halves1 rmM c (w := pr 1 c) (w' := pr 2 c) (by rw [yo_pr1, yo_pr2]) (gath P.m (fl (xo c)))).2
/-- The device's own half and the half its partner sent make the whole buffer. -/
theorem join_al (c : Dev nD) : iprop(vp (h1 alM c) c fullShare (gath P.l (xo c)) ∗ dmaPay P c ((10 : Fin 18) : ℕ)) ⊢ (vp alM c fullShare (gath P.l (xo c)) : sProp 𝕄) :=
  (vp_halves1 alM c (yo_pr0 c) (gath P.l (xo c))).2
/-- The halves the other two partners sent make the whole buffer. -/
theorem join_rl (c : Dev nD) : iprop(dmaPay P c ((13 : Fin 18) : ℕ) ∗ dmaPay P c ((16 : Fin 18) : ℕ)) ⊢ (vp rlM c fullShare (gath P.l (fl (xo c))) : sProp 𝕄) :=
  (vp_halves1 rlM c (w := pr 1 c) (w' := pr 2 c) (by rw [yo_pr1, yo_pr2]) (gath P.l (fl (xo c)))).2
/-- The device's own half and the half its partner sent make the whole buffer. -/
theorem join_ao (c : Dev nD) : iprop(vp (h64 aoM c) c fullShare (gath P.o (xo c)) ∗ dmaPay P c ((11 : Fin 18) : ℕ)) ⊢ (vp aoM c fullShare (gath P.o (xo c)) : sProp 𝕄) :=
  (vp_halves64 aoM c (yo_pr0 c) (gath P.o (xo c))).2
/-- The halves the other two partners sent make the whole buffer. -/
theorem join_ro (c : Dev nD) : iprop(dmaPay P c ((14 : Fin 18) : ℕ) ∗ dmaPay P c ((17 : Fin 18) : ℕ)) ⊢ (vp roM c fullShare (gath P.o (fl (xo c))) : sProp 𝕄) :=
  (vp_halves64 roM c (w := pr 1 c) (w' := pr 2 c) (by rw [yo_pr1, yo_pr2]) (gath P.o (fl (xo c)))).2
/-- The thirds the copies gave back make the whole buffer. -/
theorem join_pm (c : Dev nD) : iprop(dmaPay P c 0 ∗ dmaPay P c 3 ∗ dmaPay P c 6) ⊢ (vp pmM c fullShare (P.m c) : sProp 𝕄) :=
  (vp_thirds pmM c (P.m c)).2
/-- The thirds the copies gave back make the whole buffer. -/
theorem join_pl (c : Dev nD) : iprop(dmaPay P c 1 ∗ dmaPay P c 4 ∗ dmaPay P c 7) ⊢ (vp plM c fullShare (P.l c) : sProp 𝕄) :=
  (vp_thirds plM c (P.l c)).2
/-- The thirds the copies gave back make the whole buffer. -/
theorem join_po (c : Dev nD) : iprop(dmaPay P c 2 ∗ dmaPay P c 5 ∗ dmaPay P c 8) ⊢ (vp poM c fullShare (P.o c) : sProp 𝕄) :=
  (vp_thirds poM c (P.o c)).2
end Cert.KernelIdeal.Talk
-- ==== Proof.TalkParts.lean ====
/- The exchange run part by part at one symbolic device, then as a whole. -/
module

public import proofs.«01_k».proof.Proof.Talk

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (P : Parts F) (K : GSem nD τ sig → ℕ)

set_option maxHeartbeats 1000000 in
/-- Part 1 of the exchange: the signals, the wait for the partners, and the first loads. -/
theorem part1_run (c : Dev nD) (i : grid0.Coords) (arg2 : Memref sig .tc .vmem S2x1x16x64 .f32) (harg2 : arg2.IsWhole) (arg3 : Memref sig .tc .vmem S2x8x64x1024 .f32) (harg3 : arg3.IsWhole)
    (arg4 : Memref sig .tc .vmem S2x8x64x1024 .f32) (harg4 : arg4.IsWhole) (arg5 : Memref sig .tc .vmem S16x1x16x64 .f32) (harg5 : arg5.IsWhole)
    (k0_hw1 : k0_chk1 i (ywd c)) (v1 : BitVec 32) (k0_h1 : k0_cond1 i = 1#1) (Φ : _ → sProp 𝕄) :
    iprop(ow c (sendO c 9 + oweB c 2 + oweB c 0 + oweB c 1)
      ∗ invs P K
      ∗ dutyTok ER (barCell (pr 1 c)) 0 1
      ∗ barPay (pr 1 c) 1
      ∗ reached ER (barCell (pr 1 c)) 0
      ∗ dutyTok ER (barCell (pr 0 c)) 0 0
      ∗ barPay (pr 0 c) 0
      ∗ reached ER (barCell (pr 0 c)) 0
      ∗ dutyTok ER (barCell (pr 2 c)) 0 2
      ∗ barPay (pr 2 c) 2
      ∗ reached ER (barCell (pr 2 c)) 0
      ∗ levAts L lv
      ∗ cred (tallyAt (barCell c) () 3)
      ∗ atPos ER (barCell c) 0 ∅ 0
      ∗ vp pmM c fullShare (P.m c)
      ∗ (∃ f, vp (h1 amM c) c fullShare f)
      ∗ (∀ v239 v242 v243 v244 v245 v246, (ow c (sendO c 9)
        ∗ semVal (barCell c) 0
        ∗ barPay c 0
        ∗ barPay c 1
        ∗ barPay c 2
        ∗ vp pmM c fullShare (P.m c)
        ∗ (∃ f, vp (h1 amM c) c fullShare f)) -∗ Φ ⟨c, v239, v242, v243, v244, v245, v246, k0_pay4 (pmM.view.read (Elt F) (P.m c))⟩))
      ⊢ wp frame (wpE (defs₀ (F := F)) 𝒱₀ (c : Thread nD τ) none) Set.univ
          (k0_part1 (F := F) i (Memref.whole main_v7) (Memref.isWhole_whole _) arg2 harg2 arg3 harg3 arg4 harg4 arg5 harg5 pmM (Memref.isWhole_whole _) plM (Memref.isWhole_whole _) poM (Memref.isWhole_whole _) amM (Memref.isWhole_whole _) alM (Memref.isWhole_whole _) aoM (Memref.isWhole_whole _) rmM (Memref.isWhole_whole _) rlM (Memref.isWhole_whole _) roM (Memref.isWhole_whole _) cc0_scratch9 cc0_scratch10 (ywd c) k0_hw1 v1 k0_h1) Φ := by
  rw [k0_part1_eq_skeleton]
  unfold k0_part1_skel
  simp only [semSignalWord, semWaitWord, Prog.lift, Prog.bind_op, Prog.bind_ret, Prog.pure_eq_ret, Prog.bind_assoc, wp_deviceId]
  simp only [bar_sem, dev1_eq c, dev2_eq c, dev3_eq c]
  iintro ⟨HO, #HI, HtB1, Hg1, #HrB1, HtB0, Hg0, #HrB0, HtB2, Hg2, #HrB2, #Hl, HcB, HatB, Hpm, HamAq, Hk⟩
  iapply (wp_sig P K c 1 (sendO c 9 + oweB c 2 + oweB c 0)) $$ [HO HtB1 Hg1]
  · isplitr; · iexact HI
    isplitl [HO]; · iexact HO
    isplitl [HtB1]; · iexact HtB1
    isplitl [Hg1]; · iexact Hg1
    iexact HrB1
  iintro HO
  iapply (wp_sig P K c 0 (sendO c 9 + oweB c 2)) $$ [HO HtB0 Hg0]
  · isplitr; · iexact HI
    isplitl [HO]; · iexact HO
    isplitl [HtB0]; · iexact HtB0
    isplitl [Hg0]; · iexact Hg0
    iexact HrB0
  iintro HO
  iapply (wp_sig P K c 2 (sendO c 9)) $$ [HO HtB2 Hg2]
  · isplitr; · iexact HI
    isplitl [HO]; · iexact HO
    isplitl [HtB2]; · iexact HtB2
    isplitl [Hg2]; · iexact Hg2
    iexact HrB2
  iintro HO
  iapply (wp_bar P K c) $$ [HcB HO HatB]
  · isplitr; · iexact HI
    isplitr; · iexact Hl
    isplitl [HcB]; · iexact HcB
    isplitl [HO]; · iexact HO
    iexact HatB
  iintro ⟨HO, HzB, Hb0, Hb1, Hb2⟩
  iapply (wp_load_full c) $$ Hpm; iintro Hpm
  icases HamAq with ⟨%fam, HamA⟩
  iapply (wp_load_own1 c (off5_eq c) fam) $$ HamA; iintro %vam HamA
  rw [wp_ret]; imodintro
  iapply Hk
  isplitl [HO]; · iexact HO
  isplitl [HzB]; · iexact HzB
  isplitl [Hb0]; · iexact Hb0
  isplitl [Hb1]; · iexact Hb1
  isplitl [Hb2]; · iexact Hb2
  isplitl [Hpm]; · iexact Hpm
  iexists _; iexact HamA

set_option maxHeartbeats 1000000 in
/-- Part 2 of the exchange: the own halves are copied and the first two copies start. -/
theorem part2_run (c : Dev nD) (i : grid0.Coords) (arg2 : Memref sig .tc .vmem S2x1x16x64 .f32) (harg2 : arg2.IsWhole) (arg3 : Memref sig .tc .vmem S2x8x64x1024 .f32) (harg3 : arg3.IsWhole)
    (arg4 : Memref sig .tc .vmem S2x8x64x1024 .f32) (harg4 : arg4.IsWhole) (arg5 : Memref sig .tc .vmem S16x1x16x64 .f32) (harg5 : arg5.IsWhole)
    (k0_hw1 : k0_chk1 i (ywd c)) (v1 : BitVec 32) (k0_h1 : k0_cond1 i = 1#1) (v239 : BitVec 32) (v244 : BitVec 32) (Φ : _ → sProp 𝕄) :
    iprop(ow c (sendO c 9)
      ∗ (∃ f, vp (h1 amM c) c fullShare f)
      ∗ vp plM c fullShare (P.l c)
      ∗ (∃ f, vp (h1 alM c) c fullShare f)
      ∗ vp poM c fullShare (P.o c)
      ∗ (∃ f, vp (h64 aoM c) c fullShare f)
      ∗ vp pmM c fullShare (P.m c)
      ∗ invs P K
      ∗ (∃ f, vp (h1 amM c) (pr 0 c) fullShare f)
      ∗ dutyTok ER (dcell c 0) 0 0
      ∗ reached ER (dcell c 0) 0
      ∗ dutyTok ER (dcell (pr 0 c) 9) 0 0
      ∗ reached ER (dcell (pr 0 c) 9) 0
      ∗ (∃ f, vp (h1 alM c) (pr 0 c) fullShare f)
      ∗ dutyTok ER (dcell c 1) 0 0
      ∗ reached ER (dcell c 1) 0
      ∗ dutyTok ER (dcell (pr 0 c) 10) 0 0
      ∗ reached ER (dcell (pr 0 c) 10) 0
      ∗ (∀ z, (ow c (sendO c 7)
        ∗ vp (h1 amM c) c fullShare (gath P.m (xo c))
        ∗ vp (h1 alM c) c fullShare (gath P.l (xo c))
        ∗ vp poM c fullShare (P.o c)
        ∗ vp (h64 aoM c) c fullShare (gath P.o (xo c))
        ∗ vp pmM c q2 (P.m c)
        ∗ vp pmM c q3 (P.m c)
        ∗ vp plM c q2 (P.l c)
        ∗ vp plM c q3 (P.l c)
        ∗ cred (tallyAt (dcell c 0) () (NN 0))
        ∗ cred (tallyAt (dcell c 1) () (NN 1))) -∗ Φ z))
      ⊢ wp frame (wpE (defs₀ (F := F)) 𝒱₀ (c : Thread nD τ) none) Set.univ
          (k0_part2 (F := F) i (Memref.whole main_v7) (Memref.isWhole_whole _) arg2 harg2 arg3 harg3 arg4 harg4 arg5 harg5 pmM (Memref.isWhole_whole _) plM (Memref.isWhole_whole _) poM (Memref.isWhole_whole _) amM (Memref.isWhole_whole _) alM (Memref.isWhole_whole _) aoM (Memref.isWhole_whole _) rmM (Memref.isWhole_whole _) rlM (Memref.isWhole_whole _) roM (Memref.isWhole_whole _) cc0_scratch9 cc0_scratch10 (ywd c) k0_hw1 v1 k0_h1 c v239 v244 (k0_pay4 (pmM.view.read (Elt F) (P.m c)))) Φ := by
  rw [k0_part2_eq_skeleton]
  unfold k0_part2_skel
  simp only [semSignalWord, semWaitWord, Prog.lift, Prog.bind_op, Prog.bind_ret, Prog.pure_eq_ret, Prog.bind_assoc, wp_deviceId]
  simp only [send_sem0, send_sem1, recv_sem0, recv_sem1]
  iintro ⟨HO, HamAq, Hpl, HalAq, Hpo, HaoAq, Hpm, #HI, Hd0, HtS0, #Hr0, HtR0, #HrR0, Hd1, HtS1, #Hr1, HtR1, #HrR1, Hk⟩
  icases HamAq with ⟨%fam, HamA⟩
  iapply (wp_store_own1 c (M := amM) (v := k0_pay4 (pmM.view.read (Elt F) (P.m c))) (off5_eq c) fam (gath P.m (xo c)) (own_reads0 P c)) $$ HamA; iintro HamA
  iapply (wp_load_full c) $$ Hpl; iintro Hpl
  icases HalAq with ⟨%fal, HalA⟩
  iapply (wp_load_own1 c (off5_eq c) fal) $$ HalA; iintro %val HalA
  iapply (wp_store_own1 c (M := alM) (v := k0_pay5 (plM.view.read (Elt F) (P.l c))) (off5_eq c) fal (gath P.l (xo c)) (own_reads1 P c)) $$ HalA; iintro HalA
  iapply (wp_load_full c) $$ Hpo; iintro Hpo
  icases HaoAq with ⟨%fao, HaoA⟩
  iapply (wp_load_own64 c (off6_eq c) fao) $$ HaoA; iintro %vao HaoA
  iapply (wp_store_own64 c (M := aoM) (v := k0_pay6 (poM.view.read (Elt F) (P.o c))) (off6_eq c) fao (gath P.o (xo c)) (own_reads2 P c)) $$ HaoA; iintro HaoA
  ihave Hpm' := (vp_thirds pmM c (P.m c)).1 $$ Hpm
  icases Hpm' with ⟨Hpm1, Hpm2, Hpm3⟩
  ihave Hpl' := (vp_thirds plM c (P.l c)).1 $$ Hpl
  icases Hpl' with ⟨Hpl1, Hpl2, Hpl3⟩
  icases Hd0 with ⟨%fd0, Hd0⟩
  iapply (wp_copy_to P K c 0 0 9 (dev4_eq c _) (src := pmM) (dst := h1 amM c) rfl rfl q1 (P.m c) fd0 rfl (lands0 P c fd0)
    (sendO c 8) (sendO c 9) rfl) $$ [Hpm1 Hd0 HO HtS0 HtR0]
  · isplitr; · iexact HI
    isplitl [Hpm1]; · iexact Hpm1
    isplitl [Hd0]; · iexact Hd0
    isplitl [HO]; · iexact HO
    isplitl [HtS0]; · iexact HtS0
    isplitr; · iexact Hr0
    isplitl [HtR0]; · iexact HtR0
    iexact HrR0
  iintro ⟨HcS0, HO⟩
  icases Hd1 with ⟨%fd1, Hd1⟩
  iapply (wp_copy_to P K c 0 1 10 (dev5_eq c _) (src := plM) (dst := h1 alM c) rfl rfl q1 (P.l c) fd1 rfl (lands1 P c fd1)
    (sendO c 7) (sendO c 8) rfl) $$ [Hpl1 Hd1 HO HtS1 HtR1]
  · isplitr; · iexact HI
    isplitl [Hpl1]; · iexact Hpl1
    isplitl [Hd1]; · iexact Hd1
    isplitl [HO]; · iexact HO
    isplitl [HtS1]; · iexact HtS1
    isplitr; · iexact Hr1
    isplitl [HtR1]; · iexact HtR1
    iexact HrR1
  iintro ⟨HcS1, HO⟩
  rw [wp_ret]; imodintro
  iapply Hk
  isplitl [HO]; · iexact HO
  isplitl [HamA]; · iexact HamA
  isplitl [HalA]; · iexact HalA
  isplitl [Hpo]; · iexact Hpo
  isplitl [HaoA]; · iexact HaoA
  isplitl [Hpm2]; · iexact Hpm2
  isplitl [Hpm3]; · iexact Hpm3
  isplitl [Hpl2]; · iexact Hpl2
  isplitl [Hpl3]; · iexact Hpl3
  isplitl [HcS0]; · iexact HcS0
  iexact HcS1

set_option maxHeartbeats 1000000 in
/-- Part 3 of the exchange: three more copies start. -/
theorem part3_run (c : Dev nD) (i : grid0.Coords) (arg2 : Memref sig .tc .vmem S2x1x16x64 .f32) (harg2 : arg2.IsWhole) (arg3 : Memref sig .tc .vmem S2x8x64x1024 .f32) (harg3 : arg3.IsWhole)
    (arg4 : Memref sig .tc .vmem S2x8x64x1024 .f32) (harg4 : arg4.IsWhole) (arg5 : Memref sig .tc .vmem S16x1x16x64 .f32) (harg5 : arg5.IsWhole)
    (k0_hw1 : k0_chk1 i (ywd c)) (k0_h1 : k0_cond1 i = 1#1) (v239 : BitVec 32) (v242 : BitVec 32) (v243 : BitVec 32) (v244 : BitVec 32) (c2 : BitVec 32) (Φ : _ → sProp 𝕄) :
    iprop(ow c (sendO c 7)
      ∗ invs P K
      ∗ vp poM c q1 (P.o c)
      ∗ (∃ f, vp (h64 aoM c) (pr 0 c) fullShare f)
      ∗ dutyTok ER (dcell c 2) 0 0
      ∗ reached ER (dcell c 2) 0
      ∗ dutyTok ER (dcell (pr 0 c) 11) 0 0
      ∗ reached ER (dcell (pr 0 c) 11) 0
      ∗ vp pmM c q2 (P.m c)
      ∗ (∃ f, vp (h1 rmM c) (pr 1 c) fullShare f)
      ∗ dutyTok ER (dcell c 3) 0 0
      ∗ reached ER (dcell c 3) 0
      ∗ dutyTok ER (dcell (pr 1 c) 12) 0 0
      ∗ reached ER (dcell (pr 1 c) 12) 0
      ∗ vp plM c q2 (P.l c)
      ∗ (∃ f, vp (h1 rlM c) (pr 1 c) fullShare f)
      ∗ dutyTok ER (dcell c 4) 0 0
      ∗ reached ER (dcell c 4) 0
      ∗ dutyTok ER (dcell (pr 1 c) 13) 0 0
      ∗ reached ER (dcell (pr 1 c) 13) 0
      ∗ ((ow c (sendO c 4)
        ∗ cred (tallyAt (dcell c 2) () (NN 2))
        ∗ cred (tallyAt (dcell c 3) () (NN 3))
        ∗ cred (tallyAt (dcell c 4) () (NN 4))) -∗ Φ ⟨⟩))
      ⊢ wp frame (wpE (defs₀ (F := F)) 𝒱₀ (c : Thread nD τ) none) Set.univ
          (k0_part3 (F := F) i (Memref.whole main_v7) (Memref.isWhole_whole _) arg2 harg2 arg3 harg3 arg4 harg4 arg5 harg5 pmM (Memref.isWhole_whole _) plM (Memref.isWhole_whole _) poM (Memref.isWhole_whole _) amM (Memref.isWhole_whole _) alM (Memref.isWhole_whole _) aoM (Memref.isWhole_whole _) rmM (Memref.isWhole_whole _) rlM (Memref.isWhole_whole _) roM (Memref.isWhole_whole _) cc0_scratch9 cc0_scratch10 (ywd c) k0_hw1 k0_h1 c v239 v242 v243 v244 c2) Φ := by
  rw [k0_part3_eq_skeleton]
  unfold k0_part3_skel
  simp only [semSignalWord, semWaitWord, Prog.lift, Prog.bind_op, Prog.bind_ret, Prog.pure_eq_ret, Prog.bind_assoc, wp_deviceId]
  simp only [send_sem2, send_sem3, send_sem4, recv_sem2, recv_sem3, recv_sem4]
  iintro ⟨HO, #HI, Hpo1, Hd2, HtS2, #Hr2, HtR2, #HrR2, Hpm2, Hd3, HtS3, #Hr3, HtR3, #HrR3, Hpl2, Hd4, HtS4, #Hr4, HtR4, #HrR4, Hk⟩
  icases Hd2 with ⟨%fd2, Hd2⟩
  iapply (wp_copy_to P K c 0 2 11 (dev6_eq c _) (src := poM) (dst := h64 aoM c) rfl rfl q1 (P.o c) fd2 rfl (lands2 P c fd2)
    (sendO c 6) (sendO c 7) rfl) $$ [Hpo1 Hd2 HO HtS2 HtR2]
  · isplitr; · iexact HI
    isplitl [Hpo1]; · iexact Hpo1
    isplitl [Hd2]; · iexact Hd2
    isplitl [HO]; · iexact HO
    isplitl [HtS2]; · iexact HtS2
    isplitr; · iexact Hr2
    isplitl [HtR2]; · iexact HtR2
    iexact HrR2
  iintro ⟨HcS2, HO⟩
  icases Hd3 with ⟨%fd3, Hd3⟩
  iapply (wp_copy_to P K c 1 3 12 (dev7_eq c _) (src := pmM) (dst := h1 rmM c) rfl rfl q2 (P.m c) fd3 rfl (lands3 P c fd3)
    (sendO c 5) (sendO c 6) rfl) $$ [Hpm2 Hd3 HO HtS3 HtR3]
  · isplitr; · iexact HI
    isplitl [Hpm2]; · iexact Hpm2
    isplitl [Hd3]; · iexact Hd3
    isplitl [HO]; · iexact HO
    isplitl [HtS3]; · iexact HtS3
    isplitr; · iexact Hr3
    isplitl [HtR3]; · iexact HtR3
    iexact HrR3
  iintro ⟨HcS3, HO⟩
  icases Hd4 with ⟨%fd4, Hd4⟩
  iapply (wp_copy_to P K c 1 4 13 (dev8_eq c _) (src := plM) (dst := h1 rlM c) rfl rfl q2 (P.l c) fd4 rfl (lands4 P c fd4)
    (sendO c 4) (sendO c 5) rfl) $$ [Hpl2 Hd4 HO HtS4 HtR4]
  · isplitr; · iexact HI
    isplitl [Hpl2]; · iexact Hpl2
    isplitl [Hd4]; · iexact Hd4
    isplitl [HO]; · iexact HO
    isplitl [HtS4]; · iexact HtS4
    isplitr; · iexact Hr4
    isplitl [HtR4]; · iexact HtR4
    iexact HrR4
  iintro ⟨HcS4, HO⟩
  rw [wp_ret]; imodintro
  iapply Hk
  isplitl [HO]; · iexact HO
  isplitl [HcS2]; · iexact HcS2
  isplitl [HcS3]; · iexact HcS3
  iexact HcS4

set_option maxHeartbeats 1000000 in
/-- Part 4 of the exchange: the last four copies start. -/
theorem part4_run (c : Dev nD) (i : grid0.Coords) (arg2 : Memref sig .tc .vmem S2x1x16x64 .f32) (harg2 : arg2.IsWhole) (arg3 : Memref sig .tc .vmem S2x8x64x1024 .f32) (harg3 : arg3.IsWhole)
    (arg4 : Memref sig .tc .vmem S2x8x64x1024 .f32) (harg4 : arg4.IsWhole) (arg5 : Memref sig .tc .vmem S16x1x16x64 .f32) (harg5 : arg5.IsWhole)
    (k0_hw1 : k0_chk1 i (ywd c)) (k0_h1 : k0_cond1 i = 1#1) (v245 : BitVec 32) (v246 : BitVec 32) (Φ : _ → sProp 𝕄) :
    iprop(ow c (sendO c 4)
      ∗ invs P K
      ∗ vp poM c q2 (P.o c)
      ∗ (∃ f, vp (h64 roM c) (pr 1 c) fullShare f)
      ∗ dutyTok ER (dcell c 5) 0 0
      ∗ reached ER (dcell c 5) 0
      ∗ dutyTok ER (dcell (pr 1 c) 14) 0 0
      ∗ reached ER (dcell (pr 1 c) 14) 0
      ∗ vp pmM c q3 (P.m c)
      ∗ (∃ f, vp (h1 rmM c) (pr 2 c) fullShare f)
      ∗ dutyTok ER (dcell c 6) 0 0
      ∗ reached ER (dcell c 6) 0
      ∗ dutyTok ER (dcell (pr 2 c) 15) 0 0
      ∗ reached ER (dcell (pr 2 c) 15) 0
      ∗ vp plM c q3 (P.l c)
      ∗ (∃ f, vp (h1 rlM c) (pr 2 c) fullShare f)
      ∗ dutyTok ER (dcell c 7) 0 0
      ∗ reached ER (dcell c 7) 0
      ∗ dutyTok ER (dcell (pr 2 c) 16) 0 0
      ∗ reached ER (dcell (pr 2 c) 16) 0
      ∗ vp poM c q3 (P.o c)
      ∗ (∃ f, vp (h64 roM c) (pr 2 c) fullShare f)
      ∗ dutyTok ER (dcell c 8) 0 0
      ∗ reached ER (dcell c 8) 0
      ∗ dutyTok ER (dcell (pr 2 c) 17) 0 0
      ∗ reached ER (dcell (pr 2 c) 17) 0
      ∗ ((ow c (sendO c 0)
        ∗ cred (tallyAt (dcell c 5) () (NN 5))
        ∗ cred (tallyAt (dcell c 6) () (NN 6))
        ∗ cred (tallyAt (dcell c 7) () (NN 7))
        ∗ cred (tallyAt (dcell c 8) () (NN 8))) -∗ Φ ⟨⟩))
      ⊢ wp frame (wpE (defs₀ (F := F)) 𝒱₀ (c : Thread nD τ) none) Set.univ
          (k0_part4 (F := F) i (Memref.whole main_v7) (Memref.isWhole_whole _) arg2 harg2 arg3 harg3 arg4 harg4 arg5 harg5 pmM (Memref.isWhole_whole _) plM (Memref.isWhole_whole _) poM (Memref.isWhole_whole _) amM (Memref.isWhole_whole _) alM (Memref.isWhole_whole _) aoM (Memref.isWhole_whole _) rmM (Memref.isWhole_whole _) rlM (Memref.isWhole_whole _) roM (Memref.isWhole_whole _) cc0_scratch9 cc0_scratch10 (ywd c) k0_hw1 k0_h1 c v245 v246) Φ := by
  rw [k0_part4_eq_skeleton]
  unfold k0_part4_skel
  simp only [semSignalWord, semWaitWord, Prog.lift, Prog.bind_op, Prog.bind_ret, Prog.pure_eq_ret, Prog.bind_assoc, wp_deviceId]
  simp only [send_sem5, send_sem6, send_sem7, send_sem8, recv_sem5, recv_sem6, recv_sem7, recv_sem8]
  iintro ⟨HO, #HI, Hpo2, Hd5, HtS5, #Hr5, HtR5, #HrR5, Hpm3, Hd6, HtS6, #Hr6, HtR6, #HrR6, Hpl3, Hd7, HtS7, #Hr7, HtR7, #HrR7, Hpo3, Hd8, HtS8, #Hr8, HtR8, #HrR8, Hk⟩
  icases Hd5 with ⟨%fd5, Hd5⟩
  iapply (wp_copy_to P K c 1 5 14 (dev9_eq c _) (src := poM) (dst := h64 roM c) rfl rfl q2 (P.o c) fd5 rfl (lands5 P c fd5)
    (sendO c 3) (sendO c 4) rfl) $$ [Hpo2 Hd5 HO HtS5 HtR5]
  · isplitr; · iexact HI
    isplitl [Hpo2]; · iexact Hpo2
    isplitl [Hd5]; · iexact Hd5
    isplitl [HO]; · iexact HO
    isplitl [HtS5]; · iexact HtS5
    isplitr; · iexact Hr5
    isplitl [HtR5]; · iexact HtR5
    iexact HrR5
  iintro ⟨HcS5, HO⟩
  icases Hd6 with ⟨%fd6, Hd6⟩
  iapply (wp_copy_to P K c 2 6 15 (dev10_eq c _) (src := pmM) (dst := h1 rmM c) rfl rfl q3 (P.m c) fd6 rfl (lands6 P c fd6)
    (sendO c 2) (sendO c 3) rfl) $$ [Hpm3 Hd6 HO HtS6 HtR6]
  · isplitr; · iexact HI
    isplitl [Hpm3]; · iexact Hpm3
    isplitl [Hd6]; · iexact Hd6
    isplitl [HO]; · iexact HO
    isplitl [HtS6]; · iexact HtS6
    isplitr; · iexact Hr6
    isplitl [HtR6]; · iexact HtR6
    iexact HrR6
  iintro ⟨HcS6, HO⟩
  icases Hd7 with ⟨%fd7, Hd7⟩
  iapply (wp_copy_to P K c 2 7 16 (dev11_eq c _) (src := plM) (dst := h1 rlM c) rfl rfl q3 (P.l c) fd7 rfl (lands7 P c fd7)
    (sendO c 1) (sendO c 2) rfl) $$ [Hpl3 Hd7 HO HtS7 HtR7]
  · isplitr; · iexact HI
    isplitl [Hpl3]; · iexact Hpl3
    isplitl [Hd7]; · iexact Hd7
    isplitl [HO]; · iexact HO
    isplitl [HtS7]; · iexact HtS7
    isplitr; · iexact Hr7
    isplitl [HtR7]; · iexact HtR7
    iexact HrR7
  iintro ⟨HcS7, HO⟩
  icases Hd8 with ⟨%fd8, Hd8⟩
  iapply (wp_copy_to P K c 2 8 17 (dev12_eq c _) (src := poM) (dst := h64 roM c) rfl rfl q3 (P.o c) fd8 rfl (lands8 P c fd8)
    (sendO c 0) (sendO c 1) rfl) $$ [Hpo3 Hd8 HO HtS8 HtR8]
  · isplitr; · iexact HI
    isplitl [Hpo3]; · iexact Hpo3
    isplitl [Hd8]; · iexact Hd8
    isplitl [HO]; · iexact HO
    isplitl [HtS8]; · iexact HtS8
    isplitr; · iexact Hr8
    isplitl [HtR8]; · iexact HtR8
    iexact HrR8
  iintro ⟨HcS8, HO⟩
  rw [wp_ret]; imodintro
  iapply Hk
  isplitl [HO]; · iexact HO
  isplitl [HcS5]; · iexact HcS5
  isplitl [HcS6]; · iexact HcS6
  isplitl [HcS7]; · iexact HcS7
  iexact HcS8

set_option maxHeartbeats 1000000 in
/-- Part 5 of the exchange: the first five waits. -/
theorem part5_run (c : Dev nD) (i : grid0.Coords) (arg2 : Memref sig .tc .vmem S2x1x16x64 .f32) (harg2 : arg2.IsWhole) (arg3 : Memref sig .tc .vmem S2x8x64x1024 .f32) (harg3 : arg3.IsWhole)
    (arg4 : Memref sig .tc .vmem S2x8x64x1024 .f32) (harg4 : arg4.IsWhole) (arg5 : Memref sig .tc .vmem S16x1x16x64 .f32) (harg5 : arg5.IsWhole)
    (k0_hw1 : k0_chk1 i (ywd c)) (k0_h1 : k0_cond1 i = 1#1) (v239 : BitVec 32) (v244 : BitVec 32) (Φ : _ → sProp 𝕄) :
    iprop(ow c (0)
      ∗ invs P K
      ∗ cred (tallyAt (dcell c 0) () (NN 0))
      ∗ atPos ER (dcell c 0) 0 ∅ 0
      ∗ cred (tallyAt (dcell c 9) () (NN 0))
      ∗ atPos ER (dcell c 9) 0 ∅ 0
      ∗ cred (tallyAt (dcell c 1) () (NN 1))
      ∗ atPos ER (dcell c 1) 0 ∅ 0
      ∗ cred (tallyAt (dcell c 10) () (NN 1))
      ∗ atPos ER (dcell c 10) 0 ∅ 0
      ∗ cred (tallyAt (dcell c 2) () (NN 2))
      ∗ atPos ER (dcell c 2) 0 ∅ 0
      ∗ (∀ z, (ow c (0)
        ∗ semVal (dcell c 0) 0
        ∗ dmaPay P c 0
        ∗ semVal (dcell c 9) 0
        ∗ dmaPay P c 9
        ∗ semVal (dcell c 1) 0
        ∗ dmaPay P c 1
        ∗ semVal (dcell c 10) 0
        ∗ dmaPay P c 10
        ∗ semVal (dcell c 2) 0
        ∗ dmaPay P c 2) -∗ Φ z))
      ⊢ wp frame (wpE (defs₀ (F := F)) 𝒱₀ (c : Thread nD τ) none) Set.univ
          (k0_part5 (F := F) i (Memref.whole main_v7) (Memref.isWhole_whole _) arg2 harg2 arg3 harg3 arg4 harg4 arg5 harg5 pmM (Memref.isWhole_whole _) plM (Memref.isWhole_whole _) poM (Memref.isWhole_whole _) amM (Memref.isWhole_whole _) alM (Memref.isWhole_whole _) aoM (Memref.isWhole_whole _) rmM (Memref.isWhole_whole _) rlM (Memref.isWhole_whole _) roM (Memref.isWhole_whole _) cc0_scratch9 cc0_scratch10 (ywd c) k0_hw1 k0_h1 v239 v244) Φ := by
  rw [k0_part5_eq_skeleton]
  unfold k0_part5_skel
  simp only [semSignalWord, semWaitWord, Prog.lift, Prog.bind_op, Prog.bind_ret, Prog.pure_eq_ret, Prog.bind_assoc, wp_deviceId]
  simp only [send_sem0, send_sem1, send_sem2, recv_sem0, recv_sem1]
  iintro ⟨HO, #HI, HcS0, Hat0, HcR0, Hat9, HcS1, Hat1, HcR1, Hat10, HcS2, Hat2, Hk⟩
  iapply (wp_wait_cell P K c 0 (src := h1 amM c) (dst := pmM) rfl) $$ [HcS0 HO Hat0]
  · isplitr; · iexact HI
    isplitl [HcS0]; · iexact HcS0
    isplitl [HO]; · iexact HO
    iexact Hat0
  iintro ⟨HO, Hz0, Hw0⟩
  iapply (wp_wait_cell P K c 9 (src := pmM) (dst := h1 amM c) rfl) $$ [HcR0 HO Hat9]
  · isplitr; · iexact HI
    isplitl [HcR0]; · iexact HcR0
    isplitl [HO]; · iexact HO
    iexact Hat9
  iintro ⟨HO, Hz9, Hw9⟩
  iapply (wp_wait_cell P K c 1 (src := h1 alM c) (dst := plM) rfl) $$ [HcS1 HO Hat1]
  · isplitr; · iexact HI
    isplitl [HcS1]; · iexact HcS1
    isplitl [HO]; · iexact HO
    iexact Hat1
  iintro ⟨HO, Hz1, Hw1⟩
  iapply (wp_wait_cell P K c 10 (src := plM) (dst := h1 alM c) rfl) $$ [HcR1 HO Hat10]
  · isplitr; · iexact HI
    isplitl [HcR1]; · iexact HcR1
    isplitl [HO]; · iexact HO
    iexact Hat10
  iintro ⟨HO, Hz10, Hw10⟩
  iapply (wp_wait_cell P K c 2 (src := h64 aoM c) (dst := poM) rfl) $$ [HcS2 HO Hat2]
  · isplitr; · iexact HI
    isplitl [HcS2]; · iexact HcS2
    isplitl [HO]; · iexact HO
    iexact Hat2
  iintro ⟨HO, Hz2, Hw2⟩
  rw [wp_ret]; imodintro
  iapply Hk
  isplitl [HO]; · iexact HO
  isplitl [Hz0]; · iexact Hz0
  isplitl [Hw0]; · iexact Hw0
  isplitl [Hz9]; · iexact Hz9
  isplitl [Hw9]; · iexact Hw9
  isplitl [Hz1]; · iexact Hz1
  isplitl [Hw1]; · iexact Hw1
  isplitl [Hz10]; · iexact Hz10
  isplitl [Hw10]; · iexact Hw10
  isplitl [Hz2]; · iexact Hz2
  iexact Hw2

set_option maxHeartbeats 1000000 in
/-- Part 6 of the exchange: five more waits. -/
theorem part6_run (c : Dev nD) (i : grid0.Coords) (arg2 : Memref sig .tc .vmem S2x1x16x64 .f32) (harg2 : arg2.IsWhole) (arg3 : Memref sig .tc .vmem S2x8x64x1024 .f32) (harg3 : arg3.IsWhole)
    (arg4 : Memref sig .tc .vmem S2x8x64x1024 .f32) (harg4 : arg4.IsWhole) (arg5 : Memref sig .tc .vmem S16x1x16x64 .f32) (harg5 : arg5.IsWhole)
    (k0_hw1 : k0_chk1 i (ywd c)) (k0_h1 : k0_cond1 i = 1#1) (v242 : BitVec 32) (v243 : BitVec 32) (v244 : BitVec 32) (v380 : BitVec 32) (c1 : BitVec 32) (Φ : _ → sProp 𝕄) :
    iprop(ow c (0)
      ∗ invs P K
      ∗ cred (tallyAt (dcell c 11) () (NN 2))
      ∗ atPos ER (dcell c 11) 0 ∅ 0
      ∗ cred (tallyAt (dcell c 3) () (NN 3))
      ∗ atPos ER (dcell c 3) 0 ∅ 0
      ∗ cred (tallyAt (dcell c 12) () (NN 3))
      ∗ atPos ER (dcell c 12) 0 ∅ 0
      ∗ cred (tallyAt (dcell c 4) () (NN 4))
      ∗ atPos ER (dcell c 4) 0 ∅ 0
      ∗ cred (tallyAt (dcell c 13) () (NN 4))
      ∗ atPos ER (dcell c 13) 0 ∅ 0
      ∗ ((ow c (0)
        ∗ semVal (dcell c 11) 0
        ∗ dmaPay P c 11
        ∗ semVal (dcell c 3) 0
        ∗ dmaPay P c 3
        ∗ semVal (dcell c 12) 0
        ∗ dmaPay P c 12
        ∗ semVal (dcell c 4) 0
        ∗ dmaPay P c 4
        ∗ semVal (dcell c 13) 0
        ∗ dmaPay P c 13) -∗ Φ ⟨⟩))
      ⊢ wp frame (wpE (defs₀ (F := F)) 𝒱₀ (c : Thread nD τ) none) Set.univ
          (k0_part6 (F := F) i (Memref.whole main_v7) (Memref.isWhole_whole _) arg2 harg2 arg3 harg3 arg4 harg4 arg5 harg5 pmM (Memref.isWhole_whole _) plM (Memref.isWhole_whole _) poM (Memref.isWhole_whole _) amM (Memref.isWhole_whole _) alM (Memref.isWhole_whole _) aoM (Memref.isWhole_whole _) rmM (Memref.isWhole_whole _) rlM (Memref.isWhole_whole _) roM (Memref.isWhole_whole _) cc0_scratch9 cc0_scratch10 (ywd c) k0_hw1 k0_h1 v242 v243 v244 v380 c1) Φ := by
  rw [k0_part6_eq_skeleton]
  unfold k0_part6_skel
  simp only [semSignalWord, semWaitWord, Prog.lift, Prog.bind_op, Prog.bind_ret, Prog.pure_eq_ret, Prog.bind_assoc, wp_deviceId]
  simp only [send_sem3, send_sem4, recv_sem2, recv_sem3, recv_sem4]
  iintro ⟨HO, #HI, HcR2, Hat11, HcS3, Hat3, HcR3, Hat12, HcS4, Hat4, HcR4, Hat13, Hk⟩
  iapply (wp_wait_cell P K c 11 (src := poM) (dst := h64 aoM c) rfl) $$ [HcR2 HO Hat11]
  · isplitr; · iexact HI
    isplitl [HcR2]; · iexact HcR2
    isplitl [HO]; · iexact HO
    iexact Hat11
  iintro ⟨HO, Hz11, Hw11⟩
  iapply (wp_wait_cell P K c 3 (src := h1 rmM c) (dst := pmM) rfl) $$ [HcS3 HO Hat3]
  · isplitr; · iexact HI
    isplitl [HcS3]; · iexact HcS3
    isplitl [HO]; · iexact HO
    iexact Hat3
  iintro ⟨HO, Hz3, Hw3⟩
  iapply (wp_wait_cell P K c 12 (src := pmM) (dst := h1 rmM c) rfl) $$ [HcR3 HO Hat12]
  · isplitr; · iexact HI
    isplitl [HcR3]; · iexact HcR3
    isplitl [HO]; · iexact HO
    iexact Hat12
  iintro ⟨HO, Hz12, Hw12⟩
  iapply (wp_wait_cell P K c 4 (src := h1 rlM c) (dst := plM) rfl) $$ [HcS4 HO Hat4]
  · isplitr; · iexact HI
    isplitl [HcS4]; · iexact HcS4
    isplitl [HO]; · iexact HO
    iexact Hat4
  iintro ⟨HO, Hz4, Hw4⟩
  iapply (wp_wait_cell P K c 13 (src := plM) (dst := h1 rlM c) rfl) $$ [HcR4 HO Hat13]
  · isplitr; · iexact HI
    isplitl [HcR4]; · iexact HcR4
    isplitl [HO]; · iexact HO
    iexact Hat13
  iintro ⟨HO, Hz13, Hw13⟩
  rw [wp_ret]; imodintro
  iapply Hk
  isplitl [HO]; · iexact HO
  isplitl [Hz11]; · iexact Hz11
  isplitl [Hw11]; · iexact Hw11
  isplitl [Hz3]; · iexact Hz3
  isplitl [Hw3]; · iexact Hw3
  isplitl [Hz12]; · iexact Hz12
  isplitl [Hw12]; · iexact Hw12
  isplitl [Hz4]; · iexact Hz4
  isplitl [Hw4]; · iexact Hw4
  isplitl [Hz13]; · iexact Hz13
  iexact Hw13

set_option maxHeartbeats 1000000 in
/-- Part 7 of the exchange: five more waits. -/
theorem part7_run (c : Dev nD) (i : grid0.Coords) (arg2 : Memref sig .tc .vmem S2x1x16x64 .f32) (harg2 : arg2.IsWhole) (arg3 : Memref sig .tc .vmem S2x8x64x1024 .f32) (harg3 : arg3.IsWhole)
    (arg4 : Memref sig .tc .vmem S2x8x64x1024 .f32) (harg4 : arg4.IsWhole) (arg5 : Memref sig .tc .vmem S16x1x16x64 .f32) (harg5 : arg5.IsWhole)
    (k0_hw1 : k0_chk1 i (ywd c)) (k0_h1 : k0_cond1 i = 1#1) (v242 : BitVec 32) (v243 : BitVec 32) (v245 : BitVec 32) (v246 : BitVec 32) (Φ : _ → sProp 𝕄) :
    iprop(ow c (0)
      ∗ invs P K
      ∗ cred (tallyAt (dcell c 5) () (NN 5))
      ∗ atPos ER (dcell c 5) 0 ∅ 0
      ∗ cred (tallyAt (dcell c 14) () (NN 5))
      ∗ atPos ER (dcell c 14) 0 ∅ 0
      ∗ cred (tallyAt (dcell c 6) () (NN 6))
      ∗ atPos ER (dcell c 6) 0 ∅ 0
      ∗ cred (tallyAt (dcell c 15) () (NN 6))
      ∗ atPos ER (dcell c 15) 0 ∅ 0
      ∗ cred (tallyAt (dcell c 7) () (NN 7))
      ∗ atPos ER (dcell c 7) 0 ∅ 0
      ∗ (∀ z, (ow c (0)
        ∗ semVal (dcell c 5) 0
        ∗ dmaPay P c 5
        ∗ semVal (dcell c 14) 0
        ∗ dmaPay P c 14
        ∗ semVal (dcell c 6) 0
        ∗ dmaPay P c 6
        ∗ semVal (dcell c 15) 0
        ∗ dmaPay P c 15
        ∗ semVal (dcell c 7) 0
        ∗ dmaPay P c 7) -∗ Φ z))
      ⊢ wp frame (wpE (defs₀ (F := F)) 𝒱₀ (c : Thread nD τ) none) Set.univ
          (k0_part7 (F := F) i (Memref.whole main_v7) (Memref.isWhole_whole _) arg2 harg2 arg3 harg3 arg4 harg4 arg5 harg5 pmM (Memref.isWhole_whole _) plM (Memref.isWhole_whole _) poM (Memref.isWhole_whole _) amM (Memref.isWhole_whole _) alM (Memref.isWhole_whole _) aoM (Memref.isWhole_whole _) rmM (Memref.isWhole_whole _) rlM (Memref.isWhole_whole _) roM (Memref.isWhole_whole _) cc0_scratch9 cc0_scratch10 (ywd c) k0_hw1 k0_h1 v242 v243 v245 v246) Φ := by
  rw [k0_part7_eq_skeleton]
  unfold k0_part7_skel
  simp only [semSignalWord, semWaitWord, Prog.lift, Prog.bind_op, Prog.bind_ret, Prog.pure_eq_ret, Prog.bind_assoc, wp_deviceId]
  simp only [send_sem5, send_sem6, send_sem7, recv_sem5, recv_sem6]
  iintro ⟨HO, #HI, HcS5, Hat5, HcR5, Hat14, HcS6, Hat6, HcR6, Hat15, HcS7, Hat7, Hk⟩
  iapply (wp_wait_cell P K c 5 (src := h64 roM c) (dst := poM) rfl) $$ [HcS5 HO Hat5]
  · isplitr; · iexact HI
    isplitl [HcS5]; · iexact HcS5
    isplitl [HO]; · iexact HO
    iexact Hat5
  iintro ⟨HO, Hz5, Hw5⟩
  iapply (wp_wait_cell P K c 14 (src := poM) (dst := h64 roM c) rfl) $$ [HcR5 HO Hat14]
  · isplitr; · iexact HI
    isplitl [HcR5]; · iexact HcR5
    isplitl [HO]; · iexact HO
    iexact Hat14
  iintro ⟨HO, Hz14, Hw14⟩
  iapply (wp_wait_cell P K c 6 (src := h1 rmM c) (dst := pmM) rfl) $$ [HcS6 HO Hat6]
  · isplitr; · iexact HI
    isplitl [HcS6]; · iexact HcS6
    isplitl [HO]; · iexact HO
    iexact Hat6
  iintro ⟨HO, Hz6, Hw6⟩
  iapply (wp_wait_cell P K c 15 (src := pmM) (dst := h1 rmM c) rfl) $$ [HcR6 HO Hat15]
  · isplitr; · iexact HI
    isplitl [HcR6]; · iexact HcR6
    isplitl [HO]; · iexact HO
    iexact Hat15
  iintro ⟨HO, Hz15, Hw15⟩
  iapply (wp_wait_cell P K c 7 (src := h1 rlM c) (dst := plM) rfl) $$ [HcS7 HO Hat7]
  · isplitr; · iexact HI
    isplitl [HcS7]; · iexact HcS7
    isplitl [HO]; · iexact HO
    iexact Hat7
  iintro ⟨HO, Hz7, Hw7⟩
  rw [wp_ret]; imodintro
  iapply Hk
  isplitl [HO]; · iexact HO
  isplitl [Hz5]; · iexact Hz5
  isplitl [Hw5]; · iexact Hw5
  isplitl [Hz14]; · iexact Hz14
  isplitl [Hw14]; · iexact Hw14
  isplitl [Hz6]; · iexact Hz6
  isplitl [Hw6]; · iexact Hw6
  isplitl [Hz15]; · iexact Hz15
  isplitl [Hw15]; · iexact Hw15
  isplitl [Hz7]; · iexact Hz7
  iexact Hw7

set_option maxHeartbeats 1000000 in
/-- Part 8 of the exchange: the last three waits, and the gathered partial results are loaded. -/
theorem part8_run (c : Dev nD) (i : grid0.Coords) (arg2 : Memref sig .tc .vmem S2x1x16x64 .f32) (harg2 : arg2.IsWhole) (arg3 : Memref sig .tc .vmem S2x8x64x1024 .f32) (harg3 : arg3.IsWhole)
    (arg4 : Memref sig .tc .vmem S2x8x64x1024 .f32) (harg4 : arg4.IsWhole) (arg5 : Memref sig .tc .vmem S16x1x16x64 .f32) (harg5 : arg5.IsWhole)
    (k0_hw1 : k0_chk1 i (ywd c)) (k0_h1 : k0_cond1 i = 1#1) (v245 : BitVec 32) (v246 : BitVec 32) (v430 : BitVec 32) (c1 : BitVec 32) (Φ : _ → sProp 𝕄) :
    iprop(ow c (0)
      ∗ invs P K
      ∗ cred (tallyAt (dcell c 16) () (NN 7))
      ∗ atPos ER (dcell c 16) 0 ∅ 0
      ∗ cred (tallyAt (dcell c 8) () (NN 8))
      ∗ atPos ER (dcell c 8) 0 ∅ 0
      ∗ cred (tallyAt (dcell c 17) () (NN 8))
      ∗ atPos ER (dcell c 17) 0 ∅ 0
      ∗ vp (h1 amM c) c fullShare (gath P.m (xo c))
      ∗ dmaPay P c 9
      ∗ vp (h1 alM c) c fullShare (gath P.l (xo c))
      ∗ dmaPay P c 10
      ∗ vp (h64 aoM c) c fullShare (gath P.o (xo c))
      ∗ dmaPay P c 11
      ∗ dmaPay P c 12
      ∗ dmaPay P c 15
      ∗ dmaPay P c 13
      ∗ dmaPay P c 14
      ∗ ((ow c (0)
        ∗ semVal (dcell c 16) 0
        ∗ semVal (dcell c 8) 0
        ∗ dmaPay P c 8
        ∗ semVal (dcell c 17) 0
        ∗ vp roM c fullShare (gath P.o (fl (xo c)))
        ∗ vp amM c fullShare (gath P.m (xo c))
        ∗ vp rmM c fullShare (gath P.m (fl (xo c)))
        ∗ vp alM c fullShare (gath P.l (xo c))
        ∗ vp rlM c fullShare (gath P.l (fl (xo c)))
        ∗ vp aoM c fullShare (gath P.o (xo c))) -∗ Φ ⟨k0_pay8 (amM.view.read (Elt F) (gath P.m (xo c))) (rmM.view.read (Elt F) (gath P.m (fl (xo c)))), k0_pay9 (amM.view.read (Elt F) (gath P.m (xo c))) (rmM.view.read (Elt F) (gath P.m (fl (xo c)))),
        k0_pay10 (amM.view.read (Elt F) (gath P.m (xo c))) (rmM.view.read (Elt F) (gath P.m (fl (xo c)))) (alM.view.read (Elt F) (gath P.l (xo c))) (rlM.view.read (Elt F) (gath P.l (fl (xo c)))), aoM.view.read (Elt F) (gath P.o (xo c))⟩))
      ⊢ wp frame (wpE (defs₀ (F := F)) 𝒱₀ (c : Thread nD τ) none) Set.univ
          (k0_part8 (F := F) i (Memref.whole main_v7) (Memref.isWhole_whole _) arg2 harg2 arg3 harg3 arg4 harg4 arg5 harg5 pmM (Memref.isWhole_whole _) plM (Memref.isWhole_whole _) poM (Memref.isWhole_whole _) amM (Memref.isWhole_whole _) alM (Memref.isWhole_whole _) aoM (Memref.isWhole_whole _) rmM (Memref.isWhole_whole _) rlM (Memref.isWhole_whole _) roM (Memref.isWhole_whole _) cc0_scratch9 cc0_scratch10 (ywd c) k0_hw1 k0_h1 v245 v246 v430 c1) Φ := by
  rw [k0_part8_eq_skeleton]
  unfold k0_part8_skel
  simp only [semSignalWord, semWaitWord, Prog.lift, Prog.bind_op, Prog.bind_ret, Prog.pure_eq_ret, Prog.bind_assoc, wp_deviceId]
  simp only [send_sem8, recv_sem7, recv_sem8]
  iintro ⟨HO, #HI, HcR7, Hat16, HcS8, Hat8, HcR8, Hat17, HamA, Hw9, HalA, Hw10, HaoA, Hw11, Hw12, Hw15, Hw13, Hw14, Hk⟩
  iapply (wp_wait_cell P K c 16 (src := plM) (dst := h1 rlM c) rfl) $$ [HcR7 HO Hat16]
  · isplitr; · iexact HI
    isplitl [HcR7]; · iexact HcR7
    isplitl [HO]; · iexact HO
    iexact Hat16
  iintro ⟨HO, Hz16, Hw16⟩
  iapply (wp_wait_cell P K c 8 (src := h64 roM c) (dst := poM) rfl) $$ [HcS8 HO Hat8]
  · isplitr; · iexact HI
    isplitl [HcS8]; · iexact HcS8
    isplitl [HO]; · iexact HO
    iexact Hat8
  iintro ⟨HO, Hz8, Hw8⟩
  iapply (wp_wait_cell P K c 17 (src := poM) (dst := h64 roM c) rfl) $$ [HcR8 HO Hat17]
  · isplitr; · iexact HI
    isplitl [HcR8]; · iexact HcR8
    isplitl [HO]; · iexact HO
    iexact Hat17
  iintro ⟨HO, Hz17, Hw17⟩
  ihave Ham := (join_am P c) $$ [HamA Hw9]
  · isplitl [HamA]; · iexact HamA
    iexact Hw9
  ihave Hal := (join_al P c) $$ [HalA Hw10]
  · isplitl [HalA]; · iexact HalA
    iexact Hw10
  ihave Hao := (join_ao P c) $$ [HaoA Hw11]
  · isplitl [HaoA]; · iexact HaoA
    iexact Hw11
  ihave Hrm := (join_rm P c) $$ [Hw12 Hw15]
  · isplitl [Hw12]; · iexact Hw12
    iexact Hw15
  ihave Hrl := (join_rl P c) $$ [Hw13 Hw16]
  · isplitl [Hw13]; · iexact Hw13
    iexact Hw16
  ihave Hro := (join_ro P c) $$ [Hw14 Hw17]
  · isplitl [Hw14]; · iexact Hw14
    iexact Hw17
  iapply (wp_load_full c) $$ Ham; iintro Ham
  iapply (wp_load_full c) $$ Hrm; iintro Hrm
  iapply (wp_load_full c) $$ Hal; iintro Hal
  iapply (wp_load_full c) $$ Hrl; iintro Hrl
  iapply (wp_load_full c) $$ Hao; iintro Hao
  rw [wp_ret]; imodintro
  iapply Hk
  isplitl [HO]; · iexact HO
  isplitl [Hz16]; · iexact Hz16
  isplitl [Hz8]; · iexact Hz8
  isplitl [Hw8]; · iexact Hw8
  isplitl [Hz17]; · iexact Hz17
  isplitl [Hro]; · iexact Hro
  isplitl [Ham]; · iexact Ham
  isplitl [Hrm]; · iexact Hrm
  isplitl [Hal]; · iexact Hal
  isplitl [Hrl]; · iexact Hrl
  iexact Hao

end Cert.KernelIdeal.Talk
-- ==== Proof.TalkRun.lean ====
/- The exchange run as a whole at one symbolic device. -/
module

public import proofs.«01_k».proof.Proof.TalkParts

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (P : Parts F) (K : GSem nD τ sig → ℕ)

/-! ## The state before and after -/

/-- Where device `c` stands on its eighteen DMA cells. -/
def atAll (c : Dev nD) : sProp 𝕄 :=
  iprop(atPos ER (dcell c 0) 0 ∅ 0
    ∗ atPos ER (dcell c 1) 0 ∅ 0
    ∗ atPos ER (dcell c 2) 0 ∅ 0
    ∗ atPos ER (dcell c 3) 0 ∅ 0
    ∗ atPos ER (dcell c 4) 0 ∅ 0
    ∗ atPos ER (dcell c 5) 0 ∅ 0
    ∗ atPos ER (dcell c 6) 0 ∅ 0
    ∗ atPos ER (dcell c 7) 0 ∅ 0
    ∗ atPos ER (dcell c 8) 0 ∅ 0
    ∗ atPos ER (dcell c 9) 0 ∅ 0
    ∗ atPos ER (dcell c 10) 0 ∅ 0
    ∗ atPos ER (dcell c 11) 0 ∅ 0
    ∗ atPos ER (dcell c 12) 0 ∅ 0
    ∗ atPos ER (dcell c 13) 0 ∅ 0
    ∗ atPos ER (dcell c 14) 0 ∅ 0
    ∗ atPos ER (dcell c 15) 0 ∅ 0
    ∗ atPos ER (dcell c 16) 0 ∅ 0
    ∗ atPos ER (dcell c 17) 0 ∅ 0)
/-- Its eighteen DMA cells are open. -/
def openAll (c : Dev nD) : sProp 𝕄 :=
  iprop(reached ER (dcell c 0) 0
    ∗ reached ER (dcell c 1) 0
    ∗ reached ER (dcell c 2) 0
    ∗ reached ER (dcell c 3) 0
    ∗ reached ER (dcell c 4) 0
    ∗ reached ER (dcell c 5) 0
    ∗ reached ER (dcell c 6) 0
    ∗ reached ER (dcell c 7) 0
    ∗ reached ER (dcell c 8) 0
    ∗ reached ER (dcell c 9) 0
    ∗ reached ER (dcell c 10) 0
    ∗ reached ER (dcell c 11) 0
    ∗ reached ER (dcell c 12) 0
    ∗ reached ER (dcell c 13) 0
    ∗ reached ER (dcell c 14) 0
    ∗ reached ER (dcell c 15) 0
    ∗ reached ER (dcell c 16) 0
    ∗ reached ER (dcell c 17) 0)
/-- The tokens of its nine copies, at its own cells and at the partners'. -/
def toksAll (c : Dev nD) : sProp 𝕄 :=
  iprop(dutyTok ER (dcell c 0) 0 0
    ∗ dutyTok ER (dcell c 1) 0 0
    ∗ dutyTok ER (dcell c 2) 0 0
    ∗ dutyTok ER (dcell c 3) 0 0
    ∗ dutyTok ER (dcell c 4) 0 0
    ∗ dutyTok ER (dcell c 5) 0 0
    ∗ dutyTok ER (dcell c 6) 0 0
    ∗ dutyTok ER (dcell c 7) 0 0
    ∗ dutyTok ER (dcell c 8) 0 0
    ∗ dutyTok ER (dcell (pr 0 c) 9) 0 0
    ∗ dutyTok ER (dcell (pr 0 c) 10) 0 0
    ∗ dutyTok ER (dcell (pr 0 c) 11) 0 0
    ∗ dutyTok ER (dcell (pr 1 c) 12) 0 0
    ∗ dutyTok ER (dcell (pr 1 c) 13) 0 0
    ∗ dutyTok ER (dcell (pr 1 c) 14) 0 0
    ∗ dutyTok ER (dcell (pr 2 c) 15) 0 0
    ∗ dutyTok ER (dcell (pr 2 c) 16) 0 0
    ∗ dutyTok ER (dcell (pr 2 c) 17) 0 0)
/-- The credits of the nine copies it receives. -/
def credAll (c : Dev nD) : sProp 𝕄 :=
  iprop(cred (tallyAt (dcell c 9) () (NN 0))
    ∗ cred (tallyAt (dcell c 10) () (NN 1))
    ∗ cred (tallyAt (dcell c 11) () (NN 2))
    ∗ cred (tallyAt (dcell c 12) () (NN 3))
    ∗ cred (tallyAt (dcell c 13) () (NN 4))
    ∗ cred (tallyAt (dcell c 14) () (NN 5))
    ∗ cred (tallyAt (dcell c 15) () (NN 6))
    ∗ cred (tallyAt (dcell c 16) () (NN 7))
    ∗ cred (tallyAt (dcell c 17) () (NN 8)))
/-- Its eighteen DMA cells, closed. -/
def zeroAll (c : Dev nD) : sProp 𝕄 :=
  iprop(semVal (dcell c 0) 0
    ∗ semVal (dcell c 1) 0
    ∗ semVal (dcell c 2) 0
    ∗ semVal (dcell c 3) 0
    ∗ semVal (dcell c 4) 0
    ∗ semVal (dcell c 5) 0
    ∗ semVal (dcell c 6) 0
    ∗ semVal (dcell c 7) 0
    ∗ semVal (dcell c 8) 0
    ∗ semVal (dcell c 9) 0
    ∗ semVal (dcell c 10) 0
    ∗ semVal (dcell c 11) 0
    ∗ semVal (dcell c 12) 0
    ∗ semVal (dcell c 13) 0
    ∗ semVal (dcell c 14) 0
    ∗ semVal (dcell c 15) 0
    ∗ semVal (dcell c 16) 0
    ∗ semVal (dcell c 17) 0)
/-- What device `c` takes into the exchange beside the shared invariants, its DMA cells and its buffers. -/
def ghost (c : Dev nD) : sProp 𝕄 :=
  iprop(atPos ER (barCell c) 0 ∅ 0 ∗ cred (tallyAt (barCell c) () 3)
    ∗ (dutyTok ER (barCell (pr 0 c)) 0 0 ∗ dutyTok ER (barCell (pr 1 c)) 0 1 ∗ dutyTok ER (barCell (pr 2 c)) 0 2)
    ∗ (reached ER (barCell (pr 0 c)) 0 ∗ reached ER (barCell (pr 1 c)) 0 ∗ reached ER (barCell (pr 2 c)) 0)
    ∗ toksAll c ∗ credAll c)

/-- The gathering buffers at some contents. -/
def someBufs (c : Dev nD) : sProp 𝕄 :=
  iprop((∃ f, vp amM c fullShare f) ∗ (∃ f, vp alM c fullShare f) ∗ (∃ f, vp aoM c fullShare f)
    ∗ (∃ f, vp rmM c fullShare f) ∗ (∃ f, vp rlM c fullShare f) ∗ (∃ f, vp roM c fullShare f))
/-- The device's partial results in their buffers. -/
def partBufs (c : Dev nD) : sProp 𝕄 :=
  iprop(vp pmM c fullShare (P.m c) ∗ vp plM c fullShare (P.l c) ∗ vp poM c fullShare (P.o c))

/-- What device `c` writes as the result: the combination of the partial results over its own row's keys and over the
    other row's. -/
def result (c : Dev nD) : S16x1x16x64.Idx → Elt F .f32 :=
  k0_pay3 (k0_pay8 (amM.view.read (Elt F) (gath P.m (xo c))) (rmM.view.read (Elt F) (gath P.m (fl (xo c)))))
    (k0_pay9 (amM.view.read (Elt F) (gath P.m (xo c))) (rmM.view.read (Elt F) (gath P.m (fl (xo c)))))
    (k0_pay10 (amM.view.read (Elt F) (gath P.m (xo c))) (rmM.view.read (Elt F) (gath P.m (fl (xo c))))
      (alM.view.read (Elt F) (gath P.l (xo c))) (rlM.view.read (Elt F) (gath P.l (fl (xo c)))))
    (aoM.view.read (Elt F) (gath P.o (xo c))) (roM.view.read (Elt F) (gath P.o (fl (xo c))))

/-- The program of the exchange: what the kernel does at its last grid point after the partial results are in. -/
def talkProg (i : grid0.Coords) (arg2 : Memref sig .tc .vmem S2x1x16x64 .f32) (harg2 : arg2.IsWhole) (arg3 : Memref sig .tc .vmem S2x8x64x1024 .f32) (harg3 : arg3.IsWhole)
    (arg4 : Memref sig .tc .vmem S2x8x64x1024 .f32) (harg4 : arg4.IsWhole) (arg5 : Memref sig .tc .vmem S16x1x16x64 .f32) (harg5 : arg5.IsWhole)
    (v0 : Elt F .i32) (k0_hw1 : k0_chk1 i v0) (v1 : BitVec 32) (k0_h1 : k0_cond1 i = 1#1) : Prog (TpuEff nD τ sig (Elt F) Λ₀ .tc) PUnit := do
  let ⟨d237, v239, v242, v243, v244, v245, v246, v264⟩ : Σ' (d237 : Dev nD) (v239 : BitVec 32) (v242 : BitVec 32) (v243 : BitVec 32) (v244 : BitVec 32) (v245 : BitVec 32) (v246 : BitVec 32), FVec F S16x8x1 .f32 ← k0_part1 i (Memref.whole main_v7) (Memref.isWhole_whole _) arg2 harg2 arg3 harg3 arg4 harg4 arg5 harg5 pmM (Memref.isWhole_whole _) plM (Memref.isWhole_whole _) poM (Memref.isWhole_whole _) amM (Memref.isWhole_whole _) alM (Memref.isWhole_whole _) aoM (Memref.isWhole_whole _) rmM (Memref.isWhole_whole _) rlM (Memref.isWhole_whole _) roM (Memref.isWhole_whole _) cc0_scratch9 cc0_scratch10 v0 k0_hw1 v1 k0_h1
  let c2_i32_284 : BitVec 32 ← k0_part2 i (Memref.whole main_v7) (Memref.isWhole_whole _) arg2 harg2 arg3 harg3 arg4 harg4 arg5 harg5 pmM (Memref.isWhole_whole _) plM (Memref.isWhole_whole _) poM (Memref.isWhole_whole _) amM (Memref.isWhole_whole _) alM (Memref.isWhole_whole _) aoM (Memref.isWhole_whole _) rmM (Memref.isWhole_whole _) rlM (Memref.isWhole_whole _) roM (Memref.isWhole_whole _) cc0_scratch9 cc0_scratch10 v0 k0_hw1 v1 k0_h1 d237 v239 v244 v264
  k0_part3 i (Memref.whole main_v7) (Memref.isWhole_whole _) arg2 harg2 arg3 harg3 arg4 harg4 arg5 harg5 pmM (Memref.isWhole_whole _) plM (Memref.isWhole_whole _) poM (Memref.isWhole_whole _) amM (Memref.isWhole_whole _) alM (Memref.isWhole_whole _) aoM (Memref.isWhole_whole _) rmM (Memref.isWhole_whole _) rlM (Memref.isWhole_whole _) roM (Memref.isWhole_whole _) cc0_scratch9 cc0_scratch10 v0 k0_hw1 k0_h1 d237 v239 v242 v243 v244 c2_i32_284
  k0_part4 i (Memref.whole main_v7) (Memref.isWhole_whole _) arg2 harg2 arg3 harg3 arg4 harg4 arg5 harg5 pmM (Memref.isWhole_whole _) plM (Memref.isWhole_whole _) poM (Memref.isWhole_whole _) amM (Memref.isWhole_whole _) alM (Memref.isWhole_whole _) aoM (Memref.isWhole_whole _) rmM (Memref.isWhole_whole _) rlM (Memref.isWhole_whole _) roM (Memref.isWhole_whole _) cc0_scratch9 cc0_scratch10 v0 k0_hw1 k0_h1 d237 v245 v246
  let ⟨v380, c1_i32_364⟩ : Σ' (v380 : BitVec 32), BitVec 32 ← k0_part5 i (Memref.whole main_v7) (Memref.isWhole_whole _) arg2 harg2 arg3 harg3 arg4 harg4 arg5 harg5 pmM (Memref.isWhole_whole _) plM (Memref.isWhole_whole _) poM (Memref.isWhole_whole _) amM (Memref.isWhole_whole _) alM (Memref.isWhole_whole _) aoM (Memref.isWhole_whole _) rmM (Memref.isWhole_whole _) rlM (Memref.isWhole_whole _) roM (Memref.isWhole_whole _) cc0_scratch9 cc0_scratch10 v0 k0_hw1 k0_h1 v239 v244
  k0_part6 i (Memref.whole main_v7) (Memref.isWhole_whole _) arg2 harg2 arg3 harg3 arg4 harg4 arg5 harg5 pmM (Memref.isWhole_whole _) plM (Memref.isWhole_whole _) poM (Memref.isWhole_whole _) amM (Memref.isWhole_whole _) alM (Memref.isWhole_whole _) aoM (Memref.isWhole_whole _) rmM (Memref.isWhole_whole _) rlM (Memref.isWhole_whole _) roM (Memref.isWhole_whole _) cc0_scratch9 cc0_scratch10 v0 k0_hw1 k0_h1 v242 v243 v244 v380 c1_i32_364
  let ⟨v430, c1_i32_424⟩ : Σ' (v430 : BitVec 32), BitVec 32 ← k0_part7 i (Memref.whole main_v7) (Memref.isWhole_whole _) arg2 harg2 arg3 harg3 arg4 harg4 arg5 harg5 pmM (Memref.isWhole_whole _) plM (Memref.isWhole_whole _) poM (Memref.isWhole_whole _) amM (Memref.isWhole_whole _) alM (Memref.isWhole_whole _) aoM (Memref.isWhole_whole _) rmM (Memref.isWhole_whole _) rlM (Memref.isWhole_whole _) roM (Memref.isWhole_whole _) cc0_scratch9 cc0_scratch10 v0 k0_hw1 k0_h1 v242 v243 v245 v246
  let ⟨v450, v452, v457, v458⟩ : Σ' (v450 : FVec F S16x16x1 .f32) (v452 : FVec F S16x16x1 .f32) (v457 : FVec F S16x16x1 .f32), Vec F S16x16x64 .f32 ← k0_part8 i (Memref.whole main_v7) (Memref.isWhole_whole _) arg2 harg2 arg3 harg3 arg4 harg4 arg5 harg5 pmM (Memref.isWhole_whole _) plM (Memref.isWhole_whole _) poM (Memref.isWhole_whole _) amM (Memref.isWhole_whole _) alM (Memref.isWhole_whole _) aoM (Memref.isWhole_whole _) rmM (Memref.isWhole_whole _) rlM (Memref.isWhole_whole _) roM (Memref.isWhole_whole _) cc0_scratch9 cc0_scratch10 v0 k0_hw1 k0_h1 v245 v246 v430 c1_i32_424
  let v461 : Vec F S16x16x64 .f32 ← Prog.lift (.load roM (Rect.unit (s := S16x16x64) ![0, 0, 0] S16x16x64.size inb_S16x16x64_S16x16x64_0_0_0).toLoadRect (View.loadsAt_vmem h_S16x16x64))
  let v467 : Vec F S16x1x16x64 .f32 ← Prog.lift (.load arg5 (Rect.unit (s := S16x1x16x64) ![0, 0, 0, 0] S16x1x16x64.size inb_S16x1x16x64_S16x1x16x64_0_0_0_0).toLoadRect (View.loadsAt_vmem h_S16x1x16x64))
  Prog.lift (.store arg5 (Rect.unit (s := S16x1x16x64) ![0, 0, 0, 0] S16x1x16x64.size inb_S16x1x16x64_S16x1x16x64_0_0_0_0) (k0_pay3 v450 v452 v457 v458 v461) Finset.univ (View.stores_vmem_bits_univ h_S16x1x16x64 rfl) (.inl rfl))
  pure ⟨⟩

set_option maxHeartbeats 2000000 in
/-- The exchange at device `c`: from its partial results and the gathering buffers to the combined result, all its cells
    closed. -/
theorem talk_run (c : Dev nD) (i : grid0.Coords) (arg2 : Memref sig .tc .vmem S2x1x16x64 .f32) (harg2 : arg2.IsWhole) (arg3 : Memref sig .tc .vmem S2x8x64x1024 .f32) (harg3 : arg3.IsWhole)
    (arg4 : Memref sig .tc .vmem S2x8x64x1024 .f32) (harg4 : arg4.IsWhole) (arg5 : Memref sig .tc .vmem S16x1x16x64 .f32) (harg5 : arg5.IsWhole)
    (k0_hw1 : k0_chk1 i (ywd c)) (v1 : BitVec 32) (k0_h1 : k0_cond1 i = 1#1) (Kt : PUnit → sProp 𝕄) :
    iprop(invs P K ∗ levAts L lv ∗ ghost c ∗ atAll c ∗ openAll c ∗ ow c (O₀ c) ∗ partBufs P c ∗ someBufs c ∗ (∃ f, vp arg5 c fullShare f)
        ∗ ((ow c 0 ∗ partBufs P c ∗ someBufs c ∗ semVal (barCell c) 0 ∗ zeroAll c ∗ owns (c : Thread nD τ) arg5 fullShare (result P c)) -∗ Kt ⟨⟩))
      ⊢ wp frame (wpE (defs₀ (F := F)) 𝒱₀ (c : Thread nD τ) none) Set.univ
          (talkProg i arg2 harg2 arg3 harg3 arg4 harg4 arg5 harg5 (ywd c) k0_hw1 v1 k0_h1) Kt := by
  unfold talkProg
  unfold ghost atAll openAll toksAll credAll partBufs someBufs O₀
  iintro ⟨#HI, #Hl, ⟨HatB, HcB, ⟨HtB0, HtB1, HtB2⟩, ⟨#HrB0, #HrB1, #HrB2⟩, ⟨HtS0, HtS1, HtS2, HtS3, HtS4, HtS5, HtS6, HtS7, HtS8, HtR0, HtR1, HtR2, HtR3, HtR4, HtR5, HtR6, HtR7, HtR8⟩,
    ⟨HcR0, HcR1, HcR2, HcR3, HcR4, HcR5, HcR6, HcR7, HcR8⟩⟩, ⟨Hat0, Hat1, Hat2, Hat3, Hat4, Hat5, Hat6, Hat7, Hat8, Hat9, Hat10, Hat11, Hat12, Hat13, Hat14, Hat15, Hat16, Hat17⟩, ⟨#Hr0, #Hr1, #Hr2, #Hr3, #Hr4, #Hr5, #Hr6, #Hr7, #Hr8, #Hr9, #Hr10, #Hr11, #Hr12, #Hr13, #Hr14, #Hr15, #Hr16, #Hr17⟩, HO, ⟨Hpm, Hpl, Hpo⟩,
    ⟨⟨%fam, Ham⟩, ⟨%fal, Hal⟩, ⟨%fao, Hao⟩, ⟨%frm, Hrm⟩, ⟨%frl, Hrl⟩, ⟨%fro, Hro⟩⟩, ⟨%f5, H5⟩, Hk⟩
  ihave Ham' := (vp_halves1 amM c (yo_pr0 c) fam).1 $$ Ham
  icases Ham' with ⟨HamA, HamB⟩
  ihave Hal' := (vp_halves1 alM c (yo_pr0 c) fal).1 $$ Hal
  icases Hal' with ⟨HalA, HalB⟩
  ihave Hao' := (vp_halves64 aoM c (yo_pr0 c) fao).1 $$ Hao
  icases Hao' with ⟨HaoA, HaoB⟩
  ihave Hrm' := (vp_halves1 rmM c (w := pr 1 c) (w' := pr 2 c) (by rw [yo_pr1, yo_pr2]) frm).1 $$ Hrm
  icases Hrm' with ⟨HrmA, HrmB⟩
  ihave Hrl' := (vp_halves1 rlM c (w := pr 1 c) (w' := pr 2 c) (by rw [yo_pr1, yo_pr2]) frl).1 $$ Hrl
  icases Hrl' with ⟨HrlA, HrlB⟩
  ihave Hro' := (vp_halves64 roM c (w := pr 1 c) (w' := pr 2 c) (by rw [yo_pr1, yo_pr2]) fro).1 $$ Hro
  icases Hro' with ⟨HroA, HroB⟩
  ihave Hg1 := (barPay_mk1 c) $$ [HrmA HrlA HroA]
  · unfold hand1 hand64
    isplitl [HrmA]; · iexists _; iexact HrmA
    isplitl [HrlA]; · iexists _; iexact HrlA
    isplitl [HroA]; · iexists _; iexact HroA
    isplitr; · iexact Hr12
    isplitr; · iexact Hr13
    iexact Hr14
  ihave Hg0 := (barPay_mk0 c) $$ [HamB HalB HaoB]
  · unfold hand1 hand64
    isplitl [HamB]; · iexists _; iexact HamB
    isplitl [HalB]; · iexists _; iexact HalB
    isplitl [HaoB]; · iexists _; iexact HaoB
    isplitr; · iexact Hr9
    isplitr; · iexact Hr10
    iexact Hr11
  ihave Hg2 := (barPay_mk2 c) $$ [HrmB HrlB HroB]
  · unfold hand1 hand64
    isplitl [HrmB]; · iexists _; iexact HrmB
    isplitl [HrlB]; · iexists _; iexact HrlB
    isplitl [HroB]; · iexists _; iexact HroB
    isplitr; · iexact Hr15
    isplitr; · iexact Hr16
    iexact Hr17
  rw [wp_bind]
  iapply (part1_run P K c i arg2 harg2 arg3 harg3 arg4 harg4 arg5 harg5 k0_hw1 v1 k0_h1 _)
  isplitl [HO]; · iexact HO
  isplitr; · iexact HI
  isplitl [HtB1]; · iexact HtB1
  isplitl [Hg1]; · iexact Hg1
  isplitr; · iexact HrB1
  isplitl [HtB0]; · iexact HtB0
  isplitl [Hg0]; · iexact Hg0
  isplitr; · iexact HrB0
  isplitl [HtB2]; · iexact HtB2
  isplitl [Hg2]; · iexact Hg2
  isplitr; · iexact HrB2
  isplitr; · iexact Hl
  isplitl [HcB]; · iexact HcB
  isplitl [HatB]; · iexact HatB
  isplitl [Hpm]; · iexact Hpm
  isplitl [HamA]; · iexists _; iexact HamA
  iintro %v239 %v242 %v243 %v244 %v245 %v246 ⟨HO, HzB, Hb0, Hb1, Hb2, Hpm, ⟨%fam', HamA⟩⟩
  unfold barPay hand1 hand64
  icases Hb0 with ⟨Hd0, Hd1, Hd2, #HrR0, #HrR1, #HrR2⟩
  icases Hb1 with ⟨Hd3, Hd4, Hd5, #HrR3, #HrR4, #HrR5⟩
  icases Hb2 with ⟨Hd6, Hd7, Hd8, #HrR6, #HrR7, #HrR8⟩
  dsimp only
  rw [wp_bind]
  iapply (part2_run P K c i arg2 harg2 arg3 harg3 arg4 harg4 arg5 harg5 k0_hw1 v1 k0_h1 v239 v244 _)
  isplitl [HO]; · iexact HO
  isplitl [HamA]; · iexists _; iexact HamA
  isplitl [Hpl]; · iexact Hpl
  isplitl [HalA]; · iexists _; iexact HalA
  isplitl [Hpo]; · iexact Hpo
  isplitl [HaoA]; · iexists _; iexact HaoA
  isplitl [Hpm]; · iexact Hpm
  isplitr; · iexact HI
  isplitl [Hd0]; · iexact Hd0
  isplitl [HtS0]; · iexact HtS0
  isplitr; · iexact Hr0
  isplitl [HtR0]; · iexact HtR0
  isplitr; · iexact HrR0
  isplitl [Hd1]; · iexact Hd1
  isplitl [HtS1]; · iexact HtS1
  isplitr; · iexact Hr1
  isplitl [HtR1]; · iexact HtR1
  isplitr; · iexact HrR1
  iintro %z2 ⟨HO, HamA, HalA, Hpo, HaoA, Hpm2, Hpm3, Hpl2, Hpl3, HcS0, HcS1⟩
  ihave Hpo' := (vp_thirds poM c (P.o c)).1 $$ Hpo
  icases Hpo' with ⟨Hpo1, Hpo2, Hpo3⟩
  rw [wp_bind]
  iapply (part3_run P K c i arg2 harg2 arg3 harg3 arg4 harg4 arg5 harg5 k0_hw1 k0_h1 v239 v242 v243 v244 z2 _)
  isplitl [HO]; · iexact HO
  isplitr; · iexact HI
  isplitl [Hpo1]; · iexact Hpo1
  isplitl [Hd2]; · iexact Hd2
  isplitl [HtS2]; · iexact HtS2
  isplitr; · iexact Hr2
  isplitl [HtR2]; · iexact HtR2
  isplitr; · iexact HrR2
  isplitl [Hpm2]; · iexact Hpm2
  isplitl [Hd3]; · iexact Hd3
  isplitl [HtS3]; · iexact HtS3
  isplitr; · iexact Hr3
  isplitl [HtR3]; · iexact HtR3
  isplitr; · iexact HrR3
  isplitl [Hpl2]; · iexact Hpl2
  isplitl [Hd4]; · iexact Hd4
  isplitl [HtS4]; · iexact HtS4
  isplitr; · iexact Hr4
  isplitl [HtR4]; · iexact HtR4
  isplitr; · iexact HrR4
  iintro ⟨HO, HcS2, HcS3, HcS4⟩
  rw [wp_bind]
  iapply (part4_run P K c i arg2 harg2 arg3 harg3 arg4 harg4 arg5 harg5 k0_hw1 k0_h1 v245 v246 _)
  isplitl [HO]; · iexact HO
  isplitr; · iexact HI
  isplitl [Hpo2]; · iexact Hpo2
  isplitl [Hd5]; · iexact Hd5
  isplitl [HtS5]; · iexact HtS5
  isplitr; · iexact Hr5
  isplitl [HtR5]; · iexact HtR5
  isplitr; · iexact HrR5
  isplitl [Hpm3]; · iexact Hpm3
  isplitl [Hd6]; · iexact Hd6
  isplitl [HtS6]; · iexact HtS6
  isplitr; · iexact Hr6
  isplitl [HtR6]; · iexact HtR6
  isplitr; · iexact HrR6
  isplitl [Hpl3]; · iexact Hpl3
  isplitl [Hd7]; · iexact Hd7
  isplitl [HtS7]; · iexact HtS7
  isplitr; · iexact Hr7
  isplitl [HtR7]; · iexact HtR7
  isplitr; · iexact HrR7
  isplitl [Hpo3]; · iexact Hpo3
  isplitl [Hd8]; · iexact Hd8
  isplitl [HtS8]; · iexact HtS8
  isplitr; · iexact Hr8
  isplitl [HtR8]; · iexact HtR8
  isplitr; · iexact HrR8
  iintro ⟨HO, HcS5, HcS6, HcS7, HcS8⟩
  rw [wp_bind]
  iapply (part5_run P K c i arg2 harg2 arg3 harg3 arg4 harg4 arg5 harg5 k0_hw1 k0_h1 v239 v244 _)
  isplitl [HO]; · iexact HO
  isplitr; · iexact HI
  isplitl [HcS0]; · iexact HcS0
  isplitl [Hat0]; · iexact Hat0
  isplitl [HcR0]; · iexact HcR0
  isplitl [Hat9]; · iexact Hat9
  isplitl [HcS1]; · iexact HcS1
  isplitl [Hat1]; · iexact Hat1
  isplitl [HcR1]; · iexact HcR1
  isplitl [Hat10]; · iexact Hat10
  isplitl [HcS2]; · iexact HcS2
  isplitl [Hat2]; · iexact Hat2
  iintro %z5 ⟨HO, Hz0, Hw0, Hz9, Hw9, Hz1, Hw1, Hz10, Hw10, Hz2, Hw2⟩
  obtain ⟨v380, c5⟩ := z5
  dsimp only
  rw [wp_bind]
  iapply (part6_run P K c i arg2 harg2 arg3 harg3 arg4 harg4 arg5 harg5 k0_hw1 k0_h1 v242 v243 v244 v380 c5 _)
  isplitl [HO]; · iexact HO
  isplitr; · iexact HI
  isplitl [HcR2]; · iexact HcR2
  isplitl [Hat11]; · iexact Hat11
  isplitl [HcS3]; · iexact HcS3
  isplitl [Hat3]; · iexact Hat3
  isplitl [HcR3]; · iexact HcR3
  isplitl [Hat12]; · iexact Hat12
  isplitl [HcS4]; · iexact HcS4
  isplitl [Hat4]; · iexact Hat4
  isplitl [HcR4]; · iexact HcR4
  isplitl [Hat13]; · iexact Hat13
  iintro ⟨HO, Hz11, Hw11, Hz3, Hw3, Hz12, Hw12, Hz4, Hw4, Hz13, Hw13⟩
  rw [wp_bind]
  iapply (part7_run P K c i arg2 harg2 arg3 harg3 arg4 harg4 arg5 harg5 k0_hw1 k0_h1 v242 v243 v245 v246 _)
  isplitl [HO]; · iexact HO
  isplitr; · iexact HI
  isplitl [HcS5]; · iexact HcS5
  isplitl [Hat5]; · iexact Hat5
  isplitl [HcR5]; · iexact HcR5
  isplitl [Hat14]; · iexact Hat14
  isplitl [HcS6]; · iexact HcS6
  isplitl [Hat6]; · iexact Hat6
  isplitl [HcR6]; · iexact HcR6
  isplitl [Hat15]; · iexact Hat15
  isplitl [HcS7]; · iexact HcS7
  isplitl [Hat7]; · iexact Hat7
  iintro %z7 ⟨HO, Hz5, Hw5, Hz14, Hw14, Hz6, Hw6, Hz15, Hw15, Hz7, Hw7⟩
  obtain ⟨v430, c7⟩ := z7
  dsimp only
  rw [wp_bind]
  iapply (part8_run P K c i arg2 harg2 arg3 harg3 arg4 harg4 arg5 harg5 k0_hw1 k0_h1 v245 v246 v430 c7 _)
  isplitl [HO]; · iexact HO
  isplitr; · iexact HI
  isplitl [HcR7]; · iexact HcR7
  isplitl [Hat16]; · iexact Hat16
  isplitl [HcS8]; · iexact HcS8
  isplitl [Hat8]; · iexact Hat8
  isplitl [HcR8]; · iexact HcR8
  isplitl [Hat17]; · iexact Hat17
  isplitl [HamA]; · iexact HamA
  isplitl [Hw9]; · iexact Hw9
  isplitl [HalA]; · iexact HalA
  isplitl [Hw10]; · iexact Hw10
  isplitl [HaoA]; · iexact HaoA
  isplitl [Hw11]; · iexact Hw11
  isplitl [Hw12]; · iexact Hw12
  isplitl [Hw15]; · iexact Hw15
  isplitl [Hw13]; · iexact Hw13
  isplitl [Hw14]; · iexact Hw14
  iintro ⟨HO, Hz16, Hz8, Hw8, Hz17, Hro, Ham, Hrm, Hal, Hrl, Hao⟩
  dsimp only
  ihave Hpm := (join_pm P c) $$ [Hw0 Hw3 Hw6]
  · isplitl [Hw0]; · iexact Hw0
    isplitl [Hw3]; · iexact Hw3
    iexact Hw6
  ihave Hpl := (join_pl P c) $$ [Hw1 Hw4 Hw7]
  · isplitl [Hw1]; · iexact Hw1
    isplitl [Hw4]; · iexact Hw4
    iexact Hw7
  ihave Hpo := (join_po P c) $$ [Hw2 Hw5 Hw8]
  · isplitl [Hw2]; · iexact Hw2
    isplitl [Hw5]; · iexact Hw5
    iexact Hw8
  simp only [Prog.lift, Prog.bind_op, Prog.bind_ret, Prog.pure_eq_ret]
  iapply (wp_load_full c) $$ Hro; iintro Hro
  iapply (wp_load_full c) $$ H5; iintro H5
  iapply (wp_store_out c f5) $$ H5; iintro H5
  rw [wp_ret]; imodintro
  iapply Hk
  unfold zeroAll
  isplitl [HO]; · iexact HO
  isplitl [Hpm Hpl Hpo]
  · isplitl [Hpm]; · iexact Hpm
    isplitl [Hpl]; · iexact Hpl
    iexact Hpo
  isplitl [Ham Hal Hao Hrm Hrl Hro]
  · isplitl [Ham]; · iexists _; iexact Ham
    isplitl [Hal]; · iexists _; iexact Hal
    isplitl [Hao]; · iexists _; iexact Hao
    isplitl [Hrm]; · iexists _; iexact Hrm
    isplitl [Hrl]; · iexists _; iexact Hrl
    iexists _; iexact Hro
  isplitl [HzB]; · iexact HzB
  isplitr [H5]
  · isplitl [Hz0]; · iexact Hz0
    isplitl [Hz1]; · iexact Hz1
    isplitl [Hz2]; · iexact Hz2
    isplitl [Hz3]; · iexact Hz3
    isplitl [Hz4]; · iexact Hz4
    isplitl [Hz5]; · iexact Hz5
    isplitl [Hz6]; · iexact Hz6
    isplitl [Hz7]; · iexact Hz7
    isplitl [Hz8]; · iexact Hz8
    isplitl [Hz9]; · iexact Hz9
    isplitl [Hz10]; · iexact Hz10
    isplitl [Hz11]; · iexact Hz11
    isplitl [Hz12]; · iexact Hz12
    isplitl [Hz13]; · iexact Hz13
    isplitl [Hz14]; · iexact Hz14
    isplitl [Hz15]; · iexact Hz15
    isplitl [Hz16]; · iexact Hz16
    iexact Hz17
  unfold result; iexact H5

end Cert.KernelIdeal.Talk
-- ==== Proof.Body.lean ====
/- The kernel body at one grid point of one symbolic device. -/
module

public import proofs.«01_k».proof.Proof.Comp
public import proofs.«01_k».proof.Proof.TalkRun

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (K : GSem nD τ sig → ℕ) (B2 : Dev nD → Fin 8 → S2x1x16x64.Idx → Elt F .f32) (B3 B4 : Dev nD → Fin 8 → S2x8x64x1024.Idx → Elt F .f32)

/-- The buffers of partial results before grid point `n`. -/
def accBufs (c : Dev nD) (n : ℕ) : sProp 𝕄 :=
  iprop(rows1 pmM c (2 * n) ((partsOf B2 B3 B4).m c) ∗ rows1 plM c (2 * n) ((partsOf B2 B3 B4).l c) ∗ rows64 poM c (2 * n) ((partsOf B2 B3 B4).o c))

/-- The windows' blocks of grid point `t` and the table, as the body finds them. -/
def wins (c : Dev nD) (t : Fin 8) (arg2 : Memref sig .tc .vmem S2x1x16x64 .f32) (arg3 arg4 : Memref sig .tc .vmem S2x8x64x1024 .f32) : sProp 𝕄 :=
  iprop(owns (c : Thread nD τ) arg2 fullShare (B2 c t) ∗ owns (c : Thread nD τ) arg3 fullShare (B3 c t)
    ∗ owns (c : Thread nD τ) arg4 fullShare (B4 c t) ∗ tblAt c)

set_option maxHeartbeats 2000000 in
/-- A grid point before the last: two more rows of partial results. -/
theorem body_run_mid (c : Dev nD) (i : grid0.Coords) (arg2 : Memref sig .tc .vmem S2x1x16x64 .f32) (harg2 : arg2.IsWhole) (arg3 : Memref sig .tc .vmem S2x8x64x1024 .f32) (harg3 : arg3.IsWhole)
    (arg4 : Memref sig .tc .vmem S2x8x64x1024 .f32) (harg4 : arg4.IsWhole) (arg5 : Memref sig .tc .vmem S16x1x16x64 .f32) (harg5 : arg5.IsWhole)
    (hc : ¬ k0_cond1 i = 1#1) (Φ : PUnit → sProp 𝕄) :
    iprop(wins B2 B3 B4 c (i 0) arg2 arg3 arg4 ∗ accBufs B2 B3 B4 c (i 0).val
      ∗ ((wins B2 B3 B4 c (i 0) arg2 arg3 arg4 ∗ accBufs B2 B3 B4 c ((i 0).val + 1)) -∗ Φ ⟨⟩))
      ⊢ wp frame (wpE (defs₀ (F := F)) 𝒱₀ (c : Thread nD τ) none) Set.univ
          (cc0_body (F := F) i (Memref.whole main_v7) (Memref.isWhole_whole _) arg2 harg2 arg3 harg3 arg4 harg4 arg5 harg5 pmM (Memref.isWhole_whole _) plM (Memref.isWhole_whole _) poM (Memref.isWhole_whole _) amM (Memref.isWhole_whole _) alM (Memref.isWhole_whole _) aoM (Memref.isWhole_whole _) rmM (Memref.isWhole_whole _) rlM (Memref.isWhole_whole _) roM (Memref.isWhole_whole _) cc0_scratch9 cc0_scratch10) Φ := by
  rw [cc0_body_eq_skeleton]
  unfold cc0_body_skel wins accBufs
  iintro ⟨⟨H2, H3, H4, Ht⟩, ⟨Hpm, Hpl, Hpo⟩, Hk⟩
  rw [wp_bind]
  iapply (part9_run (B2 c (i 0)) (B3 c (i 0)) c i arg2 harg2 arg3 harg3 arg4 harg4 arg5 harg5   _)
  isplitl [Ht]; · iexact Ht
  isplitl [H2]; · iexact H2
  isplitl [H3]; · iexact H3
  iintro ⟨Ht, H2, H3⟩
  dsimp only
  rw [wp_bind]
  iapply (part10_run (B2 c (i 0)) (B3 c (i 0)) c i arg2 harg2 arg3 harg3 arg4 harg4 arg5 harg5 _  _)
  isplitl [H2]; · iexact H2
  isplitl [H3]; · iexact H3
  iintro ⟨H2, H3⟩
  dsimp only
  rw [wp_bind]
  iapply (part11_run (B2 c (i 0)) (B3 c (i 0)) (B4 c (i 0)) c i arg2 harg2 arg3 harg3 arg4 harg4 arg5 harg5 _ _ _ _ _ _ _ _  _)
  isplitl [H2]; · iexact H2
  isplitl [H3]; · iexact H3
  isplitl [H4]; · iexact H4
  iintro ⟨H2, H3, H4⟩
  dsimp only
  rw [wp_bind]
  iapply (part12_run ((partsOf B2 B3 B4).m c) ((partsOf B2 B3 B4).l c) (B4 c (i 0)) c i arg2 harg2 arg3 harg3 arg4 harg4 arg5 harg5 _ _ _ _ _ _ _ _ (fill_m0 B2 B3 B4 c (i 0)) (fill_l0 B2 B3 B4 c (i 0)) _)
  isplitl [H4]; · iexact H4
  isplitl [Hpm]; · iexact Hpm
  isplitl [Hpl]; · iexact Hpl
  iintro ⟨H4, Hpm, Hpl⟩
  dsimp only
  rw [wp_bind]
  iapply (part13_run ((partsOf B2 B3 B4).o c) (B2 c (i 0)) (B3 c (i 0)) c i arg2 harg2 arg3 harg3 arg4 harg4 arg5 harg5 _ _ _ (fill_o0 B2 B3 B4 c (i 0)) _)
  isplitl [Hpo]; · iexact Hpo
  isplitl [H2]; · iexact H2
  isplitl [H3]; · iexact H3
  iintro ⟨Hpo, H2, H3⟩
  dsimp only
  rw [wp_bind]
  iapply (part14_run (B2 c (i 0)) (B3 c (i 0)) c i arg2 harg2 arg3 harg3 arg4 harg4 arg5 harg5 _ _  _)
  isplitl [H2]; · iexact H2
  isplitl [H3]; · iexact H3
  iintro ⟨H2, H3⟩
  dsimp only
  rw [wp_bind]
  iapply (part15_run (B2 c (i 0)) (B3 c (i 0)) (B4 c (i 0)) c i arg2 harg2 arg3 harg3 arg4 harg4 arg5 harg5 _ _ _ _ _ _ _ _  _)
  isplitl [H2]; · iexact H2
  isplitl [H3]; · iexact H3
  isplitl [H4]; · iexact H4
  iintro ⟨H2, H3, H4⟩
  dsimp only
  rw [wp_bind]
  iapply (part16_run ((partsOf B2 B3 B4).m c) ((partsOf B2 B3 B4).l c) (B4 c (i 0)) c i arg2 harg2 arg3 harg3 arg4 harg4 arg5 harg5 _ _ _ _ _ _ _ (fill_m1 B2 B3 B4 c (i 0)) _)
  isplitl [H4]; · iexact H4
  isplitl [Hpm]; · iexact Hpm
  isplitl [Hpl]; · iexact Hpl
  iintro ⟨H4, Hpm, Hpl⟩
  dsimp only
  simp only [Prog.lift, Prog.bind_op, Prog.bind_ret, Prog.pure_eq_ret, dif_neg hc]
  iapply (wp_st_rows1 c (2 * (i 0).val + 1) (k0_off2_eq i 1) (fill_l1 B2 B3 B4 c (i 0))) $$ Hpl; iintro Hpl
  iapply (wp_ld_rows64 c) $$ Hpo; iintro %v231 Hpo
  iapply (wp_st_rows64 c (2 * (i 0).val + 1) (k0_off3_eq i 1) (fill_o1 B2 B3 B4 c (i 0))) $$ Hpo; iintro Hpo
  rw [wp_ret]; imodintro
  iapply Hk
  isplitl [H2 H3 H4 Ht]
  · isplitl [H2]; · iexact H2
    isplitl [H3]; · iexact H3
    isplitl [H4]; · iexact H4
    iexact Ht
  isplitl [Hpm]; · iexact Hpm
  isplitl [Hpl]; · iexact Hpl
  iexact Hpo

/-- Equal programs run alike. -/
theorem wp_of_eq {c : Dev nD} {T T' : Prog (TpuEff nD τ sig (Elt F) Λ₀ .tc) PUnit} (h : T = T') {A : sProp 𝕄} {Φ : PUnit → sProp 𝕄}
    (hw : A ⊢ wp frame (wpE (defs₀ (F := F)) 𝒱₀ (c : Thread nD τ) none) Set.univ T' Φ) :
    A ⊢ wp frame (wpE (defs₀ (F := F)) 𝒱₀ (c : Thread nD τ) none) Set.univ T Φ := h ▸ hw

/-- An operation followed by a continuation is the operation's node. -/
theorem lift_bind {E : Type → Type} {α β : Type} (e : E α) (k : α → Prog E β) : (Prog.lift e >>= k) = Prog.op e k := rfl

set_option maxHeartbeats 2000000 in
/-- The last grid point: the last two rows, then the exchange. -/
theorem body_run_last (c : Dev nD) (i : grid0.Coords) (arg2 : Memref sig .tc .vmem S2x1x16x64 .f32) (harg2 : arg2.IsWhole) (arg3 : Memref sig .tc .vmem S2x8x64x1024 .f32) (harg3 : arg3.IsWhole)
    (arg4 : Memref sig .tc .vmem S2x8x64x1024 .f32) (harg4 : arg4.IsWhole) (arg5 : Memref sig .tc .vmem S16x1x16x64 .f32) (harg5 : arg5.IsWhole)
    (hc : k0_cond1 i = 1#1) (h7 : (i 0).val = 7) (Φ : PUnit → sProp 𝕄) :
    iprop(invs (partsOf B2 B3 B4) K ∗ levAts L lv ∗ ghost c ∗ atAll c ∗ openAll c ∗ ow c (O₀ c) ∗ someBufs c ∗ (∃ f, vp arg5 c fullShare f)
      ∗ wins B2 B3 B4 c (i 0) arg2 arg3 arg4 ∗ accBufs B2 B3 B4 c (i 0).val
      ∗ ((wins B2 B3 B4 c (i 0) arg2 arg3 arg4 ∗ ow c 0 ∗ partBufs (partsOf B2 B3 B4) c ∗ someBufs c ∗ semVal (barCell c) 0 ∗ zeroAll c
          ∗ owns (c : Thread nD τ) arg5 fullShare (result (partsOf B2 B3 B4) c)) -∗ Φ ⟨⟩))
      ⊢ wp frame (wpE (defs₀ (F := F)) 𝒱₀ (c : Thread nD τ) none) Set.univ
          (cc0_body (F := F) i (Memref.whole main_v7) (Memref.isWhole_whole _) arg2 harg2 arg3 harg3 arg4 harg4 arg5 harg5 pmM (Memref.isWhole_whole _) plM (Memref.isWhole_whole _) poM (Memref.isWhole_whole _) amM (Memref.isWhole_whole _) alM (Memref.isWhole_whole _) aoM (Memref.isWhole_whole _) rmM (Memref.isWhole_whole _) rlM (Memref.isWhole_whole _) roM (Memref.isWhole_whole _) cc0_scratch9 cc0_scratch10) Φ := by
  rw [cc0_body_eq_skeleton]
  unfold cc0_body_skel wins accBufs
  iintro ⟨#HI, #Hl, Hg, Hat, Hop, HO, Hsb, H5, ⟨H2, H3, H4, Ht⟩, ⟨Hpm, Hpl, Hpo⟩, Hk⟩
  rw [wp_bind]
  iapply (part9_run (B2 c (i 0)) (B3 c (i 0)) c i arg2 harg2 arg3 harg3 arg4 harg4 arg5 harg5   _)
  isplitl [Ht]; · iexact Ht
  isplitl [H2]; · iexact H2
  isplitl [H3]; · iexact H3
  iintro ⟨Ht, H2, H3⟩
  dsimp only
  rw [wp_bind]
  iapply (part10_run (B2 c (i 0)) (B3 c (i 0)) c i arg2 harg2 arg3 harg3 arg4 harg4 arg5 harg5 _  _)
  isplitl [H2]; · iexact H2
  isplitl [H3]; · iexact H3
  iintro ⟨H2, H3⟩
  dsimp only
  rw [wp_bind]
  iapply (part11_run (B2 c (i 0)) (B3 c (i 0)) (B4 c (i 0)) c i arg2 harg2 arg3 harg3 arg4 harg4 arg5 harg5 _ _ _ _ _ _ _ _  _)
  isplitl [H2]; · iexact H2
  isplitl [H3]; · iexact H3
  isplitl [H4]; · iexact H4
  iintro ⟨H2, H3, H4⟩
  dsimp only
  rw [wp_bind]
  iapply (part12_run ((partsOf B2 B3 B4).m c) ((partsOf B2 B3 B4).l c) (B4 c (i 0)) c i arg2 harg2 arg3 harg3 arg4 harg4 arg5 harg5 _ _ _ _ _ _ _ _ (fill_m0 B2 B3 B4 c (i 0)) (fill_l0 B2 B3 B4 c (i 0)) _)
  isplitl [H4]; · iexact H4
  isplitl [Hpm]; · iexact Hpm
  isplitl [Hpl]; · iexact Hpl
  iintro ⟨H4, Hpm, Hpl⟩
  dsimp only
  rw [wp_bind]
  iapply (part13_run ((partsOf B2 B3 B4).o c) (B2 c (i 0)) (B3 c (i 0)) c i arg2 harg2 arg3 harg3 arg4 harg4 arg5 harg5 _ _ _ (fill_o0 B2 B3 B4 c (i 0)) _)
  isplitl [Hpo]; · iexact Hpo
  isplitl [H2]; · iexact H2
  isplitl [H3]; · iexact H3
  iintro ⟨Hpo, H2, H3⟩
  dsimp only
  rw [wp_bind]
  iapply (part14_run (B2 c (i 0)) (B3 c (i 0)) c i arg2 harg2 arg3 harg3 arg4 harg4 arg5 harg5 _ _  _)
  isplitl [H2]; · iexact H2
  isplitl [H3]; · iexact H3
  iintro ⟨H2, H3⟩
  dsimp only
  rw [wp_bind]
  iapply (part15_run (B2 c (i 0)) (B3 c (i 0)) (B4 c (i 0)) c i arg2 harg2 arg3 harg3 arg4 harg4 arg5 harg5 _ _ _ _ _ _ _ _  _)
  isplitl [H2]; · iexact H2
  isplitl [H3]; · iexact H3
  isplitl [H4]; · iexact H4
  iintro ⟨H2, H3, H4⟩
  dsimp only
  rw [wp_bind]
  iapply (part16_run ((partsOf B2 B3 B4).m c) ((partsOf B2 B3 B4).l c) (B4 c (i 0)) c i arg2 harg2 arg3 harg3 arg4 harg4 arg5 harg5 _ _ _ _ _ _ _ (fill_m1 B2 B3 B4 c (i 0)) _)
  isplitl [H4]; · iexact H4
  isplitl [Hpm]; · iexact Hpm
  isplitl [Hpl]; · iexact Hpl
  iintro ⟨H4, Hpm, Hpl⟩
  dsimp only
  rw [dif_pos hc]
  rw [lift_bind]
  iapply (wp_st_rows1 c (2 * (i 0).val + 1) (k0_off2_eq i 1) (fill_l1 B2 B3 B4 c (i 0))) $$ Hpl; iintro Hpl
  rw [lift_bind]
  iapply (wp_ld_rows64 c) $$ Hpo; iintro %v231 Hpo
  rw [lift_bind]
  iapply (wp_st_rows64 c (2 * (i 0).val + 1) (k0_off3_eq i 1) (fill_o1 B2 B3 B4 c (i 0))) $$ Hpo; iintro Hpo
  ihave Hpm := (rows1_all pmM c _) $$ [Hpm]; · rw [h7]; iexact Hpm
  ihave Hpl := (rows1_all plM c _) $$ [Hpl]; · rw [h7]; iexact Hpl
  ihave Hpo := (rows64_all poM c _) $$ [Hpo]; · rw [h7]; iexact Hpo
  iapply (wp_of_eq (T' := talkProg i arg2 harg2 arg3 harg3 arg4 harg4 arg5 harg5 (ywd c) (chk_ywd i c) (Scalar.muli (ywd c) 8#32) hc) ?heq (talk_run (partsOf B2 B3 B4) K c i arg2 harg2 arg3 harg3 arg4 harg4 arg5 harg5 (chk_ywd i c) (Scalar.muli (ywd c) 8#32) hc _))
  case heq => unfold talkProg; dsimp only
  isplitr; · iexact HI
  isplitr; · iexact Hl
  isplitl [Hg]; · iexact Hg
  isplitl [Hat]; · iexact Hat
  isplitl [Hop]; · iexact Hop
  isplitl [HO]; · iexact HO
  isplitl [Hpm Hpl Hpo]
  · unfold partBufs
    isplitl [Hpm]; · iexact Hpm
    isplitl [Hpl]; · iexact Hpl
    iexact Hpo
  isplitl [Hsb]; · iexact Hsb
  isplitl [H5]; · iexact H5
  iintro ⟨HO, Hp, Hsb, HsB, Hz, H5⟩
  iapply Hk
  isplitl [H2 H3 H4 Ht]
  · isplitl [H2]; · iexact H2
    isplitl [H3]; · iexact H3
    isplitl [H4]; · iexact H4
    iexact Ht
  isplitl [HO]; · iexact HO
  isplitl [Hp]; · iexact Hp
  isplitl [Hsb]; · iexact Hsb
  isplitl [HsB]; · iexact HsB
  isplitl [Hz]; · iexact Hz
  iexact H5

end Cert.KernelIdeal.Talk
-- ==== Proof.Dat.lean ====
/- The proof data of the kernel's pipeline on each device, and its body obligation. -/
module

public import proofs.«01_k».proof.Proof.Body
public import proofs.«01_k».proof.Proof.Gen.KernelIdeal.Regions

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Gen

variable {F : FTy → Type} [FloatOps F]

local notation "𝕄" => MT nD τ sig Unit (Elt F) ℕ UU ℕ

/-! ## The prefetched table -/

/-- The prefetched table of device `c`: its column. -/
def tb (c : Dev nD) : pre0.Contents (Elt F)
  | ⟨0, _⟩ => fun _ => ywd c
  | ⟨_ + 1, h⟩ => absurd h (Nat.not_lt.2 (Nat.le_add_left _ _))

theorem ix1_eq (c : Dev nD) (i : grid0.Coords) : cc0_transform_1 inb_S1_S1_0 numel1_S1 (tb (F := F) c) i = ![(i 0).val, c.val % 2, 0, 0] := by
  have h1 : (BitVec.ofNat 32 (i 0).val).toNat = (i 0).val := by
    have := (i 0).isLt; change (i 0).val < 8 at this; rw [BitVec.toNat_ofNat]; omega
  have h2 : (ywd c).toNat = c.val % 2 := by revert c; decide
  funext a
  fin_cases a
  · exact h1
  · exact h2
  · rfl
  · rfl
theorem ix2_eq (c : Dev nD) (i : grid0.Coords) : cc0_transform_2 inb_S1_S1_0 numel1_S1 (tb (F := F) c) i = ![(i 0).val, c.val % 2, 0, 0] :=
  ix1_eq c i

theorem tb_inb (c : Dev nD) (i : grid0.Coords) (a : Fin 4) :
    ((![(i 0).val, c.val % 2, 0, 0] : Fin 4 → ℕ) a + 1) * S2x8x64x1024.size a ≤ S16x16x64x1024.size a := by
  have h := (i 0).isLt; change (i 0).val < 8 at h
  fin_cases a
  · show ((i 0).val + 1) * 2 ≤ 16; omega
  · show (c.val % 2 + 1) * 8 ≤ 16; omega
  · show (0 + 1) * 64 ≤ 64; omega
  · show (0 + 1) * 1024 ≤ 1024; omega

/-- The table's column is in range. -/
theorem ok_tb (c : Dev nD) : ok0 (F := F) (tb c) :=
  ⟨fun i => ⟨by rw [ix1_eq]; exact tb_inb c i, .inl rfl⟩, fun i => ⟨by rw [ix2_eq]; exact tb_inb c i, .inl rfl⟩⟩

/-- The admissible table of each device. -/
def adm (c : Dev nD) (p : Fin 1) : (pcfgs (F := F) p).Adm := ⟨tb c, ok_tb c⟩

/-- The pipeline of device `c`. -/
abbrev cf (c : Dev nD) : Pipeline.Cfg sig Λ₀ := cfg0 (F := F) (adm c 0)

variable (m : (ℓ : Loc nD τ sig) → Buf (Elt F) ℓ)

/-! ## The blocks the windows read -/

/-- The block of window `w` at grid point `n` of device `c`, as the host operations leave the array. -/
def blkAt (c : Dev nD) (w : Fin 4) (t : Fin grid0.N) :=
  (((cf (F := F) c).win w).blk t).view.read (Elt F) (V1 m c (Pipeline.arrRef spec0 w))

def B2 (c : Dev nD) (n : Fin 8) : S2x1x16x64.Idx → Elt F .f32 := blkAt m c 0 (n.cast N_0.symm)
def B3 (c : Dev nD) (n : Fin 8) : S2x8x64x1024.Idx → Elt F .f32 := blkAt m c 1 (n.cast N_0.symm)
def B4 (c : Dev nD) (n : Fin 8) : S2x8x64x1024.Idx → Elt F .f32 := blkAt m c 2 (n.cast N_0.symm)

/-- The partial results of all devices. -/
abbrev Pm : Parts F := partsOf (B2 m) (B3 m) (B4 m)

/-! ## The proof data -/

/-- The invariant before the grid point `n` below the end. -/
def phiMid (c : Dev nD) (n : ℕ) : sProp 𝕄 :=
  iprop((∃ K, invs (Pm m) K) ∗ levAts L lv ∗ ghost c ∗ atAll c ∗ openAll c ∗ someBufs c ∗ accBufs (B2 m) (B3 m) (B4 m) c n ∗ tblAt c)
/-- The invariant at the end. -/
def phiEnd (c : Dev nD) : sProp 𝕄 :=
  iprop(partBufs (Pm m) c ∗ someBufs c ∗ semVal (barCell c) 0 ∗ zeroAll c ∗ tblAt c)

def dat (c : Dev nD) : Dat τ (Elt F) Unit ℕ UU ℕ (cf (F := F) c) c where
  A w := V1 m c (Pipeline.arrRef spec0 w)
  after w t := match w with
    | ⟨0, _⟩ => B2 m c (t.cast N_0)
    | ⟨1, _⟩ => B3 m c (t.cast N_0)
    | ⟨2, _⟩ => B4 m c (t.cast N_0)
    | ⟨3, _⟩ => result (Pm m) c
    | ⟨_ + 4, h⟩ => absurd h (Nat.not_lt.2 (Nat.le_add_left _ _))
  Φ t := if t.val < 8 then phiMid m c t.val else phiEnd m c
  q _ := fullShare
  owed t := if t.val < 8 then O₀ c else 0

theorem A_eq (c : Dev nD) (w : Fin 4) : (dat m c).A w = V1 m c (Pipeline.arrRef spec0 w) := by dsimp only [dat]
theorem after_0 (c : Dev nD) (t : Fin grid0.N) : (dat m c).after 0 t = B2 m c (t.cast N_0) := rfl
theorem after_1 (c : Dev nD) (t : Fin grid0.N) : (dat m c).after 1 t = B3 m c (t.cast N_0) := rfl
theorem after_2 (c : Dev nD) (t : Fin grid0.N) : (dat m c).after 2 t = B4 m c (t.cast N_0) := rfl
theorem after_3 (c : Dev nD) (t : Fin grid0.N) : (dat m c).after 3 t = result (Pm m) c := rfl
theorem phi_mid (c : Dev nD) (t : Fin (grid0.N + 1)) (h : t.val < 8) : (dat m c).Φ t = phiMid m c t.val := by dsimp only [dat]; exact if_pos h
theorem phi_end (c : Dev nD) (t : Fin (grid0.N + 1)) (h : ¬ t.val < 8) : (dat m c).Φ t = phiEnd m c := by dsimp only [dat]; exact if_neg h
theorem owed_mid (c : Dev nD) (t : Fin (grid0.N + 1)) (h : t.val < 8) : (dat m c).owed t = O₀ c := by dsimp only [dat]; exact if_pos h
theorem owed_end (c : Dev nD) (t : Fin (grid0.N + 1)) (h : ¬ t.val < 8) : (dat m c).owed t = 0 := by dsimp only [dat]; exact if_neg h

theorem coords_zero (t : Fin grid0.N) : (grid0.coords t) 0 = t.cast N_0 := by
  rcases fin_N0 t with h | h | h | h | h | h | h | h <;> subst h <;> exact Fin.ext (by decide)

theorem coords_ne (t : Fin grid0.N) (h : 0 < t.val) :
    ((grid0.coords t) 0).val ≠ ((grid0.coords ⟨t.val - 1, by omega⟩) 0).val := by
  rw [coords_zero, coords_zero]; show t.val ≠ t.val - 1; omega

theorem ix0_eq (i : grid0.Coords) : cc0_transform_0 i 0 = (i 0).val := by
  have := (i 0).isLt; change (i 0).val < 8 at this
  show (BitVec.ofNat 32 (i 0).val).toNat = _
  rw [BitVec.toNat_ofNat]; omega

theorem fetch_of (G : Pipeline.Grid) {n : ℕ} (ix : G.Coords → Fin n → ℕ) (t : Fin G.N)
    (h : ∀ h0 : 0 < t.val, ix (G.coords t) ≠ ix (G.coords ⟨t.val - 1, by omega⟩)) :
    Pipeline.Window.fetchOf G false ix t = true := by
  unfold Pipeline.Window.fetchOf
  rcases Nat.eq_zero_or_pos t.val with h0 | h0
  · simp [h0]
  · have : decide (∃ h : 0 < t.val, ix (G.coords t) ≠ ix (G.coords ⟨t.val - 1, by omega⟩)) = true := decide_eq_true ⟨h0, h h0⟩
    rw [this]; simp

/-- Each input window is fetched at every grid point. -/
theorem fetched_0 (c : Dev nD) (t : Fin grid0.N) : ((cf (F := F) c).win 0).fetch t = true :=
  fetch_of grid0 cc0_transform_0 t fun h0 h => coords_ne t h0 (by have := congrFun h 0; rwa [ix0_eq, ix0_eq] at this)
theorem fetched_1 (c : Dev nD) (t : Fin grid0.N) : ((cf (F := F) c).win 1).fetch t = true :=
  fetch_of grid0 (cc0_transform_1 inb_S1_S1_0 numel1_S1 (tb (F := F) c)) t fun h0 h => coords_ne t h0 (by
    rw [ix1_eq, ix1_eq] at h; exact congrFun h 0)
theorem fetched_2 (c : Dev nD) (t : Fin grid0.N) : ((cf (F := F) c).win 2).fetch t = true :=
  fetch_of grid0 (cc0_transform_2 inb_S1_S1_0 numel1_S1 (tb (F := F) c)) t fun h0 h => coords_ne t h0 (by
    rw [ix2_eq, ix2_eq] at h; exact congrFun h 0)

theorem before_0 (c : Dev nD) (t : Fin grid0.N) (d) : (dat m c).before 0 t d = B2 m c (t.cast N_0) := by
  unfold Dat.before; exact if_pos (fetched_0 c t)
theorem before_1 (c : Dev nD) (t : Fin grid0.N) (d) : (dat m c).before 1 t d = B3 m c (t.cast N_0) := by
  unfold Dat.before; exact if_pos (fetched_1 c t)
theorem before_2 (c : Dev nD) (t : Fin grid0.N) (d) : (dat m c).before 2 t d = B4 m c (t.cast N_0) := by
  unfold Dat.before; exact if_pos (fetched_2 c t)

/-! ## The output window -/

/-- The body leaves the output alone except at the last grid point. -/
theorem idle_3 (c : Dev nD) (t : Fin grid0.N) : (cf (F := F) c).idle 3 (grid0.coords t) = decide (t.val < 7) := by
  show idle0 3 (grid0.coords t) = _
  rcases fin_N0 t with h | h | h | h | h | h | h | h <;> subst h <;> decide
theorem cond_last (t : Fin grid0.N) (h : t.val = 7) : k0_cond1 (grid0.coords t) = 1#1 := by
  rcases fin_N0 t with h' | h' | h' | h' | h' | h' | h' | h' <;> subst h' <;> first | decide | exact absurd h (by decide)
theorem cond_mid (t : Fin grid0.N) (h : t.val ≠ 7) : ¬ k0_cond1 (grid0.coords t) = 1#1 := by
  rcases fin_N0 t with h' | h' | h' | h' | h' | h' | h' | h' <;> subst h' <;> first | decide | exact absurd rfl h
/-- The output is written back at the last grid point alone. -/
theorem flush_3 (c : Dev nD) (t : Fin grid0.N) : ((cf (F := F) c).win 3).flush t = decide (t.val = 7) := by
  rw [Pipeline.Window.flush_eq_flushOf]
  show Pipeline.Window.flushOf grid0 true cc0_transform_3 t = _
  rcases fin_N0 t with h | h | h | h | h | h | h | h <;> subst h <;> decide +kernel

/-! ## The body obligation -/

theorem owesAt_of (c : Dev nD) (t : Fin (grid0.N + 1)) (O) (h0 : (dat m c).owed t = O) : (ow c O : sProp 𝕄) ⊢ (dat m c).owesAt () t := by
  unfold Dat.owesAt Pipeline.owesWithin Dat.bound ow
  rw [h0]
  iintro ⟨%W, HO⟩; iexists W
  isplitr
  · ipureintro; exact fun _ _ => Or.inl trivial
  iexact HO
theorem owesAt_to (c : Dev nD) (t : Fin (grid0.N + 1)) (O) (h0 : (dat m c).owed t = O) : (dat m c).owesAt () t ⊢ (ow c O : sProp 𝕄) := by
  unfold Dat.owesAt Pipeline.owesWithin ow
  rw [h0]
  iintro ⟨%W, -, HO⟩; iexists W; iexact HO

/-- The stage of window `w` at grid point `t`. -/
abbrev st (c : Dev nD) (w : Fin 4) (t : Fin grid0.N) := ((cf (F := F) c).win w).stage ((cf (F := F) c).slots t w)

/-- The body at grid point `t`. -/
def bodyAt (c : Dev nD) (t : Fin grid0.N) : Prog (TpuEff nD τ sig (Elt F) Λ₀ .tc) PUnit :=
  defs₀ .tc (cf (F := F) c).body ((cf (F := F) c).bodyArgs t ((cf (F := F) c).slots t))

theorem body_mid (c : Dev nD) (t : Fin grid0.N) (h : t.val ≠ 7) (Φ : PUnit → sProp 𝕄) :
    iprop(wins (B2 m) (B3 m) (B4 m) c ((grid0.coords t) 0) (st (F := F) c 0 t) (st (F := F) c 1 t) (st (F := F) c 2 t) ∗ accBufs (B2 m) (B3 m) (B4 m) c ((grid0.coords t) 0).val
      ∗ ((wins (B2 m) (B3 m) (B4 m) c ((grid0.coords t) 0) (st (F := F) c 0 t) (st (F := F) c 1 t) (st (F := F) c 2 t) ∗ accBufs (B2 m) (B3 m) (B4 m) c (((grid0.coords t) 0).val + 1)) -∗ Φ ⟨⟩))
      ⊢ wp frame (wpE (defs₀ (F := F)) 𝒱₀ (c : Thread nD τ) none) Set.univ (bodyAt (F := F) c t) Φ :=
  body_run_mid (B2 m) (B3 m) (B4 m) c (grid0.coords t) _ _ _ _ _ _ _ _ (cond_mid t h) Φ

theorem body_last (K : GSem nD τ sig → ℕ) (c : Dev nD) (t : Fin grid0.N) (h : t.val = 7) (Φ : PUnit → sProp 𝕄) :
    iprop(invs (Pm m) K ∗ levAts L lv ∗ ghost c ∗ atAll c ∗ openAll c ∗ ow c (O₀ c) ∗ someBufs c ∗ (∃ f, vp (st (F := F) c 3 t) c fullShare f)
      ∗ wins (B2 m) (B3 m) (B4 m) c ((grid0.coords t) 0) (st (F := F) c 0 t) (st (F := F) c 1 t) (st (F := F) c 2 t) ∗ accBufs (B2 m) (B3 m) (B4 m) c ((grid0.coords t) 0).val
      ∗ ((wins (B2 m) (B3 m) (B4 m) c ((grid0.coords t) 0) (st (F := F) c 0 t) (st (F := F) c 1 t) (st (F := F) c 2 t) ∗ ow c 0 ∗ partBufs (Pm m) c ∗ someBufs c ∗ semVal (barCell c) 0 ∗ zeroAll c
          ∗ owns (c : Thread nD τ) (st (F := F) c 3 t) fullShare (result (Pm m) c)) -∗ Φ ⟨⟩))
      ⊢ wp frame (wpE (defs₀ (F := F)) 𝒱₀ (c : Thread nD τ) none) Set.univ (bodyAt (F := F) c t) Φ :=
  body_run_last K (B2 m) (B3 m) (B4 m) c (grid0.coords t) _ _ _ _ _ _ _ _ (cond_last t h) (by rw [coords_zero]; exact h) Φ

/-- What the body returns of the output's buffer. -/
def outPost (c : Dev nD) (t : Fin grid0.N) : sProp 𝕄 :=
  match (cf (F := F) c).idle 3 (grid0.coords t) with
  | true =>
    match ((cf (F := F) c).win 3).flush t with
    | false => iprop(∃ d, owns (c : Thread nD τ) (st (F := F) c 3 t) fullShare ((dat m c).before 3 t d))
    | true => owns (c : Thread nD τ) (st (F := F) c 3 t) fullShare ((dat m c).after 3 t)
  | false => owns (c : Thread nD τ) (st (F := F) c 3 t) fullShare ((dat m c).after 3 t)

theorem outPost_mid (c : Dev nD) (t : Fin grid0.N) (h : t.val < 7) :
    outPost m c t = iprop(∃ d, owns (c : Thread nD τ) (st (F := F) c 3 t) fullShare ((dat m c).before 3 t d)) := by
  unfold outPost
  rw [idle_3, flush_3, decide_eq_true h, decide_eq_false (by omega)]
theorem outPost_last (c : Dev nD) (t : Fin grid0.N) (h : t.val = 7) :
    outPost m c t = owns (c : Thread nD τ) (st (F := F) c 3 t) fullShare (result (Pm m) c) := by
  unfold outPost
  rw [idle_3, decide_eq_false (by omega)]
  rfl

/-- What the body starts from. -/
def bodyPre (c : Dev nD) (t : Fin grid0.N) : sProp 𝕄 :=
  iprop((dat m c).Φ t.castSucc ∗ (dat m c).owesAt () t.castSucc
    ∗ (∃ d, owns (c : Thread nD τ) (st (F := F) c 0 t) fullShare ((dat m c).before 0 t d))
    ∗ (∃ d, owns (c : Thread nD τ) (st (F := F) c 1 t) fullShare ((dat m c).before 1 t d))
    ∗ (∃ d, owns (c : Thread nD τ) (st (F := F) c 2 t) fullShare ((dat m c).before 2 t d))
    ∗ (∃ d, owns (c : Thread nD τ) (st (F := F) c 3 t) fullShare ((dat m c).before 3 t d)))
/-- What the body ends with. -/
def bodyPost (c : Dev nD) (t : Fin grid0.N) : sProp 𝕄 :=
  iprop((dat m c).Φ t.succ ∗ (dat m c).owesAt () t.succ
    ∗ owns (c : Thread nD τ) (st (F := F) c 0 t) fullShare ((dat m c).after 0 t)
    ∗ owns (c : Thread nD τ) (st (F := F) c 1 t) fullShare ((dat m c).after 1 t)
    ∗ owns (c : Thread nD τ) (st (F := F) c 2 t) fullShare ((dat m c).after 2 t)
    ∗ outPost m c t)

/-- The windows from the body's four resources. -/
theorem wins_intro (c : Dev nD) (t : Fin grid0.N) :
    iprop((∃ d, owns (c : Thread nD τ) (st (F := F) c 0 t) fullShare ((dat m c).before 0 t d))
    ∗ (∃ d, owns (c : Thread nD τ) (st (F := F) c 1 t) fullShare ((dat m c).before 1 t d))
    ∗ (∃ d, owns (c : Thread nD τ) (st (F := F) c 2 t) fullShare ((dat m c).before 2 t d)) ∗ tblAt c)
    ⊢ (wins (B2 m) (B3 m) (B4 m) c ((grid0.coords t) 0) (st (F := F) c 0 t) (st (F := F) c 1 t) (st (F := F) c 2 t) : sProp 𝕄) := by
  unfold wins
  rw [coords_zero]
  iintro ⟨⟨%d0, H0⟩, ⟨%d1, H1⟩, ⟨%d2, H2⟩, Ht⟩
  rw [before_0, before_1, before_2]
  isplitl [H0]; · iexact H0
  isplitl [H1]; · iexact H1
  isplitl [H2]; · iexact H2
  iexact Ht
theorem wins_elim (c : Dev nD) (t : Fin grid0.N) :
    (wins (B2 m) (B3 m) (B4 m) c ((grid0.coords t) 0) (st (F := F) c 0 t) (st (F := F) c 1 t) (st (F := F) c 2 t) : sProp 𝕄)
    ⊢ iprop(owns (c : Thread nD τ) (st (F := F) c 0 t) fullShare ((dat m c).after 0 t)
    ∗ owns (c : Thread nD τ) (st (F := F) c 1 t) fullShare ((dat m c).after 1 t)
    ∗ owns (c : Thread nD τ) (st (F := F) c 2 t) fullShare ((dat m c).after 2 t) ∗ tblAt c) := by
  unfold wins
  rw [coords_zero]
  exact .rfl

set_option maxHeartbeats 1000000 in
theorem step_mid (c : Dev nD) (t : Fin grid0.N) (h : t.val < 7) :
    bodyPre m c t ⊢ wp frame (wpE (defs₀ (F := F)) 𝒱₀ (c : Thread nD τ) none) Set.univ (bodyAt (F := F) c t) (fun _ => bodyPost m c t) := by
  unfold bodyPre
  rw [phi_mid m c t.castSucc (by show t.val < 8; omega)]
  unfold phiMid
  iintro ⟨⟨HI, Hl, Hg, Hat, Hop, Hsb, Hacc, Ht⟩, HO, H0, H1, H2, H3⟩
  iapply (body_mid m c t (by omega) _)
  isplitl [H0 H1 H2 Ht]
  · iapply (wins_intro m c t)
    isplitl [H0]; · iexact H0
    isplitl [H1]; · iexact H1
    isplitl [H2]; · iexact H2
    iexact Ht
  rw [show ((grid0.coords t) 0).val = t.castSucc.val from by rw [coords_zero]; rfl]
  isplitl [Hacc]; · iexact Hacc
  iintro ⟨Hw, Hacc⟩
  ihave Hw := (wins_elim m c t) $$ Hw
  icases Hw with ⟨H0, H1, H2, Ht⟩
  unfold bodyPost
  rw [phi_mid m c t.succ (by show t.val + 1 < 8; omega), outPost_mid m c t h]
  unfold phiMid
  isplitl [HI Hl Hg Hat Hop Hsb Hacc Ht]
  · isplitl [HI]; · iexact HI
    isplitl [Hl]; · iexact Hl
    isplitl [Hg]; · iexact Hg
    isplitl [Hat]; · iexact Hat
    isplitl [Hop]; · iexact Hop
    isplitl [Hsb]; · iexact Hsb
    isplitl [Hacc]; · iexact Hacc
    iexact Ht
  isplitl [HO]
  · ihave HO := (owesAt_to m c t.castSucc (O₀ c) (owed_mid m c _ (by show t.val < 8; omega))) $$ HO
    iapply (owesAt_of m c t.succ (O₀ c) (owed_mid m c _ (by show t.val + 1 < 8; omega)))
    iexact HO
  isplitl [H0]; · iexact H0
  isplitl [H1]; · iexact H1
  isplitl [H2]; · iexact H2
  iexact H3

theorem vp_of_owns (M : Memref sig .tc .vmem S16x1x16x64 .f32) (c : Dev nD) (X) :
    owns (c : Thread nD τ) M fullShare X ⊢ (iprop(∃ f, vp M c fullShare f) : sProp 𝕄) := by
  unfold owns vp
  iintro ⟨%f, -, H⟩
  iexists f; iexact H

set_option maxHeartbeats 1000000 in
theorem step_last (c : Dev nD) (t : Fin grid0.N) (h : t.val = 7) :
    bodyPre m c t ⊢ wp frame (wpE (defs₀ (F := F)) 𝒱₀ (c : Thread nD τ) none) Set.univ (bodyAt (F := F) c t) (fun _ => bodyPost m c t) := by
  unfold bodyPre
  rw [phi_mid m c t.castSucc (by show t.val < 8; omega)]
  unfold phiMid
  iintro ⟨⟨⟨%K, HI⟩, Hl, Hg, Hat, Hop, Hsb, Hacc, Ht⟩, HO, H0, H1, H2, ⟨%d3, H3⟩⟩
  iapply (body_last m K c t h _)
  isplitl [HI]; · iexact HI
  isplitl [Hl]; · iexact Hl
  isplitl [Hg]; · iexact Hg
  isplitl [Hat]; · iexact Hat
  isplitl [Hop]; · iexact Hop
  isplitl [HO]
  · iapply (owesAt_to m c t.castSucc (O₀ c) (owed_mid m c _ (by show t.val < 8; omega)))
    iexact HO
  isplitl [Hsb]; · iexact Hsb
  isplitl [H3]
  · iapply (vp_of_owns (st (F := F) c 3 t) c _); iexact H3
  isplitl [H0 H1 H2 Ht]
  · iapply (wins_intro m c t)
    isplitl [H0]; · iexact H0
    isplitl [H1]; · iexact H1
    isplitl [H2]; · iexact H2
    iexact Ht
  rw [show ((grid0.coords t) 0).val = t.castSucc.val from by rw [coords_zero]; rfl]
  isplitl [Hacc]; · iexact Hacc
  iintro ⟨Hw, HO, Hp, Hsb, Hv, Hz, H3⟩
  ihave Hw := (wins_elim m c t) $$ Hw
  icases Hw with ⟨H0, H1, H2, Ht⟩
  unfold bodyPost
  rw [phi_end m c t.succ (by show ¬ t.val + 1 < 8; omega), outPost_last m c t h]
  unfold phiEnd
  isplitl [Hp Hsb Hv Hz Ht]
  · isplitl [Hp]; · iexact Hp
    isplitl [Hsb]; · iexact Hsb
    isplitl [Hv]; · iexact Hv
    isplitl [Hz]; · iexact Hz
    iexact Ht
  isplitl [HO]
  · iapply (owesAt_of m c t.succ 0 (owed_end m c _ (by show ¬ t.val + 1 < 8; omega)))
    iexact HO
  isplitl [H0]; · iexact H0
  isplitl [H1]; · iexact H1
  isplitl [H2]; · iexact H2
  iexact H3

set_option maxHeartbeats 1000000 in
/-- The body obligation of each device's pipeline. -/
theorem body_ob (c : Dev nD) : BodyObligation (dat m c) (defs₀ (F := F)) 𝒱₀ () Set.univ := fun t => by
  have ht : t.val < 8 := lt_of_lt_of_eq t.isLt N_0
  rw [show (bigSep Finset.univ fun w => _) = _ from bigSep_W0 _, show (bigSep Finset.univ fun w => _) = _ from bigSep_W0 _]
  show bodyPre m c t ⊢ wp frame (wpE (defs₀ (F := F)) 𝒱₀ (c : Thread nD τ) none) Set.univ (bodyAt (F := F) c t) (fun _ => bodyPost m c t)
  by_cases h : t.val = 7
  · exact step_last m c t h
  · exact step_mid m c t (by omega)

end Cert.KernelIdeal.Talk
-- ==== Proof.Region.lean ====
/- The kernel's region as a segment of the program: entered from the launch's ghost state, left with the result written. -/
module

public import proofs.«01_k».proof.Proof.Dat
public import Idealize.ShloMosaic.Lib.Rounds.Family

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-- The proof data of the program's one pipeline. -/
def pd (p : Fin 1) (c : Dev nD) : Dat τ (Elt F) Unit ℕ UU ℕ (Pipeline.pinD (pcfgs (F := F)) adm c p) c :=
  match p with
  | ⟨0, _⟩ => dat m c
  | ⟨_ + 1, h⟩ => absurd h (Nat.not_lt.2 (Nat.le_add_left _ _))

/-! ## The eighteen DMA cells, listed -/

theorem bigSep_18 (Φ : Fin 18 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17) :=
  bigSep_univ_eq_bigSepL [(0 : Fin 18), 1, 2, 3, 4, 5, 6, 7, 8, 9, 10, 11, 12, 13, 14, 15, 16, 17] (by decide) (by decide) Φ
theorem atAll_eq (c : Dev nD) : (atAll c : sProp 𝕄) = bigSep Finset.univ fun n : Fin 18 => atPos ER (dcell c n) 0 ∅ 0 := by
  rw [bigSep_18]; rfl
theorem openAll_eq (c : Dev nD) : (openAll c : sProp 𝕄) = bigSep Finset.univ fun n : Fin 18 => reached ER (dcell c n) 0 := by
  rw [bigSep_18]; rfl
theorem zeroAll_eq (c : Dev nD) : (zeroAll c : sProp 𝕄) = Pipeline.ownSems0 osem c := by
  unfold Pipeline.ownSems0
  rw [bigSep_18]; rfl

/-! ## The thread state around the region -/

/-- The protocol's ghost state of device `c` at launch: its DMA cells dormant. -/
def start (c : Dev nD) : sProp 𝕄 :=
  iprop((∃ K, invs (Pm m) K) ∗ ghost c ∗ bigSep Finset.univ fun n : Fin 18 => openTok ER (dcell c n))

/-- The buffers after the region. -/
abbrev VE (c : Dev nD) : Valuation τ sig (Elt F) := V2 m (fun _ r c => if h : r = main_v8 then h ▸ result (Pm m) c else V1 m c r) c

theorem VE_v8 (c : Dev nD) : VE m c main_v8 = result (Pm m) c := by
  simp only [VE, V2, Function.update_self, dif_pos]

theorem tbl_V1 (c : Dev nD) : V1 m c main_v7 = fun _ => ywd c := by
  have h : V1 m c main_v7 = broadcastInDim S1 ![] bcast_S_S1 (Host.remui (Host.divui (constantI S_ 32 (Dev.word c)) (constantI S_ 32 1#32)) (constantI S_ 32 2#32)) := by
    after_results
    rfl
  rw [h]
  funext i
  have hc : Dev.word c / 1#32 % 2#32 = ywd c := by clear h; revert c; decide
  show IntOp.remui .host (IntOp.divui .host (Dev.word c) 1#32) 2#32 = ywd c
  unfold IntOp.remui IntOp.divui
  rw [if_neg (by decide), if_neg (by decide)]
  exact hc

theorem own_eq (c : Dev nD) : (Pipeline.ownSems0 osem c : sProp 𝕄) = bigSep Finset.univ fun n : Fin 18 => semVal (dcell c n) 0 := rfl

/-- The dormant DMA cells opened. -/
theorem open_cells (c : Dev nD) :
    iprop(start m c ∗ Pipeline.ownSems0 osem c) ⊢ (|={Set.univ}=> iprop((∃ K, invs (Pm m) K) ∗ ghost c ∗ atAll c ∗ openAll c) : sProp 𝕄) := by
  unfold start
  iintro ⟨⟨⟨%K, #HI⟩, Hg, Ho⟩, Hz⟩
  imod (Rounds.cells_open ER (Rd (Pm m)) Finset.univ (fun n : Fin 18 => dcell c n) (fun n => K (dcell c n)) (fun _ _ => Set.mem_univ _)) $$ [Ho Hz] with H
  · isplitl [Ho]
    · iapply (bigSep_with_persistent (R := invs (Pm m) K) (Φ := fun n : Fin 18 => openTok ER (dcell c n)) fun n _ => sep_mono (inv_dma (Pm m) K c n) .rfl)
      isplitr; · iexact HI
      iexact Ho
    · iapply (Entails.of_eq (own_eq c)); iexact Hz
  ihave H2 := (Entails.of_eq (bigSep_sep' _ _ _)) $$ H
  icases H2 with ⟨Hat, Hr⟩
  rw [atAll_eq, openAll_eq]
  imodintro
  isplitr
  · iexists K; iexact HI
  isplitl [Hg]; · iexact Hg
  isplitl [Hat]; · iexact Hat
  iexact Hr

/-- A whole buffer at some contents. -/
theorem some_intro (b : Ref sig .tc) (c : Dev nD) :
    (iprop(∃ f : Buf (Elt F) ((c : Thread nD τ).loc b), ((c : Thread nD τ).loc b) ↦{fullShare} f) : sProp 𝕄)
      ⊢ iprop(∃ f, (Memref.whole b).view.loc (c : Thread nD τ) ↦[(Memref.whole b).view.set]{fullShare} f) := by
  simp only [Memref.view_whole, View.set_whole]; exact .rfl
theorem some_elim (b : Ref sig .tc) (c : Dev nD) :
    (iprop(∃ f, (Memref.whole b).view.loc (c : Thread nD τ) ↦[(Memref.whole b).view.set]{fullShare} f) : sProp 𝕄)
      ⊢ iprop(∃ f : Buf (Elt F) ((c : Thread nD τ).loc b), ((c : Thread nD τ).loc b) ↦{fullShare} f) := by
  simp only [Memref.view_whole, View.set_whole]; exact .rfl

theorem in0 (c : Dev nD) : (iprop(∃ f : Buf (Elt F) ((c : Thread nD τ).loc cc0_scratch0), ((c : Thread nD τ).loc cc0_scratch0) ↦{fullShare} f) : sProp 𝕄) ⊢ iprop(∃ f, vp pmM c fullShare f) := some_intro cc0_scratch0 c
theorem out0 (c : Dev nD) : (iprop(∃ f, vp pmM c fullShare f) : sProp 𝕄) ⊢ iprop(∃ f : Buf (Elt F) ((c : Thread nD τ).loc cc0_scratch0), ((c : Thread nD τ).loc cc0_scratch0) ↦{fullShare} f) := some_elim cc0_scratch0 c
theorem in1 (c : Dev nD) : (iprop(∃ f : Buf (Elt F) ((c : Thread nD τ).loc cc0_scratch1), ((c : Thread nD τ).loc cc0_scratch1) ↦{fullShare} f) : sProp 𝕄) ⊢ iprop(∃ f, vp plM c fullShare f) := some_intro cc0_scratch1 c
theorem out1 (c : Dev nD) : (iprop(∃ f, vp plM c fullShare f) : sProp 𝕄) ⊢ iprop(∃ f : Buf (Elt F) ((c : Thread nD τ).loc cc0_scratch1), ((c : Thread nD τ).loc cc0_scratch1) ↦{fullShare} f) := some_elim cc0_scratch1 c
theorem in2 (c : Dev nD) : (iprop(∃ f : Buf (Elt F) ((c : Thread nD τ).loc cc0_scratch2), ((c : Thread nD τ).loc cc0_scratch2) ↦{fullShare} f) : sProp 𝕄) ⊢ iprop(∃ f, vp poM c fullShare f) := some_intro cc0_scratch2 c
theorem out2 (c : Dev nD) : (iprop(∃ f, vp poM c fullShare f) : sProp 𝕄) ⊢ iprop(∃ f : Buf (Elt F) ((c : Thread nD τ).loc cc0_scratch2), ((c : Thread nD τ).loc cc0_scratch2) ↦{fullShare} f) := some_elim cc0_scratch2 c
theorem in3 (c : Dev nD) : (iprop(∃ f : Buf (Elt F) ((c : Thread nD τ).loc cc0_scratch3), ((c : Thread nD τ).loc cc0_scratch3) ↦{fullShare} f) : sProp 𝕄) ⊢ iprop(∃ f, vp amM c fullShare f) := some_intro cc0_scratch3 c
theorem out3 (c : Dev nD) : (iprop(∃ f, vp amM c fullShare f) : sProp 𝕄) ⊢ iprop(∃ f : Buf (Elt F) ((c : Thread nD τ).loc cc0_scratch3), ((c : Thread nD τ).loc cc0_scratch3) ↦{fullShare} f) := some_elim cc0_scratch3 c
theorem in4 (c : Dev nD) : (iprop(∃ f : Buf (Elt F) ((c : Thread nD τ).loc cc0_scratch4), ((c : Thread nD τ).loc cc0_scratch4) ↦{fullShare} f) : sProp 𝕄) ⊢ iprop(∃ f, vp alM c fullShare f) := some_intro cc0_scratch4 c
theorem out4 (c : Dev nD) : (iprop(∃ f, vp alM c fullShare f) : sProp 𝕄) ⊢ iprop(∃ f : Buf (Elt F) ((c : Thread nD τ).loc cc0_scratch4), ((c : Thread nD τ).loc cc0_scratch4) ↦{fullShare} f) := some_elim cc0_scratch4 c
theorem in5 (c : Dev nD) : (iprop(∃ f : Buf (Elt F) ((c : Thread nD τ).loc cc0_scratch5), ((c : Thread nD τ).loc cc0_scratch5) ↦{fullShare} f) : sProp 𝕄) ⊢ iprop(∃ f, vp aoM c fullShare f) := some_intro cc0_scratch5 c
theorem out5 (c : Dev nD) : (iprop(∃ f, vp aoM c fullShare f) : sProp 𝕄) ⊢ iprop(∃ f : Buf (Elt F) ((c : Thread nD τ).loc cc0_scratch5), ((c : Thread nD τ).loc cc0_scratch5) ↦{fullShare} f) := some_elim cc0_scratch5 c
theorem in6 (c : Dev nD) : (iprop(∃ f : Buf (Elt F) ((c : Thread nD τ).loc cc0_scratch6), ((c : Thread nD τ).loc cc0_scratch6) ↦{fullShare} f) : sProp 𝕄) ⊢ iprop(∃ f, vp rmM c fullShare f) := some_intro cc0_scratch6 c
theorem out6 (c : Dev nD) : (iprop(∃ f, vp rmM c fullShare f) : sProp 𝕄) ⊢ iprop(∃ f : Buf (Elt F) ((c : Thread nD τ).loc cc0_scratch6), ((c : Thread nD τ).loc cc0_scratch6) ↦{fullShare} f) := some_elim cc0_scratch6 c
theorem in7 (c : Dev nD) : (iprop(∃ f : Buf (Elt F) ((c : Thread nD τ).loc cc0_scratch7), ((c : Thread nD τ).loc cc0_scratch7) ↦{fullShare} f) : sProp 𝕄) ⊢ iprop(∃ f, vp rlM c fullShare f) := some_intro cc0_scratch7 c
theorem out7 (c : Dev nD) : (iprop(∃ f, vp rlM c fullShare f) : sProp 𝕄) ⊢ iprop(∃ f : Buf (Elt F) ((c : Thread nD τ).loc cc0_scratch7), ((c : Thread nD τ).loc cc0_scratch7) ↦{fullShare} f) := some_elim cc0_scratch7 c
theorem in8 (c : Dev nD) : (iprop(∃ f : Buf (Elt F) ((c : Thread nD τ).loc cc0_scratch8), ((c : Thread nD τ).loc cc0_scratch8) ↦{fullShare} f) : sProp 𝕄) ⊢ iprop(∃ f, vp roM c fullShare f) := some_intro cc0_scratch8 c
theorem out8 (c : Dev nD) : (iprop(∃ f, vp roM c fullShare f) : sProp 𝕄) ⊢ iprop(∃ f : Buf (Elt F) ((c : Thread nD τ).loc cc0_scratch8), ((c : Thread nD τ).loc cc0_scratch8) ↦{fullShare} f) := some_elim cc0_scratch8 c

/-- The scoped buffers no window stages. -/
@[irreducible] def restBufs (c : Dev nD) : sProp 𝕄 := Pipeline.scopedRest (pcfgs (F := F) 0).spec c
theorem restBufs_eq (c : Dev nD) : (restBufs c : sProp 𝕄) = Pipeline.scopedRest (pcfgs (F := F) 0).spec c := by unfold restBufs; rfl

/-- They are the body's buffers. -/
theorem scoped_intro (c : Dev nD) :
    (restBufs c : sProp 𝕄) ⊢ iprop(someBufs c ∗ accBufs (B2 m) (B3 m) (B4 m) c 0) := by
  rw [restBufs_eq, show (Pipeline.scopedRest (pcfgs (F := F) 0).spec c : sProp 𝕄) = _ from scopedRest0_eq c]
  unfold someBufs accBufs
  iintro ⟨H0, H1, H2, H3, H4, H5, H6, H7, H8⟩
  ihave H0 := (in0 c) $$ H0; icases H0 with ⟨%f0, H0⟩
  ihave H1 := (in1 c) $$ H1; icases H1 with ⟨%f1, H1⟩
  ihave H2 := (in2 c) $$ H2; icases H2 with ⟨%f2, H2⟩
  isplitl [H3 H4 H5 H6 H7 H8]
  · isplitl [H3]; · iapply (in3 c); iexact H3
    isplitl [H4]; · iapply (in4 c); iexact H4
    isplitl [H5]; · iapply (in5 c); iexact H5
    isplitl [H6]; · iapply (in6 c); iexact H6
    isplitl [H7]; · iapply (in7 c); iexact H7
    iapply (in8 c); iexact H8
  isplitl [H0]; · iapply (rows1_none pmM c f0 _); iexact H0
  isplitl [H1]; · iapply (rows1_none plM c f1 _); iexact H1
  iapply (rows64_none poM c f2 _); iexact H2
theorem scoped_back (c : Dev nD) :
    iprop(partBufs (Pm m) c ∗ someBufs c) ⊢ (restBufs c : sProp 𝕄) := by
  rw [restBufs_eq, show (Pipeline.scopedRest (pcfgs (F := F) 0).spec c : sProp 𝕄) = _ from scopedRest0_eq c]
  unfold someBufs partBufs
  iintro ⟨⟨H0, H1, H2⟩, H3, H4, H5, H6, H7, H8⟩
  isplitl [H0]; · iapply (out0 c); iexists _; iexact H0
  isplitl [H1]; · iapply (out1 c); iexists _; iexact H1
  isplitl [H2]; · iapply (out2 c); iexists _; iexact H2
  isplitl [H3]; · iapply (out3 c); iexact H3
  isplitl [H4]; · iapply (out4 c); iexact H4
  isplitl [H5]; · iapply (out5 c); iexact H5
  isplitl [H6]; · iapply (out6 c); iexact H6
  isplitl [H7]; · iapply (out7 c); iexact H7
  iapply (out8 c); iexact H8

/-- The prefetched table. -/
theorem pref_eq (c : Dev nD) : (Pipeline.prefHeld (pcfgs (F := F) 0).pre c (fun _ => fullShare) (adm (F := F) c 0).1 : sProp 𝕄) = tblAt c := by
  show bigSep (Finset.univ : Finset (Fin 1)) _ = _
  rw [bigSep_univ_of_subsingleton (0 : Fin 1)]
  rfl

/-! ## Waiting on the staging cells -/

theorem owed_pos (c : Dev nD) (g : GSem nD τ sig) (u : Unit) (h : 0 < O₀ c g u) : g.1.2 = .tc ∧ 0 < slv g.2 := by
  unfold O₀ at h
  simp only [Pi.add_apply, Finsupp.add_apply] at h
  have key : ∀ t, 0 < oweB c t g u → g.1.2 = .tc ∧ 0 < slv g.2 := fun t h => by
    unfold oweB at h
    rw [tallyAt_apply] at h
    split at h
    · next hg => rw [hg.1]; exact ⟨rfl, Nat.one_pos⟩
    · exact absurd h (Nat.lt_irrefl 0)
  rcases Nat.add_pos_iff_pos_or_pos.mp h with h | h
  · rcases Nat.add_pos_iff_pos_or_pos.mp h with h | h
    · rcases Nat.add_pos_iff_pos_or_pos.mp h with h | h
      · have := sendO_pos c 9 g u h; exact ⟨this.1, by rw [this.2]; decide⟩
      · exact key _ h
    · exact key _ h
  · exact key _ h

theorem stage_level : ∀ (w : Fin 4) (s : Fin (spec0 w).nbuf), slv (.dma ((spec0 w).sem s)) = 0 := by decide

theorem may_stage (c : Dev nD) (w : Fin 4) (s : Fin (spec0 w).nbuf) :
    (levAts L lv : sProp 𝕄) ⊢ MayWait (c : Thread nD τ) (.dma ((spec0 w).sem s)) () (O₀ c) :=
  MayOwe.of_cut (L := L) (lev := lv) 0 (fun p hp => by rw [Finset.mem_singleton.mp hp, L_tc]; exact Finset.mem_singleton_self _)
    (fun g u hg => by rw [show L g = {()} from if_pos (owed_pos c g u hg).1]; exact Finset.mem_singleton_self _)
    (fun p hp => by rw [Finset.mem_singleton.mp hp]; exact Nat.le_of_eq (stage_level w s))
    (fun g u hg => (owed_pos c g u hg).2)

theorem may_zero (c : Dev nD) (sm : SemLoc sig) : (levAts L lv : sProp 𝕄) ⊢ MayWait (c : Thread nD τ) sm () 0 := by
  rw [MayWait_zero]; iintro -; iempintro

end Cert.KernelIdeal.Talk
-- ==== Proof.Seg.lean ====
/- The region record: how the pipeline of each device is entered from the buffers the host operations leave, and what it leaves. -/
module

public import proofs.«01_k».proof.Proof.Region

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## The buffers around the region -/

theorem share_full (c : Dev nD) (w : Fin 4) : (dat m c).share w = fullShare := by
  fin_cases w <;> rfl

/-- The buffers behind the windows' arrays at contents `W`. -/
def arrs (c : Dev nD) (W : Valuation τ sig (Elt F)) : sProp 𝕄 :=
  bigSep Finset.univ fun w : Fin 4 => ((c : Thread nD τ).loc (Pipeline.arrRef spec0 w)) ↦{fullShare} W (Pipeline.arrRef spec0 w)
/-- The buffers no window and no table names, at contents `W`. -/
def others (c : Dev nD) (W : Valuation τ sig (Elt F)) : sProp 𝕄 :=
  Pipeline.unscopedRestP pre0 spec0 c (fun b => W b)

/-- The unscoped buffers, sorted. -/
theorem held_eq (c : Dev nD) (W : Valuation τ sig (Elt F)) :
    (StableHlo.held (c : Thread nD τ) (Pipeline.ucRefs τ sig) W : sProp 𝕄)
      = iprop(arrs c W ∗ Pipeline.prefHeld pre0 c (fun _ => fullShare) (fun k => W (pre0.ref k)) ∗ others c W) := by
  rw [← Pipeline.unscopedBufs_held c W,
    Pipeline.PerCore.unscopedBufs_split (Pipeline.pinD (pcfgs (F := F)) adm) 0 c winFacts0.arr_unscoped winFacts0.arr_inj (fun b => W b)]
  unfold arrs others
  exact congrArg _ (Pipeline.unscopedRest_split preFacts0 c _)

/-- The prefetched table's buffer, at the device's column. -/
theorem table_eq (c : Dev nD) (W : Valuation τ sig (Elt F)) (h : W main_v7 = fun _ => ywd c) :
    (Pipeline.prefHeld pre0 c (fun _ => fullShare) (fun k => W (pre0.ref k)) : sProp 𝕄) = tblAt c := by
  show bigSep (Finset.univ : Finset (Fin 1)) _ = _
  rw [bigSep_univ_of_subsingleton (0 : Fin 1)]
  show (((c : Thread nD τ).loc main_v7) ↦{fullShare} W main_v7 : sProp 𝕄) = _
  rw [h]
  unfold tblAt
  simp only [Memref.view_whole, View.set_whole]

/-- The windows' arrays hold what their buffers hold. -/
theorem arrays_at (c : Dev nD) (n : ℕ) (W : Valuation τ sig (Elt F)) (h : ∀ w, (dat m c).arrAt w n = W (Pipeline.arrRef spec0 w)) :
    ((dat m c).arrays ((dat m c).arrAt · n) : sProp 𝕄) = arrs c W := by
  rw [show ((dat m c).arrays ((dat m c).arrAt · n) : sProp 𝕄) = _ from
    Pipeline.PerCore.arrays_eq (Pipeline.pinD (pcfgs (F := F)) adm) (pd m) 0 c arr_whole0 (share_full m c) _]
  unfold arrs
  exact bigSep_congr fun w _ => by rw [h w]

theorem VE_of (c : Dev nD) (r : Ref sig .tc) (h : r ∉ ([main_v8] : List (Ref sig .tc))) : VE m c r = V1 m c r := V2_of m _ c r h

theorem whole_3 (c : Dev nD) : ((cf (F := F) c).win 3).WholeAt (⟨7, by rw [show (cf (F := F) c).N = 8 from N_0]; decide⟩ : Fin (cf (F := F) c).N) := by
  refine ⟨(flush_3 c _).trans rfl, fun t h => Fin.ext (of_decide_eq_true ((flush_3 c t).symm.trans h)), ?_⟩
  intro a
  fin_cases a <;> exact ⟨rfl, rfl⟩

/-- The output array after the run: the result. -/
theorem out_final (c : Dev nD) : (dat m c).arrAt 3 (cf (F := F) c).N = result (Pm m) c :=
  (dat m c).arrAt_eq_of_after_last 3 _ (whole_3 c) _ (fun j => rfl)

/-- The arrays after the run. -/
theorem arr_final (c : Dev nD) (w : Fin 4) : (dat m c).arrAt w (cf (F := F) c).N = VE m c (Pipeline.arrRef spec0 w) := by
  have hin : ∀ w : Fin 4, ((cf (F := F) c).win w).isOut = false → Pipeline.arrRef spec0 w ∉ ([main_v8] : List (Ref sig .tc)) →
      (dat m c).arrAt w (cf (F := F) c).N = VE m c (Pipeline.arrRef spec0 w) := fun w h h' =>
    ((dat m c).arrAt_in w h _).trans (VE_of m c _ h').symm
  fin_cases w
  · exact hin 0 rfl (by decide)
  · exact hin 1 rfl (by decide)
  · exact hin 2 rfl (by decide)
  · exact (out_final m c).trans (VE_v8 m c).symm

theorem others_final (c : Dev nD) : (others c (V1 m c) : sProp 𝕄) = others c (VE m c) := by
  unfold others
  rw [unscopedRestP0_eq, unscopedRestP0_eq]
  rw [VE_of m c main_arg1 (by decide), VE_of m c main_arg2 (by decide), VE_of m c main_c (by decide), VE_of m c main_c_0 (by decide),
    VE_of m c main_v1 (by decide), VE_of m c main_v2 (by decide), VE_of m c main_v3 (by decide), VE_of m c main_v4 (by decide)]

/-- The buffers at the region's entry. -/
theorem held_in (c : Dev nD) : (StableHlo.held (c : Thread nD τ) (Pipeline.ucRefs τ sig) (V1 m c) : sProp 𝕄)
    = iprop((dat m c).arrays ((dat m c).arrAt · 0) ∗ tblAt c ∗ others c (V1 m c)) := by
  rw [held_eq, table_eq c _ (tbl_V1 m c), arrays_at m c 0 (V1 m c) fun w => A_eq m c w]
/-- The buffers at the region's exit. -/
theorem held_out (c : Dev nD) : (StableHlo.held (c : Thread nD τ) (Pipeline.ucRefs τ sig) (VE m c) : sProp 𝕄)
    = iprop((dat m c).arrays ((dat m c).arrAt · (cf (F := F) c).N) ∗ tblAt c ∗ others c (V1 m c)) := by
  rw [held_eq, table_eq c _ ((VE_of m c main_v7 (by decide)).trans (tbl_V1 m c)), arrays_at m c _ (VE m c) (arr_final m c), others_final]

/-! ## The region record -/

/-- The state each device enters the region in. -/
abbrev preR (c : Dev nD) : sProp 𝕄 := iprop(StableHlo.held (c : Thread nD τ) (Pipeline.ucRefs τ sig) (V1 m c) ∗ start m c ∗ ow c (O₀ c))
/-- The state each device leaves the region in. -/
abbrev postR (c : Dev nD) : sProp 𝕄 := iprop(StableHlo.held (c : Thread nD τ) (Pipeline.ucRefs τ sig) (VE m c) ∗ semVal (barCell c) 0 ∗ ow c 0)
/-- What enters the pipeline's invariant. -/
def enterR (c : Dev nD) : sProp 𝕄 := iprop(((∃ K, invs (Pm m) K) ∗ ghost c ∗ atAll c ∗ openAll c) ∗ levAts L lv)
/-- What the pipeline's invariant gives back. -/
def leaveR (c : Dev nD) : sProp 𝕄 := iprop(tblAt c ∗ semVal (barCell c) 0)

theorem entry (c : Dev nD) : iprop(preR m c ∗ Pipeline.ownSems0 osem c ∗ levAts L lv)
    ⊢ (|={Set.univ}=> iprop((dat m c).arrays ((dat m c).arrAt · 0) ∗ tblAt c ∗ (dat m c).owesAt () 0 ∗ enterR m c ∗ others c (V1 m c)) : sProp 𝕄) := by
  unfold preR
  rw [held_in]
  iintro ⟨⟨⟨Ha, Ht, Hr⟩, Hs, HO⟩, Hz, #Hl⟩
  imod (open_cells m c) $$ [Hs Hz] with H
  · isplitl [Hs]; · iexact Hs
    iexact Hz
  imodintro
  isplitl [Ha]; · iexact Ha
  isplitl [Ht]; · iexact Ht
  isplitl [HO]
  · iapply (owesAt_of m c 0 (O₀ c) (owed_mid m c 0 (by decide))); iexact HO
  unfold enterR
  isplitl [H]
  · isplitl [H]; · iexact H
    iexact Hl
  iexact Hr

theorem phi_in (c : Dev nD) : (iprop(enterR m c ∗ tblAt c ∗ restBufs c) : sProp 𝕄) ⊢ (dat m c).Φ 0 := by
  rw [phi_mid m c 0 (by decide)]
  unfold enterR phiMid
  iintro ⟨⟨⟨HI, Hg, Hat, Hop⟩, Hl⟩, Ht, Hs⟩
  ihave Hs := (scoped_intro m c) $$ Hs
  icases Hs with ⟨Hsb, Hacc⟩
  isplitl [HI]; · iexact HI
  isplitl [Hl]; · iexact Hl
  isplitl [Hg]; · iexact Hg
  isplitl [Hat]; · iexact Hat
  isplitl [Hop]; · iexact Hop
  isplitl [Hsb]; · iexact Hsb
  isplitl [Hacc]; · iexact Hacc
  iexact Ht

theorem last_val : (Fin.last grid0.N).val = 8 := N_0

theorem phi_out (c : Dev nD) : (dat m c).Φ (Fin.last grid0.N)
    ⊢ (iprop(leaveR c ∗ Pipeline.ownSems0 osem c ∗ restBufs c) : sProp 𝕄) := by
  rw [phi_end m c _ (by rw [last_val]; decide)]
  unfold phiEnd leaveR
  iintro ⟨Hp, Hsb, Hv, Hz, Ht⟩
  isplitl [Hv Ht]
  · isplitl [Ht]; · iexact Ht
    iexact Hv
  isplitl [Hz]
  · rw [← zeroAll_eq]; iexact Hz
  iapply (scoped_back m c)
  isplitl [Hp]; · iexact Hp
  iexact Hsb

theorem leave (c : Dev nD) : iprop((dat m c).arrays ((dat m c).arrAt · (cf (F := F) c).N) ∗ (dat m c).owesAt () (Fin.last grid0.N) ∗ leaveR c ∗ others c (V1 m c))
    ⊢ (|={Set.univ}=> postR m c : sProp 𝕄) := by
  unfold postR leaveR
  rw [held_out]
  iintro ⟨Ha, HO, ⟨Ht, Hv⟩, Hr⟩
  imodintro
  isplitl [Ha Ht Hr]
  · isplitl [Ha]; · iexact Ha
    isplitl [Ht]; · iexact Ht
    iexact Hr
  isplitl [Hv]; · iexact Hv
  iapply (owesAt_to m c (Fin.last grid0.N) 0 (owed_end m c _ (by rw [last_val]; decide))); iexact HO

theorem may_all (c : Dev nD) (w : Fin 4) (s : Fin (spec0 w).nbuf) (t : Fin (grid0.N + 1)) :
    (levAts L lv : sProp 𝕄) ⊢ MayWait (c : Thread nD τ) (.dma ((spec0 w).sem s)) () ((dat m c).owed t) := by
  by_cases h : t.val < 8
  · rw [owed_mid m c t h]; exact may_stage c w s
  · rw [owed_end m c t h]; exact may_zero c _

set_option backward.isDefEq.respectTransparency.types false in
/-- The region of the kernel on every device. -/
def reg : Pipeline.PerCore.RegionSeg (pcfgs (F := F)) adm (pd m) () defs₀ 𝒱₀ L lv 0 where
  win := winFacts0.to₀
  block_pos := block_pos0
  stage_whole := stage_whole0
  K := Fin 18
  osem := osem
  ho := (by decide : Pipeline.OwnSemFacts spec0 osem)
  hbody c := (body_ob m c).loose
  hwaits c := Pipeline.PerCore.cellsWaits_intro (Pipeline.pinD (pcfgs (F := F)) adm) (pd m) () 0 c fun w s t => may_all m c w s t
  pre := preR m
  post := postR m
  X := enterR m
  Y := leaveR
  Z c := others c (V1 m c)
  hentry c := (entry m c).trans (by rw [← pref_eq c]; exact .rfl)
  hin c := by rw [pref_eq c, ← restBufs_eq c]; exact phi_in m c
  hout c := by rw [← restBufs_eq c]; exact phi_out m c
  hexit c := leave m c

end Cert.KernelIdeal.Talk
-- ==== Proof.Launch.lean ====
/- The launch of the kernel program: the ghost state dealt to the devices, and the run of the whole program. -/
module

public import proofs.«01_k».proof.Proof.Seg
public import Idealize.ShloMosaic.Lib.Quiescent

@[expose] public section

noncomputable section

namespace Cert.KernelIdeal.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

theorem cellOf_inj' : Function.Injective (Pipeline.PerCore.cellOf (nD := nD) (τ := τ) (Pipeline.pinD (pcfgs (F := F)) adm)) :=
  Pipeline.PerCore.cellOf_injective _ (fun _ p => by fin_cases p; exact (by decide : Pipeline.SpecSemsDistinct spec0))
    (fun _ p p' h => absurd (Subsingleton.elim p p') h)

/-! ## The protocol's cells and tokens -/

theorem osem_inj : Function.Injective osem := by decide

def barEmb : Dev nD ↪ GSem nD τ sig := ⟨fun c => barCell c, fun _ _ h => congrArg (fun g : GSem nD τ sig => g.1.1) h⟩
def dmaEmb : Dev nD × Fin 18 ↪ GSem nD τ sig :=
  ⟨fun x => dcell x.1 x.2, fun _ _ h =>
    Prod.ext (congrArg (fun g : GSem nD τ sig => g.1.1) h) (osem_inj (congrArg Prod.snd h))⟩
/-- The barrier cells, and the DMA cells. -/
abbrev barCells : Finset (GSem nD τ sig) := Finset.univ.map barEmb
abbrev dmaCells : Finset (GSem nD τ sig) := Finset.univ.map dmaEmb

/-- The twenty-one duties a device pays: on whose cell, which semaphore, which duty. -/
def payE (k : Fin 21) : Dev nD ≃ Dev nD :=
  if h : k.val < 3 then prE ⟨k.val, h⟩ else if k.val < 12 then Equiv.refl _ else prE ⟨(k.val - 12) / 3, by omega⟩
def paySem (k : Fin 21) : SemLoc sig := if h : k.val < 3 then .reg barS else osem ⟨k.val - 3, by omega⟩
def payDuty (k : Fin 21) : Fin 3 := if h : k.val < 3 then ⟨k.val, h⟩ else 0
theorem pay_inj : Function.Injective (fun k : Fin 21 => (paySem k, payDuty k)) := by decide
def talkToks : Finset (GSem nD τ sig × ℕ × Fin 3) :=
  Finset.univ.map ⟨fun x : Dev nD × Fin 21 => (((payE x.2 x.1 : Thread nD τ), paySem x.2), 0, payDuty x.2), fun x y h => by
    have hk : x.2 = y.2 := pay_inj (Prod.ext (congrArg (fun t : GSem nD τ sig × ℕ × Fin 3 => t.1.2) h) (congrArg (fun t : GSem nD τ sig × ℕ × Fin 3 => t.2.2) h))
    have hc : payE x.2 x.1 = payE y.2 y.1 := congrArg (fun t : GSem nD τ sig × ℕ × Fin 3 => t.1.1.1) h
    rw [hk] at hc
    exact Prod.ext ((payE y.2).injective hc) hk⟩

theorem cells_disjoint : Disjoint (barCells : Finset (GSem nD τ sig)) dmaCells := by
  rw [Finset.disjoint_left]
  rintro g h₁ h₂
  obtain ⟨c, -, rfl⟩ := Finset.mem_map.mp h₁
  obtain ⟨x, -, h⟩ := Finset.mem_map.mp h₂
  exact absurd (congrArg Prod.snd h : osem x.2 = .reg barS) (by rintro ⟨⟩)

/-- The launch element: the pipeline's, and the protocol's. -/
def u₀ : UU :=
  (initOf (Pipeline.PerCore.cells (Pipeline.pinD (pcfgs (F := F)) adm) cellOf_inj') (Pipeline.PerCore.launchToks (Pipeline.pinD (pcfgs (F := F)) adm) cellOf_inj'),
    launchOf barCells dmaCells talkToks)

/-- The protocol's launch element, parked on device 0. -/
def G (c : Dev nD) : sProp 𝕄 := if c = 0 then BI.own (ER (launchOf barCells dmaCells talkToks)) else iprop(emp)
theorem G_eq : (bigSep Finset.univ G : sProp 𝕄) = BI.own (ER (launchOf barCells dmaCells talkToks)) := by
  rw [bigSep_univ_at _ (0 : Dev nD), bigSep_congr (s := Finset.univ.erase 0) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

/-! ## What each device is dealt -/

/-- The records every device may consult: the invariants, and round 0 of the barrier cells reached. -/
def records (K : GSem nD τ sig → ℕ) : sProp 𝕄 := iprop(invs (Pm m) K ∗ bigSep Finset.univ fun c : Dev nD => reached ER (barCell c) 0)
instance records_persistent (K : GSem nD τ sig → ℕ) : Persistent (records m K) := by unfold records; infer_instance

theorem reached_bar (c : Dev nD) : (bigSep Finset.univ fun c : Dev nD => (reached ER (barCell c) 0 : sProp 𝕄)) ⊢ reached ER (barCell c) 0 :=
  bigSep_elim (Finset.mem_univ c) (Φ := fun c : Dev nD => (reached ER (barCell c) 0 : sProp 𝕄))

/-- The tokens of the duties device `c` pays. -/
def payToks (c : Dev nD) : sProp 𝕄 :=
  iprop(dutyTok ER (barCell (pr 0 c)) 0 0 ∗ dutyTok ER (barCell (pr 1 c)) 0 1 ∗ dutyTok ER (barCell (pr 2 c)) 0 2 ∗ toksAll c)

/-- The token of the `k`-th duty device `c` pays. -/
def payTok (k : Fin 21) (c : Dev nD) : sProp 𝕄 := dutyTok ER ((payE k c : Thread nD τ), paySem k) 0 (payDuty k)
theorem payTok_bar (t : Fin 3) (c : Dev nD) : (payTok ⟨t.val, by omega⟩ c : sProp 𝕄) = dutyTok ER (barCell (pr t c)) 0 t := by
  unfold payTok payE paySem payDuty
  rw [dif_pos t.isLt, dif_pos t.isLt, dif_pos t.isLt]; rfl
theorem payTok_own (k : Fin 21) (c : Dev nD) (h : 3 ≤ k.val) (h' : k.val < 12) : (payTok k c : sProp 𝕄) = dutyTok ER (dcell c ⟨k.val - 3, by omega⟩) 0 0 := by
  unfold payTok payE paySem payDuty
  rw [dif_neg (by omega), if_pos h', dif_neg (by omega), dif_neg (by omega)]; rfl
theorem payTok_far (k : Fin 21) (c : Dev nD) (h : 12 ≤ k.val) :
    (payTok k c : sProp 𝕄) = dutyTok ER (dcell (pr ⟨(k.val - 12) / 3, by omega⟩ c) ⟨k.val - 3, by omega⟩) 0 0 := by
  unfold payTok payE paySem payDuty
  rw [dif_neg (by omega), if_neg (by omega), dif_neg (by omega), dif_neg (by omega)]; rfl

theorem toks_eq : (bigSep talkToks fun x => (dutyTok ER x.1 x.2.1 x.2.2 : sProp 𝕄)) = bigSep Finset.univ fun c : Dev nD => payToks c := by
  unfold talkToks; rw [bigSep_map, bigSep_univ_prod]
  refine bigSep_congr fun c _ => ?_
  rw [bigSep_univ_eq_bigSepL [(0 : Fin 21), 1, 2, 3, 4, 5, 6, 7, 8, 9, 10, 11, 12, 13, 14, 15, 16, 17, 18, 19, 20] (by decide) (by decide)]
  show iprop(payTok 0 c ∗ payTok 1 c ∗ payTok 2 c ∗ payTok 3 c ∗ payTok 4 c ∗ payTok 5 c ∗ payTok 6 c ∗ payTok 7 c ∗ payTok 8 c ∗ payTok 9 c ∗ payTok 10 c
    ∗ payTok 11 c ∗ payTok 12 c ∗ payTok 13 c ∗ payTok 14 c ∗ payTok 15 c ∗ payTok 16 c ∗ payTok 17 c ∗ payTok 18 c ∗ payTok 19 c ∗ payTok 20 c) = _
  unfold payToks toksAll
  rw [show (payTok 0 c : sProp 𝕄) = _ from payTok_bar 0 c, show (payTok 1 c : sProp 𝕄) = _ from payTok_bar 1 c, show (payTok 2 c : sProp 𝕄) = _ from payTok_bar 2 c]
  rw [show (payTok 3 c : sProp 𝕄) = dutyTok ER (dcell c 0) 0 0 from payTok_own 3 c (by decide) (by decide)]
  rw [show (payTok 4 c : sProp 𝕄) = dutyTok ER (dcell c 1) 0 0 from payTok_own 4 c (by decide) (by decide)]
  rw [show (payTok 5 c : sProp 𝕄) = dutyTok ER (dcell c 2) 0 0 from payTok_own 5 c (by decide) (by decide)]
  rw [show (payTok 6 c : sProp 𝕄) = dutyTok ER (dcell c 3) 0 0 from payTok_own 6 c (by decide) (by decide)]
  rw [show (payTok 7 c : sProp 𝕄) = dutyTok ER (dcell c 4) 0 0 from payTok_own 7 c (by decide) (by decide)]
  rw [show (payTok 8 c : sProp 𝕄) = dutyTok ER (dcell c 5) 0 0 from payTok_own 8 c (by decide) (by decide)]
  rw [show (payTok 9 c : sProp 𝕄) = dutyTok ER (dcell c 6) 0 0 from payTok_own 9 c (by decide) (by decide)]
  rw [show (payTok 10 c : sProp 𝕄) = dutyTok ER (dcell c 7) 0 0 from payTok_own 10 c (by decide) (by decide)]
  rw [show (payTok 11 c : sProp 𝕄) = dutyTok ER (dcell c 8) 0 0 from payTok_own 11 c (by decide) (by decide)]
  rw [show (payTok 12 c : sProp 𝕄) = dutyTok ER (dcell (pr 0 c) 9) 0 0 from payTok_far 12 c (by decide)]
  rw [show (payTok 13 c : sProp 𝕄) = dutyTok ER (dcell (pr 0 c) 10) 0 0 from payTok_far 13 c (by decide)]
  rw [show (payTok 14 c : sProp 𝕄) = dutyTok ER (dcell (pr 0 c) 11) 0 0 from payTok_far 14 c (by decide)]
  rw [show (payTok 15 c : sProp 𝕄) = dutyTok ER (dcell (pr 1 c) 12) 0 0 from payTok_far 15 c (by decide)]
  rw [show (payTok 16 c : sProp 𝕄) = dutyTok ER (dcell (pr 1 c) 13) 0 0 from payTok_far 16 c (by decide)]
  rw [show (payTok 17 c : sProp 𝕄) = dutyTok ER (dcell (pr 1 c) 14) 0 0 from payTok_far 17 c (by decide)]
  rw [show (payTok 18 c : sProp 𝕄) = dutyTok ER (dcell (pr 2 c) 15) 0 0 from payTok_far 18 c (by decide)]
  rw [show (payTok 19 c : sProp 𝕄) = dutyTok ER (dcell (pr 2 c) 16) 0 0 from payTok_far 19 c (by decide)]
  rw [show (payTok 20 c : sProp 𝕄) = dutyTok ER (dcell (pr 2 c) 17) 0 0 from payTok_far 20 c (by decide)]

/-- What stays with device `c`: its barrier position, its rights to open its DMA cells, its tokens. -/
def linear (c : Dev nD) : sProp 𝕄 :=
  iprop(atPos ER (barCell c) 0 ∅ 0 ∗ (bigSep Finset.univ fun n : Fin 18 => openTok ER (dcell c n)) ∗ payToks c)

/-! ### The launch credit -/

theorem sum_tally (f : Dev nD ≃ Dev nD) (sm : SemLoc sig) (n : ℕ) (c : Dev nD) (sm' : SemLoc sig) :
    ∑ d : Dev nD, (tallyAt ((f d : Thread nD τ), sm) () n : CellTallies nD τ sig Unit) ((c : Thread nD τ), sm') () = if sm' = sm then n else 0 := by
  by_cases h : sm' = sm
  · subst h
    rw [if_pos rfl, Finset.sum_eq_single (f.symm c)]
    · rw [tallyAt_apply, if_pos ⟨by rw [Equiv.apply_symm_apply], rfl⟩]
    · intro d _ hd
      rw [tallyAt_apply, if_neg]
      rintro ⟨h, -⟩
      exact hd (f.eq_symm_apply.mpr (congrArg (fun g : GSem nD τ sig => g.1.1) h).symm)
    · intro h; exact absurd (Finset.mem_univ _) h
  · rw [if_neg h]
    refine Finset.sum_eq_zero fun d _ => ?_
    rw [tallyAt_apply, if_neg]
    rintro ⟨h', -⟩
    exact h (congrArg Prod.snd h')

theorem sum_owed (c : Dev nD) (sm : SemLoc sig) :
    ∑ d : Dev nD, O₀ d ((c : Thread nD τ), sm) () = (∑ k : Fin 9, if sm = osem (rc k) then NN k.val else 0)
      + (if sm = .reg barS then 3 else 0) := by
  have hs : ∀ n (hn : n ≤ 9), ∑ d : Dev nD, sendO d n ((c : Thread nD τ), sm) () = ∑ i : Fin n, if sm = osem (rc ⟨8 - i.val, by omega⟩) then NN (8 - i.val) else 0 := by
    intro n
    induction n with
    | zero => intro _; rw [Fin.sum_univ_zero]; exact Finset.sum_eq_zero fun d _ => rfl
    | succ n ih =>
      intro hn
      rw [show (∑ d : Dev nD, sendO d (n + 1) ((c : Thread nD τ), sm) ()) = ∑ d : Dev nD, (sendO d n ((c : Thread nD τ), sm) () + oweR d ⟨8 - n, by omega⟩ ((c : Thread nD τ), sm) ()) from rfl,
        Finset.sum_add_distrib, ih (by omega), Fin.sum_univ_castSucc (n := n)]
      exact congrArg _ (sum_tally (prE (pk ⟨8 - n, by omega⟩)) (osem (rc ⟨8 - n, by omega⟩)) (NN (8 - n)) c sm)
  have hb : ∀ t : Fin 3, ∑ d : Dev nD, oweB d t ((c : Thread nD τ), sm) () = if sm = .reg barS then 1 else 0 := fun t =>
    sum_tally (prE t) (.reg barS) 1 c sm
  rw [show (∑ d : Dev nD, O₀ d ((c : Thread nD τ), sm) ()) = ∑ d : Dev nD, (((sendO d 9 ((c : Thread nD τ), sm) () + oweB d 2 ((c : Thread nD τ), sm) ()) + oweB d 0 ((c : Thread nD τ), sm) ()) + oweB d 1 ((c : Thread nD τ), sm) ()) from rfl,
    Finset.sum_add_distrib, Finset.sum_add_distrib, Finset.sum_add_distrib, hb, hb, hb, hs 9 le_rfl]
  rw [← Equiv.sum_comp Fin.revPerm (fun k : Fin 9 => if sm = osem (rc k) then NN k.val else 0)]
  have : ∀ i : Fin 9, (Fin.revPerm i).val = 8 - i.val := by decide
  rw [show (∑ i : Fin 9, if sm = osem (rc (Fin.revPerm i)) then NN (Fin.revPerm i).val else 0) = ∑ i : Fin 9, if sm = osem (rc ⟨8 - i.val, by omega⟩) then NN (8 - i.val) else 0 from
    Finset.sum_congr rfl fun i _ => by rw [show Fin.revPerm i = (⟨8 - i.val, by omega⟩ : Fin 9) from Fin.ext (this i)]]
  split <;> omega

theorem owed_bar (c : Dev nD) : ∑ d : Dev nD, O₀ d (barCell c) () = 3 := by
  rw [sum_owed, if_pos rfl, Finset.sum_eq_zero fun k _ => if_neg (by rintro ⟨⟩)]
theorem owed_recv (c : Dev nD) (k : Fin 9) : ∑ d : Dev nD, O₀ d (dcell c (rc k)) () = NN k.val := by
  rw [sum_owed, if_neg (by rintro ⟨⟩), Finset.sum_eq_single k (fun k' _ h => if_neg fun e => h (Fin.ext (by
    have := congrArg Fin.val (osem_inj e); change 9 + k.val = 9 + k'.val at this; omega))) (fun h => absurd (Finset.mem_univ _) h), if_pos rfl, Nat.add_zero]

theorem credit_at (c : Dev nD) (sm : SemLoc sig) (n : ℕ) (h : ∑ d : Dev nD, O₀ d ((c : Thread nD τ), sm) () = n) :
    (cred (tallyOn ((c : Thread nD τ), sm) (launchCredit (Pipeline.owing O₀) 0 ((c : Thread nD τ), sm))) : sProp 𝕄) = cred (tallyAt ((c : Thread nD τ), sm) () n) := by
  have : tallyOn ((c : Thread nD τ), sm) (launchCredit (Pipeline.owing O₀) 0 ((c : Thread nD τ), sm)) = (tallyAt ((c : Thread nD τ), sm) () n : CellTallies nD τ sig Unit) := by
    unfold tallyAt; refine congrArg _ (Finsupp.ext fun u => ?_); cases u
    rw [Pipeline.launchCredit_owing, Finsupp.single_eq_same, h]
  rw [this]

/-- The semaphores that carry launch credit: the barrier's and the nine receiving ones. -/
def credSem (k : Fin 10) : SemLoc sig := if h : k.val < 1 then .reg barS else osem ⟨8 + k.val, by omega⟩
theorem credSem_inj : Function.Injective credSem := by decide

/-- The launch credit of one of them. -/
def credTok (k : Fin 10) (c : Dev nD) : sProp 𝕄 := cred (tallyOn ((c : Thread nD τ), credSem k) (launchCredit (Pipeline.owing O₀) 0 ((c : Thread nD τ), credSem k)))

theorem creds (c : Dev nD) :
    (Pipeline.launchCred O₀ c : sProp 𝕄) ⊢ iprop(cred (tallyAt (barCell c) () 3) ∗ credAll c) := by
  unfold Pipeline.launchCred
  have key : bigSep (Finset.univ.map ⟨credSem, credSem_inj⟩) (fun sm : SemLoc sig =>
      (cred (tallyOn ((c : Thread nD τ), sm) (launchCredit (Pipeline.owing O₀) 0 ((c : Thread nD τ), sm))) : sProp 𝕄)) = iprop(cred (tallyAt (barCell c) () 3) ∗ credAll c) := by
   rw [bigSep_map, bigSep_univ_eq_bigSepL [(0 : Fin 10), 1, 2, 3, 4, 5, 6, 7, 8, 9] (by decide) (by decide)]
   show iprop(credTok 0 c ∗ credTok 1 c ∗ credTok 2 c ∗ credTok 3 c ∗ credTok 4 c ∗ credTok 5 c ∗ credTok 6 c ∗ credTok 7 c ∗ credTok 8 c ∗ credTok 9 c) = _
   unfold credAll
   rw [show (credTok 0 c : sProp 𝕄) = _ from credit_at c (.reg barS) 3 (owed_bar c)]
   rw [show (credTok 1 c : sProp 𝕄) = cred (tallyAt (dcell c 9) () (NN 0)) from credit_at c (osem 9) _ (owed_recv c 0)]
   rw [show (credTok 2 c : sProp 𝕄) = cred (tallyAt (dcell c 10) () (NN 1)) from credit_at c (osem 10) _ (owed_recv c 1)]
   rw [show (credTok 3 c : sProp 𝕄) = cred (tallyAt (dcell c 11) () (NN 2)) from credit_at c (osem 11) _ (owed_recv c 2)]
   rw [show (credTok 4 c : sProp 𝕄) = cred (tallyAt (dcell c 12) () (NN 3)) from credit_at c (osem 12) _ (owed_recv c 3)]
   rw [show (credTok 5 c : sProp 𝕄) = cred (tallyAt (dcell c 13) () (NN 4)) from credit_at c (osem 13) _ (owed_recv c 4)]
   rw [show (credTok 6 c : sProp 𝕄) = cred (tallyAt (dcell c 14) () (NN 5)) from credit_at c (osem 14) _ (owed_recv c 5)]
   rw [show (credTok 7 c : sProp 𝕄) = cred (tallyAt (dcell c 15) () (NN 6)) from credit_at c (osem 15) _ (owed_recv c 6)]
   rw [show (credTok 8 c : sProp 𝕄) = cred (tallyAt (dcell c 16) () (NN 7)) from credit_at c (osem 16) _ (owed_recv c 7)]
   rw [show (credTok 9 c : sProp 𝕄) = cred (tallyAt (dcell c 17) () (NN 8)) from credit_at c (osem 17) _ (owed_recv c 8)]
  rw [← key]
  exact bigSep_subset (Finset.subset_univ _)

/-! ### The run -/

/-- The state each device starts in, the buffers aside. -/
abbrev restR (c : Dev nD) : sProp 𝕄 := iprop(start m c ∗ ow c (O₀ c))
abbrev T₀ (c : Dev nD) : sProp 𝕄 := iprop(StableHlo.held (c : Thread nD τ) (Pipeline.ucRefs τ sig) (V0 m c) ∗ restR m c)
abbrev Tₙ (c : Dev nD) : sProp 𝕄 := iprop(StableHlo.held (c : Thread nD τ) (Pipeline.ucRefs τ sig) (VE m c) ∗ semVal (barCell c) 0)

/-- What of a device's launch holdings is not the protocol's ghost state. -/
def bundle (c : Dev nD) : sProp 𝕄 :=
  iprop(StableHlo.held (c : Thread nD τ) (Pipeline.ucRefs τ sig) (V0 m c) ∗ (cred (tallyAt (barCell c) () 3) ∗ credAll c) ∗ owes (c : Thread nD τ) (O₀ c) ∅)

theorem T₀_intro (K : GSem nD τ sig → ℕ) (c : Dev nD) : iprop(records m K ∗ (linear c ∗ bundle m c)) ⊢ T₀ m c := by
  unfold bundle T₀ restR start records linear payToks ghost ow
  iintro ⟨⟨#HI, #HR⟩, ⟨Hat, Hop, H0, H1, H2, Ht⟩, Hh, ⟨Hb, Hc⟩, HO⟩
  isplitl [Hh]; · iexact Hh
  isplitr [HO]
  · isplitr; · iexists K; iexact HI
    isplitr [Hop]
    · isplitl [Hat]; · iexact Hat
      isplitl [Hb]; · iexact Hb
      isplitl [H0 H1 H2]
      · isplitl [H0]; · iexact H0
        isplitl [H1]; · iexact H1
        iexact H2
      isplitr
      · isplitr; · iapply (reached_bar (F := F) (pr 0 c)); iexact HR
        isplitr; · iapply (reached_bar (F := F) (pr 1 c)); iexact HR
        iapply (reached_bar (F := F) (pr 2 c)); iexact HR
      isplitl [Ht]; · iexact Ht
      iexact Hc
    iexact Hop
  · iexists ∅; iexact HO

theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- A device's launch holdings. -/
abbrev given (c : Dev nD) : sProp 𝕄 :=
  iprop(unscopedBufs c (fun b => m ((c : Thread nD τ).loc b)) ∗ unscopedSems0 c
    ∗ owes (c : Thread nD τ) (O₀ c) ∅ ∗ Pipeline.launchCred O₀ c ∗ prngReg c (ρ c) ∗ G c)

theorem given_split (c : Dev nD) : given m ρ c ⊢ (iprop(bundle m c ∗ (semVal (barCell c) 0 ∗ G c)) : sProp 𝕄) := by
  unfold given
  rw [show (unscopedBufs c (fun b => m ((c : Thread nD τ).loc b)) : sProp 𝕄) = StableHlo.held (c : Thread nD τ) (Pipeline.ucRefs τ sig) (V0 m c) from
    Pipeline.unscopedBufs_held c (V0 m c), unscopedSems0_eq]
  unfold bundle
  iintro ⟨Hh, Hus, HO, Hcr, -, HG⟩
  ihave Hc := (creds (F := F) c) $$ Hcr
  isplitl [Hh Hc HO]
  · isplitl [Hh]; · iexact Hh
    isplitl [Hc]; · iexact Hc
    iexact HO
  isplitl [Hus]; · iexact Hus
  iexact HG

theorem bars_in : bigSep Finset.univ (fun c : Dev nD => (semVal (barCell c) 0 : sProp 𝕄)) = bigSep barCells (fun g => (semVal g 0 : sProp 𝕄)) :=
  (bigSep_map (s := Finset.univ) barEmb (Φ := fun g : GSem nD τ sig => (semVal g 0 : sProp 𝕄))).symm
theorem ats_out : bigSep barCells (fun g => (atPos ER g 0 ∅ 0 : sProp 𝕄)) = bigSep Finset.univ (fun c : Dev nD => (atPos ER (barCell c) 0 ∅ 0 : sProp 𝕄)) :=
  bigSep_map (s := Finset.univ) barEmb (Φ := fun g : GSem nD τ sig => (atPos ER g 0 ∅ 0 : sProp 𝕄))
theorem rs_out : bigSep barCells (fun g => (reached ER g 0 : sProp 𝕄)) = bigSep Finset.univ (fun c : Dev nD => (reached ER (barCell c) 0 : sProp 𝕄)) :=
  bigSep_map (s := Finset.univ) barEmb (Φ := fun g : GSem nD τ sig => (reached ER g 0 : sProp 𝕄))
theorem opens_out : bigSep dmaCells (fun g => (openTok ER g : sProp 𝕄))
    = bigSep Finset.univ (fun c : Dev nD => bigSep Finset.univ fun n : Fin 18 => (openTok ER (dcell c n) : sProp 𝕄)) := by
  rw [bigSep_map, bigSep_univ_prod]; rfl
theorem invs_out (K : GSem nD τ sig → ℕ) : bigSep (barCells ∪ dmaCells) (fun g => (cellInv ER (Rd (Pm m)) (K g) g : sProp 𝕄)) = invs (Pm m) K := by
  rw [BI.bigSep_union cells_disjoint, bigSep_map, bigSep_map]; rfl

theorem deal (K : GSem nD τ sig → ℕ) : iprop(records m K ∗ (bigSep Finset.univ fun c : Dev nD => iprop(linear c ∗ bundle m c))) ⊢ (bigSep Finset.univ (T₀ m) : sProp 𝕄) :=
  bigSep_with_persistent (R := records m K) (Φ := fun c => iprop(linear c ∗ bundle m c)) fun c _ => T₀_intro m K c

theorem linear_all : iprop((bigSep Finset.univ fun c : Dev nD => (atPos ER (barCell c) 0 ∅ 0 : sProp 𝕄))
    ∗ (bigSep Finset.univ fun c : Dev nD => bigSep Finset.univ fun n : Fin 18 => (openTok ER (dcell c n) : sProp 𝕄))
    ∗ bigSep Finset.univ fun c : Dev nD => (payToks c : sProp 𝕄)) = bigSep Finset.univ fun c : Dev nD => (linear c : sProp 𝕄) := by
  unfold linear
  rw [bigSep_sep', bigSep_sep']

/-- Every device's starting state, from the launch. -/
theorem init : iprop((bigSep Finset.univ fun c : Dev nD => given m ρ c) ∗ levAts L lv) ⊢ (|={Set.univ}=> bigSep Finset.univ (T₀ m) : sProp 𝕄) := by
  iintro ⟨H, -⟩
  ihave H := (show (bigSep Finset.univ fun c : Dev nD => given m ρ c)
      ⊢ (bigSep Finset.univ fun c : Dev nD => iprop(bundle m c ∗ (semVal (barCell c) 0 ∗ G c)) : sProp 𝕄) from bigSep_mono fun c _ => given_split m ρ c) $$ H
  ihave H := (Entails.of_eq (bigSep_sep' _ _ _)) $$ H
  icases H with ⟨HB, H⟩
  ihave H := (Entails.of_eq (bigSep_sep' _ _ _)) $$ H
  icases H with ⟨Hv, HG⟩
  ihave Hu := (Entails.of_eq (G_eq (F := F))) $$ HG
  ihave Hv := (Entails.of_eq (bars_in (F := F))) $$ Hv
  imod (Rounds.fund_launch ER (Rd (Pm m)) cells_disjoint (fun g _ h => h) talkToks) $$ [Hv Hu] with ⟨%K, -, Hinv, Hr, Hat, Hopen, Htok⟩
  · isplitl [Hv]; · iexact Hv
    iexact Hu
  ihave Hinv := (Entails.of_eq (invs_out m K)) $$ Hinv
  ihave Hr := (Entails.of_eq (rs_out (F := F))) $$ Hr
  ihave Hat := (Entails.of_eq (ats_out (F := F))) $$ Hat
  ihave Hopen := (Entails.of_eq (opens_out (F := F))) $$ Hopen
  ihave Htok := (Entails.of_eq (toks_eq (F := F))) $$ Htok
  imodintro
  iapply (deal m K)
  isplitl [Hinv Hr]
  · unfold records
    isplitl [Hinv]; · iexact Hinv
    iexact Hr
  rw [bigSep_sep']
  isplitl [Hat Hopen Htok]
  · rw [← linear_all]
    isplitl [Hat]; · iexact Hat
    isplitl [Hopen]; · iexact Hopen
    iexact Htok
  iexact HB

/-- The program of each device as a list: the host operations, the region. -/
abbrev segsR (c : Dev nD) : List (Pipeline.PerCore.Seg (pcfgs (F := F)) adm (pd m) () defs₀ 𝒱₀ L lv) :=
  [.host (seg0 m 𝒱₀ L lv (fun _ => restR m) c), .region (reg m)]

theorem unscoped_eq : ∀ sm : SemLoc sig, sm.isScoped .tc = false → sm = .reg barS := by decide

/-- What the run establishes of device `c`'s memory. -/
def Ends (c : Dev nD) (s : MemSt nD τ sig (Elt F)) : Prop :=
  (s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2))
    ∧ s.mem ((c : Thread nD τ).loc main_v8) = result (Pm m) c

theorem read_end (c : Dev nD) (s' : Phys nD τ sig (Elt F)) :
    iprop(Tₙ m c ∗ SI s') ⊢ (|={Set.univ}=> iprop(⌜Ends m c s'.mem ∧ s'.mem.sem (barCell c) = 0⌝ ∗ SI s') : sProp 𝕄) := by
  dsimp only [Tₙ]
  unfold StableHlo.held
  iintro ⟨⟨Hh, Hb0⟩, HSI⟩
  icombine HSI Hb0 gives %hb
  ihave Hr := (pointsTo_read_all (Pipeline.ucRefs τ sig) (fun b => ((c : Thread nD τ).1, b)) (VE m c) s') $$ [Hh HSI]
  · isplitl [Hh] <;> iassumption
  icases Hr with ⟨%h, HSI⟩
  imodintro
  isplitr
  · ipureintro
    have r : ∀ b : Ref sig .tc, b.isScoped = false → s'.mem.mem ((c : Thread nD τ).loc b) = VE m c b := fun b hb =>
      h (Proc.devRef .tc b) (Finset.mem_filter.mpr ⟨StableHlo.devRef_mem_tcRefs b, by simpa using hb⟩)
    exact ⟨⟨⟨(r main_arg0 rfl).trans (V2_main_arg0 m _ c), (r main_arg1 rfl).trans (V2_main_arg1 m _ c), (r main_arg2 rfl).trans (V2_main_arg2 m _ c)⟩,
      (r main_v8 rfl).trans (VE_v8 m c)⟩, by simpa using hb⟩
  iexact HSI

set_option backward.isDefEq.respectTransparency.types false in
/-- The run: from any memory with zero counters, every execution of the program on the four devices ends with the arguments
    unchanged, the result of every device in its buffer, and every counter at zero. -/
theorem run_main : θ_run defs (onTc (τ := τ) (main (F := F))) ⟨m, fun _ => 0, ρ⟩
    (fun r => (∀ c : Dev nD, Ends m c r.2) ∧ r.2.sem = fun _ => 0) :=
  Pipeline.PerCore.θ_run_regions_kit_sems (pcfgs (F := F)) adm (pd m) () cellOf_inj' EP defs₀ 𝒱₀ L lv m ρ main (segsR m)
    (fun c Q => by
      rewrite [main_chain c, Pipeline.PerCore.Seg.run_eq_chain,
        show (segsR m c).map Pipeline.PerCore.Seg.prog = [StableHlo.seq (hostOps0 c), Prog.lift (.customCall (Pipeline.entry 0) ())] from rfl]
      dsimp (config := { failIfUnchanged := false }) only
      exact .rfl)
    (fun c => by simp only [segsR, Pipeline.PerCore.Seg.pipes_host, Pipeline.PerCore.Seg.pipes_region, Pipeline.PerCore.Seg.pipes_nil]; decide)
    (O₀ := O₀) (hL := L_of_ne) (G := G) (u₀ := u₀)
    (hu₀ := by
      unfold u₀
      iintro Hu
      ihave H := (ownU_pair _ _) $$ Hu
      icases H with ⟨HP, HX⟩
      imodintro
      isplitl [HP]; · iexact HP
      rw [G_eq]; iexact HX)
    (T₀ := T₀ m) (Tₙ := Tₙ m)
    (hch := fun c => by
      refine ⟨.rfl, ⟨.rfl, ?_⟩⟩
      show postR m c ⊢ iprop(Tₙ m c ∗ ∃ W, owes (c : Thread nD τ) (0 : CellTallies nD τ sig Unit) W)
      unfold postR Tₙ ow
      iintro ⟨Hh, Hb0, HO⟩
      isplitr [HO]
      · isplitl [Hh] <;> iassumption
      · iexact HO)
    (hinit := init m ρ)
    (QY := fun c s => Ends m c s ∧ s.sem (barCell c) = 0)
    (hfin := read_end m)
    (hQ := fun s h hs => ⟨fun c => (h c).1, sem_eq_zero hs fun c sm hsm => by
      obtain rfl := unscoped_eq sm hsm
      exact (h c).2⟩)

end Cert.KernelIdeal.Talk
-- ==== Proof.Same.lean ====
/- The kernel at the machine's floats and the kernel over the extended reals are one program text:
   every body and every entry of the table of bodies is the same term, so a run of the one is a run
   of the other. -/
module

public import proofs.«01_k».proof.Defs
public import proofs.«01_k».proof.Proof.Gen.Kernel
public import proofs.«01_k».proof.Proof.Gen.KernelIdeal
public import Idealize.ShloMosaic.Adequacy

@[expose] public section

noncomputable section

namespace Cert.Proof

open Idealize.ShloMosaic Idealize.SL.Sem Cert.Kernel

/-- The two texts' bodies are the same. -/
theorem body_same : Cert.Kernel.cc0_body (F := Bits) = Cert.KernelIdeal.cc0_body (F := Bits) := rfl

/-- The two texts' tables of kernel bodies are the same, label by label. -/
theorem bodies_same : Cert.Kernel.defs₀ (F := Bits) = Cert.KernelIdeal.defs₀ (F := Bits) := by
  unfold Cert.Kernel.defs₀ Cert.KernelIdeal.defs₀
  refine congrArg Defs.onTc ?_
  funext l p
  match l, p with
  | 0, (t, s) => rfl

/-- The two texts' pipelines are the same. -/
theorem pipes_same : Cert.Kernel.pcfgs (F := Bits) = Cert.KernelIdeal.pcfgs (F := Bits) := rfl

/-- The two texts' tables of bodies, with each call's region and pipeline, are the same. -/
theorem defs_same : Cert.Kernel.defs (F := Bits) = Cert.KernelIdeal.defs (F := Bits) :=
  congrArg (Pipeline.defs Cert.Kernel.pcfgs) bodies_same

set_option maxHeartbeats 2000000 in
/-- The two texts' programs are the same. -/
theorem main_same : Cert.Kernel.main (F := Bits) = Cert.KernelIdeal.main (F := Bits) := rfl

/-- A run of one table and one program is a run of an equal table and an equal program. -/
theorem carry {nD : Nat} {τ : Topo} {sig : RefSig} {Val : EltTy → Type} {Λ : Labels}
    {D D' : Defs nD τ sig Val Λ} (h : D = D') {p p' : Dev nD → Prog (TpuEff nD τ sig Val Λ .tc) PUnit} (hp : p = p')
    {s : MemSt nD τ sig Val} {post : PUnit.{1} × MemSt nD τ sig Val → Prop} :
    θ_run D' (onTc p') s post → θ_run D (onTc p) s post := by
  subst h hp
  exact id

end Cert.Proof

end
-- ==== Proof.Softmax.lean ====
/- The softmax of two halves merged: the weighted sums of the halves, rescaled to the common maximum and divided by the
   rescaled sum of exponentials, are the weighted sum over the whole. -/
module

public import Idealize.ShloMosaic.PureOps.Ideal
public import Idealize.ShloMosaic.Lib.Pointwise

@[expose] public section

noncomputable section

namespace Cert.Softmax

open Idealize.ShloMosaic

/-- A nonnegative real factor goes into a sum of extended reals. -/
theorem coe_mul_sum {ι : Type*} (S : Finset ι) (c : ℝ) (hc : 0 ≤ c) (f : ι → EReal) : (c : EReal) * ∑ i ∈ S, f i = ∑ i ∈ S, (c : EReal) * f i := by
  classical
  induction S using Finset.induction_on with
  | empty => simp
  | insert a S ha ih =>
    rw [Finset.sum_insert ha, Finset.sum_insert ha, EReal.left_distrib_of_nonneg_of_ne_top (by exact_mod_cast hc) (EReal.coe_ne_top c), ih]

/-- A sum of reals, taken over the extended reals. -/
theorem coe_sum {ι : Type*} (S : Finset ι) (f : ι → ℝ) : ∑ i ∈ S, (f i : EReal) = ((∑ i ∈ S, f i : ℝ) : EReal) := by
  classical
  induction S using Finset.induction_on with
  | empty => simp
  | insert a S ha ih => rw [Finset.sum_insert ha, Finset.sum_insert ha, ih, EReal.coe_add]

/-- The maximum of a nonempty family of reals, taken from the least extended real. -/
theorem fold_max_coe {n : ℕ} [NeZero n] (s : Fin n → ℝ) :
    Finset.univ.fold max (⊥ : EReal) (fun l => (s l : EReal)) = ((Finset.univ.sup' Finset.univ_nonempty s : ℝ) : EReal) := by
  apply le_antisymm
  · rw [Finset.fold_max_le]
    exact ⟨bot_le, fun l _ => EReal.coe_le_coe_iff.mpr (Finset.le_sup' s (Finset.mem_univ l))⟩
  · obtain ⟨l, -, h⟩ := Finset.exists_mem_eq_sup' Finset.univ_nonempty s
    rw [h, Finset.le_fold_max]
    exact Or.inr ⟨l, Finset.mem_univ l, le_rfl⟩

/-- The word of minus infinity. -/
theorem ofBits_ninf : Ideal.ofBits .f32 0xFF800000#32 = ⊥ := by
  simp [Ideal.ofBits, Ideal.ieee]
/-- The word of plus infinity. -/
theorem ofBits_inf : Ideal.ofBits .f32 0x7F800000#32 = ⊤ := by
  simp [Ideal.ofBits, Ideal.ieee]
/-- The word of one eighth. -/
theorem ofBits_eighth : Ideal.ofBits .f32 0x3E000000#32 = ((1 / 8 : ℝ) : EReal) := by
  simp [Ideal.ofBits, Ideal.ieee, -EReal.coe_mul]; norm_num

/-- The exponential of the difference of two reals. -/
theorem exp_sub_coe (x y : ℝ) : Ideal.exp ((x : EReal) - (y : EReal)) = ((Real.exp (x - y) : ℝ) : EReal) := by
  rw [← EReal.coe_sub, Ideal.exp_coe]

/-- The sum of a half's exponentials, moved from the half's maximum to another. -/
theorem rescale_sum {n : ℕ} (a : Fin n → ℝ) (A C : ℝ) :
    Ideal.exp ((A : EReal) - C) * ∑ l, Ideal.exp ((a l : EReal) - A) = ∑ l, ((Real.exp (a l - C) : ℝ) : EReal) := by
  rw [exp_sub_coe, coe_mul_sum _ _ (Real.exp_pos _).le]
  refine Finset.sum_congr rfl fun l _ => ?_
  rw [exp_sub_coe, ← EReal.coe_mul, ← Real.exp_add]
  rw [show A - C + (a l - A) = a l - C by ring]

/-- The weighted sum of a half, moved from the half's maximum to another. -/
theorem rescale_weighted {n : ℕ} (a : Fin n → ℝ) (v : Fin n → EReal) (A C : ℝ) :
    Ideal.exp ((A : EReal) - C) * ∑ l, Ideal.exp ((a l : EReal) - A) * v l = ∑ l, ((Real.exp (a l - C) : ℝ) : EReal) * v l := by
  rw [exp_sub_coe, coe_mul_sum _ _ (Real.exp_pos _).le]
  refine Finset.sum_congr rfl fun l _ => ?_
  rw [exp_sub_coe, ← mul_assoc, ← EReal.coe_mul, ← Real.exp_add]
  rw [show A - C + (a l - A) = a l - C by ring]

/-- The maximum over the whole is the greater of the maxima over the halves. -/
theorem max_halves {n N : ℕ} (e : Fin n ⊕ Fin n ≃ Fin N) (s : Fin N → EReal) :
    Finset.univ.fold max (⊥ : EReal) s
      = max (Finset.univ.fold max (⊥ : EReal) fun l => s (e (.inl l))) (Finset.univ.fold max (⊥ : EReal) fun l => s (e (.inr l))) := by
  apply le_antisymm
  · rw [Finset.fold_max_le]
    refine ⟨bot_le, fun l _ => ?_⟩
    obtain ⟨x, rfl⟩ := e.surjective l
    rcases x with x | x
    · exact le_max_of_le_left (Finset.le_fold_max _ |>.mpr (Or.inr ⟨x, Finset.mem_univ x, le_rfl⟩))
    · exact le_max_of_le_right (Finset.le_fold_max _ |>.mpr (Or.inr ⟨x, Finset.mem_univ x, le_rfl⟩))
  · refine max_le ?_ ?_ <;>
    · rw [Finset.fold_max_le]
      exact ⟨bot_le, fun l _ => Finset.le_fold_max _ |>.mpr (Or.inr ⟨_, Finset.mem_univ _, le_rfl⟩)⟩

/-- A sum over the whole is the sum of the sums over the halves. -/
theorem sum_halves {n N : ℕ} (e : Fin n ⊕ Fin n ≃ Fin N) (f : Fin N → EReal) :
    ∑ l, f l = ∑ l, f (e (.inl l)) + ∑ l, f (e (.inr l)) := by
  rw [← e.sum_comp, Fintype.sum_sum_type]

/-- Two halves of a softmax, each taken at its own maximum, merge to the softmax of the whole. -/
theorem merge {n N : ℕ} [NeZero n] [NeZero N] (e : Fin n ⊕ Fin n ≃ Fin N) (s : Fin N → ℝ) (v : Fin N → EReal) (sa sb : Fin n → EReal)
    (ha : ∀ l, sa l = (s (e (.inl l)) : EReal)) (hb : ∀ l, sb l = (s (e (.inr l)) : EReal)) (ma mb : EReal)
    (hma : ma = Finset.univ.fold max (⊥ : EReal) sa) (hmb : mb = Finset.univ.fold max (⊥ : EReal) sb) :
    Ideal.div
        (Ideal.exp (ma - max ma mb) * (∑ l, Ideal.exp (sa l - ma) * v (e (.inl l)))
          + Ideal.exp (mb - max ma mb) * (∑ l, Ideal.exp (sb l - mb) * v (e (.inr l))))
        (Ideal.exp (ma - max ma mb) * (∑ l, Ideal.exp (sa l - ma))
          + Ideal.exp (mb - max ma mb) * (∑ l, Ideal.exp (sb l - mb)))
      = ∑ l, v l * Ideal.div (Ideal.exp ((s l : EReal) - Finset.univ.fold max (⊥ : EReal) fun l => (s l : EReal)))
          (∑ l', Ideal.exp ((s l' : EReal) - Finset.univ.fold max (⊥ : EReal) fun l => (s l : EReal))) := by
  obtain rfl : sa = fun l => (s (e (.inl l)) : EReal) := funext ha
  obtain rfl : sb = fun l => (s (e (.inr l)) : EReal) := funext hb
  have hM := max_halves e fun l => (s l : EReal)
  rw [← hma, ← hmb] at hM
  rw [← hM]
  rw [fold_max_coe] at hma hmb ⊢
  generalize Finset.univ.sup' Finset.univ_nonempty s = C
  subst hma hmb
  rw [rescale_weighted, rescale_weighted, rescale_sum, rescale_sum]
  simp only [exp_sub_coe]
  rw [← sum_halves e fun l => ((Real.exp (s l - C) : ℝ) : EReal) * v l, ← sum_halves e fun l => ((Real.exp (s l - C) : ℝ) : EReal), coe_sum]
  have hL : (0 : ℝ) < ∑ l, Real.exp (s l - C) := Finset.sum_pos (fun l _ => Real.exp_pos _) Finset.univ_nonempty
  rw [Ideal.div_coe hL.ne', mul_comm, coe_mul_sum _ _ (by positivity)]
  refine Finset.sum_congr rfl fun l _ => ?_
  rw [Ideal.div_coe hL.ne', mul_comm, mul_right_comm, mul_comm]

end Cert.Softmax

end
-- ==== Proof.Finite.lean ====
/- The precondition: the facts of its operations, and what it says of the queries and the keys. -/
module

public import proofs.«01_k».proof.Pre_scores_finite_KernelIdeal
public import proofs.«01_k».proof.Pre_scores_finite_ReferenceIdeal
public import Idealize.ShloMosaic.PureOps.Ideal
public import Idealize.ShloMosaic.PureOps.Ideal.Laws
public import Idealize.ShloMosaic.Lib.ReduceAll
public import Idealize.ShloMosaic.Lib.Pointwise
public import Idealize.ShloMosaic.Lib.Decide
public import proofs.«01_k».proof.Proof.Softmax

@[expose] public section

noncomputable section

/-- The side conditions of the precondition's operations, over a device's blocks. -/
theorem Cert.Pre_scores_finite_KernelIdeal.facts : Cert.Pre_scores_finite_KernelIdeal.Facts where
  bcast_S_S16x1x16x64 := by decide
  reducesTo_S16x1x16x64_S_d0_1_2_3 := by decide
  h_S_ := by decide
  bcast_S_S16x1024x16x64 := by decide
  reducesTo_S16x1024x16x64_S_d0_1_2_3 := by decide

/-- The side conditions of the precondition's operations, over the whole arrays. -/
theorem Cert.Pre_scores_finite_ReferenceIdeal.facts : Cert.Pre_scores_finite_ReferenceIdeal.Facts where
  bcast_S_S16x1x16x64 := by decide
  reducesTo_S16x1x16x64_S_d0_1_2_3 := by decide
  h_S_ := by decide
  bcast_S_S16x2048x16x64 := by decide
  reducesTo_S16x2048x16x64_S_d0_1_2_3 := by decide

namespace Cert.Pre_scores_finite_KernelIdeal

open Idealize.ShloMosaic

/-- A value whose absolute value is below plus infinity is a real. -/
theorem real_of_abs (x : EReal) (h : Ideal.cmp .olt (max x (-x)) (Ideal.ofBits .f32 0x7F800000#32) = 1#1) : ((x.toReal : ℝ) : EReal) = x := by
  rw [Cert.Softmax.ofBits_inf] at h
  have h' : max x (-x) < ⊤ := by
    by_contra hn
    simp [Ideal.cmp, hn] at h
  refine EReal.coe_toReal (fun e => ?_) (fun e => ?_)
  · rw [e] at h'; exact absurd h' (by simp)
  · rw [e] at h'; exact absurd h' (by simp)

instance : Subsingleton S_.Idx := ⟨fun a b => funext fun i => i.elim0⟩

/-- Under the precondition every query and every key is a real. -/
theorem reals [Facts] (Q : FVec Ideal S16x1x16x64 .f32) (K V : FVec Ideal S16x1024x16x64 .f32) (h : fn Q K V = fun _ => 1#1) :
    (∀ i, (((Q i : EReal).toReal : ℝ) : EReal) = Q i) ∧ (∀ i, (((K i : EReal).toReal : ℝ) : EReal) = K i) := by
  have h0 := congrFun h (fun a => a.elim0)
  unfold fn at h0
  have h1 := IntOp.andi_eq_one.mp h0
  exact ⟨fun i => real_of_abs _ (Host.reduce_andi_all _ _ _ _ _ h1.1 i), fun i => real_of_abs _ (Host.reduce_andi_all _ _ _ _ _ h1.2 i)⟩

end Cert.Pre_scores_finite_KernelIdeal

end
-- ==== Proof.Pays.lean ====
/- The computed values of the kernel read at an index over the extended reals: scores, maxima, exponentials, sums and
   weighted sums of eight heads. -/
module

public import proofs.«01_k».proof.Proof.Rows
public import Idealize.ShloMosaic.Lib.Pointwise

@[expose] public section

noncomputable section

namespace Cert.KernelIdeal.Talk

open Idealize.ShloMosaic
open Cert.KernelIdeal Cert.KernelIdeal.Gen

/-- The queries and the keys of eight heads, as the kernel loads them. -/
abbrev Qs := Fin 8 → FVec Ideal S1x1x1x64 .f32
abbrev Ks := Fin 8 → FVec Ideal S1x1x64x1024 .f32

/-- The score of a key for a head. -/
def sco (q : Qs) (k : Ks) (r : Fin 8) (l : Fin 1024) : EReal :=
  (∑ d : Fin 64, q r (ix4 0 0 0 d) * k r (ix4 0 0 d l)) * Ideal.ofBits .f32 0x3E000000#32

theorem pay18_apply (q : Qs) (k : Ks) (r : Fin 8) (l : Fin 1024) :
    k0_pay18 (F := Ideal) (k0_pay11 (q 0) (k 0)) (k0_pay12 (q 1) (k 1)) (k0_pay13 (q 2) (k 2)) (k0_pay14 (q 3) (k 3)) (k0_pay15 (q 4) (k 4))
      (k0_pay16 (q 5) (k 5)) (k0_pay17 (q 6) (k 6)) (q 7) (k 7) (ix2 r l) = sco q k r l := by
  unfold sco
  match r with
  | 0 => pointwise [k0_pay18, k0_pay11]
  | 1 => pointwise [k0_pay18, k0_pay12]
  | 2 => pointwise [k0_pay18, k0_pay13]
  | 3 => pointwise [k0_pay18, k0_pay14]
  | 4 => pointwise [k0_pay18, k0_pay15]
  | 5 => pointwise [k0_pay18, k0_pay16]
  | 6 => pointwise [k0_pay18, k0_pay17]
  | 7 => pointwise [k0_pay18]

/-- The largest score of a head. -/
def smax (q : Qs) (k : Ks) (r : Fin 8) : EReal := Finset.univ.fold max (Ideal.ofBits .f32 0xFF800000#32) (sco q k r)
/-- The exponential of a score's distance to the largest. -/
def sexp (q : Qs) (k : Ks) (r : Fin 8) (l : Fin 1024) : EReal := Ideal.exp (sco q k r l - smax q k r)

theorem pay19_apply (q : Qs) (k : Ks) (r : Fin 8) :
    k0_pay19 (F := Ideal) (k0_pay11 (q 0) (k 0)) (k0_pay12 (q 1) (k 1)) (k0_pay13 (q 2) (k 2)) (k0_pay14 (q 3) (k 3)) (k0_pay15 (q 4) (k 4))
      (k0_pay16 (q 5) (k 5)) (k0_pay17 (q 6) (k 6)) (q 7) (k 7) (ix2 r 0) = smax q k r := by
  unfold smax
  pointwise [k0_pay19]
  exact congrArg (fun f => Finset.fold max (Ideal.ofBits .f32 0xFF800000#32) f Finset.univ) (funext fun l => pay18_apply q k r l)

theorem pay20_apply (q : Qs) (k : Ks) (r : Fin 8) (l : Fin 1024) :
    k0_pay20 (F := Ideal) (k0_pay11 (q 0) (k 0)) (k0_pay12 (q 1) (k 1)) (k0_pay13 (q 2) (k 2)) (k0_pay14 (q 3) (k 3)) (k0_pay15 (q 4) (k 4))
      (k0_pay16 (q 5) (k 5)) (k0_pay17 (q 6) (k 6)) (q 7) (k 7) (ix2 r l) = sexp q k r l := by
  unfold sexp
  pointwise [k0_pay20]
  rw [pay18_apply q k r l, pay19_apply q k r]

theorem pay21_apply (q : Qs) (k : Ks) (r : Fin 8) :
    k0_pay21 (F := Ideal) (k0_pay11 (q 0) (k 0)) (k0_pay12 (q 1) (k 1)) (k0_pay13 (q 2) (k 2)) (k0_pay14 (q 3) (k 3)) (k0_pay15 (q 4) (k 4))
      (k0_pay16 (q 5) (k 5)) (k0_pay17 (q 6) (k 6)) (q 7) (k 7) (ix2 r 0) = ∑ l, sexp q k r l := by
  pointwise [k0_pay21]
  exact Finset.sum_congr rfl fun l _ => pay20_apply q k r l

theorem pay26_apply (q : Qs) (k v : Ks) (r : Fin 8) (d : Fin 64) :
    k0_pay26 (F := Ideal) (k0_pay20 (k0_pay11 (q 0) (k 0)) (k0_pay12 (q 1) (k 1)) (k0_pay13 (q 2) (k 2)) (k0_pay14 (q 3) (k 3)) (k0_pay15 (q 4) (k 4))
      (k0_pay16 (q 5) (k 5)) (k0_pay17 (q 6) (k 6)) (q 7) (k 7))
      (k0_pay22 (k0_pay11 (q 0) (k 0)) (k0_pay12 (q 1) (k 1)) (k0_pay13 (q 2) (k 2)) (k0_pay14 (q 3) (k 3)) (k0_pay15 (q 4) (k 4))
      (k0_pay16 (q 5) (k 5)) (k0_pay17 (q 6) (k 6)) (q 7) (k 7) (v 0))
      (k0_pay23 (k0_pay11 (q 0) (k 0)) (k0_pay12 (q 1) (k 1)) (k0_pay13 (q 2) (k 2)) (k0_pay14 (q 3) (k 3)) (k0_pay15 (q 4) (k 4))
      (k0_pay16 (q 5) (k 5)) (k0_pay17 (q 6) (k 6)) (q 7) (k 7) (v 1))
      (k0_pay24 (k0_pay11 (q 0) (k 0)) (k0_pay12 (q 1) (k 1)) (k0_pay13 (q 2) (k 2)) (k0_pay14 (q 3) (k 3)) (k0_pay15 (q 4) (k 4))
      (k0_pay16 (q 5) (k 5)) (k0_pay17 (q 6) (k 6)) (q 7) (k 7) (v 2))
      (k0_pay25 (v 3)) (v 4) (v 5) (v 6) (v 7) (ix2 r d) = ∑ l, sexp q k r l * v r (ix4 0 0 d l) := by
  refine Eq.trans ?_ (Finset.sum_congr rfl fun l _ => congrArg (· * v r (ix4 0 0 d l)) (pay20_apply q k r l))
  match r with
  | 0 => pointwise [k0_pay26, k0_pay22]
  | 1 => pointwise [k0_pay26, k0_pay23]
  | 2 => pointwise [k0_pay26, k0_pay24]
  | 3 => pointwise [k0_pay26, k0_pay25]
  | 4 => pointwise [k0_pay26]
  | 5 => pointwise [k0_pay26]
  | 6 => pointwise [k0_pay26]
  | 7 => pointwise [k0_pay26]

end Cert.KernelIdeal.Talk

end
-- ==== Proof.Blocks.lean ====
/- The blocks that the kernel's windows read, at an index: the arguments at the rows of the grid point and the heads of the
   device's column. -/
module

public import proofs.«01_k».proof.Proof.Dat
public import Idealize.ShloMosaic.Lib.Pointwise
public import Idealize.ShloMosaic.Lib.Claim

@[expose] public section

noncomputable section

namespace Cert.KernelIdeal.Talk

open Idealize.ShloMosaic
open Idealize.ShloMosaic.TcCoe
open Idealize.SL.Sem
open Cert.KernelIdeal Cert.KernelIdeal.Gen

variable {F : FTy → Type} [FloatOps F]
variable (m : (ℓ : Loc nD τ sig) → Buf (Elt F) ℓ)

/-- The queries, keys and values of a device. -/
abbrev argQ (c : Dev nD) : FVec F S16x1x16x64 .f32 := m ((c.tc : Thread nD τ).loc main_arg0)
abbrev argK (c : Dev nD) : FVec F S16x1024x16x64 .f32 := m ((c.tc : Thread nD τ).loc main_arg1)
abbrev argV (c : Dev nD) : FVec F S16x1024x16x64 .f32 := m ((c.tc : Thread nD τ).loc main_arg2)

theorem q_V1 (c : Dev nD) : V1 m c main_arg0 = argQ m c := by
  after_results
theorem k_V1 (c : Dev nD) : V1 m c main_v5 = transpose S16x16x64x1024 [0, 2, 3, 1] (argK m c) transposes_S16x1024x16x64_S16x16x64x1024_0_2_3_1 := by
  after_results
theorem v_V1 (c : Dev nD) : V1 m c main_v6 = transpose S16x16x64x1024 [0, 2, 3, 1] (argV m c) transposes_S16x1024x16x64_S16x16x64x1024_0_2_3_1 := by
  after_results

/-- The batch element of a row of a grid point. -/
def brow (n : Fin 8) (p : Fin 2) : Fin 16 := ⟨2 * n.val + p.val, by omega⟩
/-- The head of a device's column. -/
def hcol (c : Dev nD) (r : Fin 8) : Fin 16 := ⟨8 * (c.val % 2) + r.val, by omega⟩

/-- Where the query window's block at a grid point lies in the queries. -/
theorem off0 (c : Dev nD) (n : Fin 8) (p : Fin 2) (h : Fin 16) (d : Fin 64) :
    (((cf (F := F) c).win 0).blk (n.cast N_0.symm)).view.emb (ix4 p 0 h d) = ix4 (brow n p) 0 h d := by
  have e : ((grid0.coords (n.cast N_0.symm)) 0).val = n.val := by rw [coords_zero]; rfl
  refine funext fun a => Fin.ext ?_
  refine (Pipeline.Window.rect_emb_val ..).trans ?_
  match a with
  | ⟨0, _⟩ => show cc0_transform_0 (grid0.coords (n.cast N_0.symm)) 0 * 2 + p.val = 2 * n.val + p.val; rw [ix0_eq, e]; omega
  | ⟨1, _⟩ => rfl
  | ⟨2, _⟩ => show 0 * 16 + h.val = h.val; omega
  | ⟨3, _⟩ => show 0 * 64 + d.val = d.val; omega

/-- Where the key window's block lies in the transposed keys. -/
theorem off1 (c : Dev nD) (n : Fin 8) (p : Fin 2) (r : Fin 8) (d : Fin 64) (l : Fin 1024) :
    (((cf (F := F) c).win 1).blk (n.cast N_0.symm)).view.emb (ix4 p r d l) = ix4 (brow n p) (hcol c r) d l := by
  have e : ((grid0.coords (n.cast N_0.symm)) 0).val = n.val := by rw [coords_zero]; rfl
  have e' := ix1_eq (F := F) c (grid0.coords (n.cast N_0.symm))
  refine funext fun a => Fin.ext ?_
  refine (Pipeline.Window.rect_emb_val ..).trans ?_
  match a with
  | ⟨0, _⟩ => show cc0_transform_1 inb_S1_S1_0 numel1_S1 (tb (F := F) c) (grid0.coords (n.cast N_0.symm)) 0 * 2 + p.val = 2 * n.val + p.val; rw [e']; show ((grid0.coords (n.cast N_0.symm)) 0).val * 2 + _ = _; rw [e]; omega
  | ⟨1, _⟩ => show cc0_transform_1 inb_S1_S1_0 numel1_S1 (tb (F := F) c) (grid0.coords (n.cast N_0.symm)) 1 * 8 + r.val = 8 * (c.val % 2) + r.val; rw [e']; show (c.val % 2) * 8 + _ = _; omega
  | ⟨2, _⟩ => show 0 * 64 + d.val = d.val; omega
  | ⟨3, _⟩ => show 0 * 1024 + l.val = l.val; omega

/-- Where the value window's block lies in the transposed values. -/
theorem off2 (c : Dev nD) (n : Fin 8) (p : Fin 2) (r : Fin 8) (d : Fin 64) (l : Fin 1024) :
    (((cf (F := F) c).win 2).blk (n.cast N_0.symm)).view.emb (ix4 p r d l) = ix4 (brow n p) (hcol c r) d l := by
  have e : ((grid0.coords (n.cast N_0.symm)) 0).val = n.val := by rw [coords_zero]; rfl
  have e' := ix2_eq (F := F) c (grid0.coords (n.cast N_0.symm))
  refine funext fun a => Fin.ext ?_
  refine (Pipeline.Window.rect_emb_val ..).trans ?_
  match a with
  | ⟨0, _⟩ => show cc0_transform_2 inb_S1_S1_0 numel1_S1 (tb (F := F) c) (grid0.coords (n.cast N_0.symm)) 0 * 2 + p.val = 2 * n.val + p.val; rw [e']; show ((grid0.coords (n.cast N_0.symm)) 0).val * 2 + _ = _; rw [e]; omega
  | ⟨1, _⟩ => show cc0_transform_2 inb_S1_S1_0 numel1_S1 (tb (F := F) c) (grid0.coords (n.cast N_0.symm)) 1 * 8 + r.val = 8 * (c.val % 2) + r.val; rw [e']; show (c.val % 2) * 8 + _ = _; omega
  | ⟨2, _⟩ => show 0 * 64 + d.val = d.val; omega
  | ⟨3, _⟩ => show 0 * 1024 + l.val = l.val; omega

/-- The block of queries at a grid point. -/
theorem B2_apply (c : Dev nD) (n : Fin 8) (p : Fin 2) (h : Fin 16) (d : Fin 64) :
    B2 m c n (ix4 p 0 h d) = argQ m c (ix4 (brow n p) 0 h d) := by
  rw [← q_V1]
  exact congrArg (V1 m c main_arg0) (off0 c n p h d)

/-- The block of keys at a grid point. -/
theorem B3_apply (c : Dev nD) (n : Fin 8) (p : Fin 2) (r : Fin 8) (d : Fin 64) (l : Fin 1024) :
    B3 m c n (ix4 p r d l) = argK m c (ix4 (brow n p) l (hcol c r) d) := by
  refine (congrArg (V1 m c main_v5) (off1 c n p r d l)).trans ?_
  rw [k_V1]
  pointwise

/-- The block of values at a grid point. -/
theorem B4_apply (c : Dev nD) (n : Fin 8) (p : Fin 2) (r : Fin 8) (d : Fin 64) (l : Fin 1024) :
    B4 m c n (ix4 p r d l) = argV m c (ix4 (brow n p) l (hcol c r) d) := by
  refine (congrArg (V1 m c main_v6) (off2 c n p r d l)).trans ?_
  rw [v_V1]
  pointwise

end Cert.KernelIdeal.Talk

end
-- ==== Proof.Parts.lean ====
/- The partial results of a device, at an index: for every batch element and head of the device's column, the largest score
   over the device's keys, the sum of the exponentials and the sum of the values weighted by them. -/
module

public import proofs.«01_k».proof.Proof.Pays
public import proofs.«01_k».proof.Proof.Blocks
public import proofs.«01_k».proof.Proof.Softmax

@[expose] public section

noncomputable section

namespace Cert.KernelIdeal.Talk

open Idealize.ShloMosaic
open Idealize.ShloMosaic.TcCoe
open Idealize.SL.Sem
open Cert.KernelIdeal Cert.KernelIdeal.Gen

/-! ## The loads of a head -/

theorem off1_eq : ∀ (c : Dev nD) (r : Fin 8), k0_off1 (ywd c) (BitVec.ofNat 32 r.val) = ![0, 0, (hcol c r).val, 0] := by decide +kernel
theorem off4_eq : ∀ (c : Dev nD) (r : Fin 8), k0_off4 (ywd c) (BitVec.ofNat 32 r.val) = ![1, 0, (hcol c r).val, 0] := by decide +kernel

/-- The queries of a device's eight heads. -/
def qrow0 (c : Dev nD) (X : S2x1x16x64.Idx → EReal) : Qs := fun r => ldq (F := Ideal) X (k0_off1 (ywd c) (BitVec.ofNat 32 r.val)) (inb1 c r)
def qrow1 (c : Dev nD) (X : S2x1x16x64.Idx → EReal) : Qs := fun r => ldq (F := Ideal) X (k0_off4 (ywd c) (BitVec.ofNat 32 r.val)) (inb4 c r)

theorem kin (p : Fin 2) (r : Fin 8) : ∀ a, (![p.val, r.val, 0, 0] : Fin 4 → ℕ) a + S1x1x64x1024.size a ≤ S2x8x64x1024.size a := by
  revert p r; decide
/-- The keys, or the values, of the eight heads of a row. -/
def kv (p : Fin 2) (X : S2x8x64x1024.Idx → EReal) : Ks := fun r => ldk (F := Ideal) X ![p.val, r.val, 0, 0] (kin p r)

theorem qrow0_apply (c : Dev nD) (X : S2x1x16x64.Idx → EReal) (r : Fin 8) (d : Fin 64) : qrow0 c X r (ix4 0 0 0 d) = X (ix4 0 0 (hcol c r) d) := by
  refine congrArg X (funext fun a => Fin.ext ?_)
  show k0_off1 (ywd c) (BitVec.ofNat 32 r.val) a + 1 * (ix4 (0 : Fin 1) (0 : Fin 1) (0 : Fin 1) d a).val = (ix4 (0 : Fin 2) (0 : Fin 1) (hcol c r) d a).val
  rw [off1_eq]
  match a with
  | ⟨0, _⟩ => rfl
  | ⟨1, _⟩ => rfl
  | ⟨2, _⟩ => rfl
  | ⟨3, _⟩ => show 0 + 1 * d.val = d.val; omega
theorem qrow1_apply (c : Dev nD) (X : S2x1x16x64.Idx → EReal) (r : Fin 8) (d : Fin 64) : qrow1 c X r (ix4 0 0 0 d) = X (ix4 1 0 (hcol c r) d) := by
  refine congrArg X (funext fun a => Fin.ext ?_)
  show k0_off4 (ywd c) (BitVec.ofNat 32 r.val) a + 1 * (ix4 (0 : Fin 1) (0 : Fin 1) (0 : Fin 1) d a).val = (ix4 (1 : Fin 2) (0 : Fin 1) (hcol c r) d a).val
  rw [off4_eq]
  match a with
  | ⟨0, _⟩ => rfl
  | ⟨1, _⟩ => rfl
  | ⟨2, _⟩ => rfl
  | ⟨3, _⟩ => show 0 + 1 * d.val = d.val; omega
theorem kv_apply (p : Fin 2) (X : S2x8x64x1024.Idx → EReal) (r : Fin 8) (d : Fin 64) (l : Fin 1024) : kv p X r (ix4 0 0 d l) = X (ix4 p r d l) := by
  refine congrArg X (funext fun a => Fin.ext ?_)
  match a with
  | ⟨0, _⟩ => rfl
  | ⟨1, _⟩ => rfl
  | ⟨2, _⟩ => show 0 + 1 * d.val = d.val; omega
  | ⟨3, _⟩ => show 0 + 1 * l.val = l.val; omega

/-! ## The two rows of a grid point are computed alike -/

theorem pay30_eq : k0_pay30 (F := Ideal) = k0_pay11 := rfl
theorem pay31_eq : k0_pay31 (F := Ideal) = k0_pay12 := rfl
theorem pay32_eq : k0_pay32 (F := Ideal) = k0_pay13 := rfl
theorem pay33_eq : k0_pay33 (F := Ideal) = k0_pay14 := rfl
theorem pay34_eq : k0_pay34 (F := Ideal) = k0_pay15 := rfl
theorem pay35_eq : k0_pay35 (F := Ideal) = k0_pay16 := rfl
theorem pay36_eq : k0_pay36 (F := Ideal) = k0_pay17 := rfl
theorem pay38_eq : k0_pay38 (F := Ideal) = k0_pay19 := rfl
theorem pay39_eq : k0_pay39 (F := Ideal) = k0_pay20 := rfl
theorem pay40_eq : k0_pay40 (F := Ideal) = k0_pay21 := rfl
theorem pay41_eq : k0_pay41 (F := Ideal) = k0_pay22 := rfl
theorem pay42_eq : k0_pay42 (F := Ideal) = k0_pay23 := rfl
theorem pay43_eq : k0_pay43 (F := Ideal) = k0_pay24 := rfl
theorem pay44_eq (e : FVec Ideal S8x1024 .f32) (a b c : FVec Ideal S1x64 .f32) (v w x y z : FVec Ideal S1x1x64x1024 .f32) :
    k0_pay44 (F := Ideal) e a b c v w x y z = k0_pay26 e a b c (k0_pay25 v) w x y z := rfl

section Rows

variable (c : Dev nD) (X2 : S2x1x16x64.Idx → EReal) (X3 X4 : S2x8x64x1024.Idx → EReal) (r : Fin 8) (d : Fin 64)

theorem maxP0_apply : maxP0 (F := Ideal) c X2 X3 (ix2 r 0) = smax (qrow0 c X2) (kv 0 X3) r := pay19_apply (qrow0 c X2) (kv 0 X3) r
theorem sumP0_apply : sumP0 (F := Ideal) c X2 X3 (ix2 r 0) = ∑ l, sexp (qrow0 c X2) (kv 0 X3) r l := pay21_apply (qrow0 c X2) (kv 0 X3) r
theorem outP0_apply : outP0 (F := Ideal) c X2 X3 X4 (ix2 r d) = ∑ l, sexp (qrow0 c X2) (kv 0 X3) r l * kv 0 X4 r (ix4 0 0 d l) :=
  pay26_apply (qrow0 c X2) (kv 0 X3) (kv 0 X4) r d
theorem maxP1_apply : maxP1 (F := Ideal) c X2 X3 (ix2 r 0) = smax (qrow1 c X2) (kv 1 X3) r := by
  rw [maxP1, pay38_eq, pay30_eq, pay31_eq, pay32_eq, pay33_eq, pay34_eq, pay35_eq, pay36_eq]
  exact pay19_apply (qrow1 c X2) (kv 1 X3) r
theorem sumP1_apply : sumP1 (F := Ideal) c X2 X3 (ix2 r 0) = ∑ l, sexp (qrow1 c X2) (kv 1 X3) r l := by
  rw [sumP1, pay40_eq, pay30_eq, pay31_eq, pay32_eq, pay33_eq, pay34_eq, pay35_eq, pay36_eq]
  exact pay21_apply (qrow1 c X2) (kv 1 X3) r
theorem outP1_apply : outP1 (F := Ideal) c X2 X3 X4 (ix2 r d) = ∑ l, sexp (qrow1 c X2) (kv 1 X3) r l * kv 1 X4 r (ix4 0 0 d l) := by
  rw [outP1, expP1, pay44_eq, pay39_eq, pay41_eq, pay42_eq, pay43_eq, pay30_eq, pay31_eq, pay32_eq, pay33_eq, pay34_eq, pay35_eq, pay36_eq]
  exact pay26_apply (qrow1 c X2) (kv 1 X3) (kv 1 X4) r d

end Rows

end Cert.KernelIdeal.Talk

end
-- ==== Proof.KernelValue.lean ====
/- The kernel's result at an index over the extended reals: the partial results of the two devices of a column, merged. -/
module

public import proofs.«01_k».proof.Proof.Parts

@[expose] public section

noncomputable section

namespace Cert.KernelIdeal.Talk

open Idealize.ShloMosaic
open Idealize.ShloMosaic.TcCoe
open Idealize.SL.Sem
open Cert.KernelIdeal Cert.KernelIdeal.Gen

variable (m : (ℓ : Loc nD τ sig) → Buf (Elt Ideal) ℓ)

/-! ## The partial results of a device -/

/-- The score of one of a device's keys. -/
def lsco (c : Dev nD) (b h : Fin 16) (l : Fin 1024) : EReal :=
  (∑ d : Fin 64, argQ m c (ix4 b 0 h d) * argK m c (ix4 b l h d)) * Ideal.ofBits .f32 0x3E000000#32
/-- The largest score over a device's keys. -/
def lmax (c : Dev nD) (b h : Fin 16) : EReal := Finset.univ.fold max (⊥ : EReal) (lsco m c b h)
/-- The sum of the exponentials over a device's keys. -/
def lsum (c : Dev nD) (b h : Fin 16) : EReal := ∑ l, Ideal.exp (lsco m c b h l - lmax m c b h)
/-- The weighted sum of a device's values. -/
def lout (c : Dev nD) (b h : Fin 16) (d : Fin 64) : EReal :=
  ∑ l, Ideal.exp (lsco m c b h l - lmax m c b h) * argV m c (ix4 b l h d)

theorem sco0_eq (c : Dev nD) (n : Fin 8) (r : Fin 8) : sco (qrow0 c (B2 m c n)) (kv 0 (B3 m c n)) r = lsco m c (brow n 0) (hcol c r) := by
  funext l
  unfold sco lsco
  simp only [qrow0_apply, kv_apply, B2_apply, B3_apply]
theorem sco1_eq (c : Dev nD) (n : Fin 8) (r : Fin 8) : sco (qrow1 c (B2 m c n)) (kv 1 (B3 m c n)) r = lsco m c (brow n 1) (hcol c r) := by
  funext l
  unfold sco lsco
  simp only [qrow1_apply, kv_apply, B2_apply, B3_apply]

theorem brow_even (b : Fin 16) (h : b.val % 2 = 0) : brow (pt b) 0 = b := Fin.ext (by show 2 * (b.val / 2) + 0 = b.val; omega)
theorem brow_odd (b : Fin 16) (h : ¬ b.val % 2 = 0) : brow (pt b) 1 = b := Fin.ext (by show 2 * (b.val / 2) + 1 = b.val; omega)

theorem row1_ix (b : Fin 16) (r : Fin 8) : row1 (ix3 b r 0) = ix3 0 r 0 := row1_eq _ _ rfl rfl
theorem row64_ix (b : Fin 16) (r : Fin 8) (d : Fin 64) : row64 (ix3 b r d) = ix3 0 r d := row64_eq _ _ rfl rfl

theorem pay27_apply (v : FVec Ideal S8x1 .f32) (r : Fin 8) : k0_pay27 v (ix3 0 r 0) = v (ix2 r 0) := by pointwise [k0_pay27]
theorem pay28_apply (v : FVec Ideal S8x1 .f32) (r : Fin 8) : k0_pay28 v (ix3 0 r 0) = v (ix2 r 0) := by pointwise [k0_pay28]
theorem pay45_apply (v : FVec Ideal S8x1 .f32) (r : Fin 8) : k0_pay45 v (ix3 0 r 0) = v (ix2 r 0) := by pointwise [k0_pay45]
theorem pay46_apply (v : FVec Ideal S8x1 .f32) (r : Fin 8) : k0_pay1 (k0_pay46 v) (ix3 0 r 0) = v (ix2 r 0) := by pointwise [k0_pay1, k0_pay46]
theorem pay29_apply (v : FVec Ideal S8x64 .f32) (r : Fin 8) (d : Fin 64) : k0_pay29 v (ix3 0 r d) = v (ix2 r d) := by pointwise [k0_pay29]
theorem pay2_apply (v : FVec Ideal S8x64 .f32) (r : Fin 8) (d : Fin 64) : k0_pay2 v (ix3 0 r d) = v (ix2 r d) := by pointwise [k0_pay2]

/-- The maximum that a device holds for a batch element and one of its heads. -/
theorem m_apply (c : Dev nD) (b : Fin 16) (r : Fin 8) : (Pm m).m c (ix3 b r 0) = lmax m c b (hcol c r) := by
  show (if (b : ℕ) % 2 = 0 then k0_pay27 (maxP0 c (B2 m c (pt b)) (B3 m c (pt b))) (row1 (ix3 b r 0)) else k0_pay45 (maxP1 c (B2 m c (pt b)) (B3 m c (pt b))) (row1 (ix3 b r 0))) = _
  rw [row1_ix, pay27_apply, pay45_apply, maxP0_apply, maxP1_apply]
  unfold smax
  rw [sco0_eq, sco1_eq, Softmax.ofBits_ninf]
  split
  next h => rw [brow_even b h]; rfl
  next h => rw [brow_odd b h]; rfl

/-- The sum of exponentials that a device holds. -/
theorem l_apply (c : Dev nD) (b : Fin 16) (r : Fin 8) : (Pm m).l c (ix3 b r 0) = lsum m c b (hcol c r) := by
  show (if (b : ℕ) % 2 = 0 then k0_pay28 (sumP0 c (B2 m c (pt b)) (B3 m c (pt b))) (row1 (ix3 b r 0)) else k0_pay1 (k0_pay46 (sumP1 c (B2 m c (pt b)) (B3 m c (pt b)))) (row1 (ix3 b r 0))) = _
  rw [row1_ix, pay28_apply, pay46_apply, sumP0_apply, sumP1_apply]
  unfold sexp smax
  rw [sco0_eq, sco1_eq, Softmax.ofBits_ninf]
  split
  next h => rw [brow_even b h]; rfl
  next h => rw [brow_odd b h]; rfl

/-- The weighted sum of values that a device holds. -/
theorem o_apply (c : Dev nD) (b : Fin 16) (r : Fin 8) (d : Fin 64) : (Pm m).o c (ix3 b r d) = lout m c b (hcol c r) d := by
  show (if (b : ℕ) % 2 = 0 then k0_pay29 (outP0 c (B2 m c (pt b)) (B3 m c (pt b)) (B4 m c (pt b))) (row64 (ix3 b r d)) else k0_pay2 (outP1 c (B2 m c (pt b)) (B3 m c (pt b)) (B4 m c (pt b))) (row64 (ix3 b r d))) = _
  rw [row64_ix, pay29_apply, pay2_apply, outP0_apply, outP1_apply]
  unfold sexp smax
  rw [sco0_eq, sco1_eq, Softmax.ofBits_ninf]
  simp only [kv_apply, B4_apply]
  split
  next h => rw [brow_even b h]; rfl
  next h => rw [brow_odd b h]; rfl

/-! ## The merge -/

/-- Two partial results merged. -/
def mrg (ma mb la lb oa ob : EReal) : EReal :=
  Ideal.div (Ideal.exp (ma - max ma mb) * oa + Ideal.exp (mb - max ma mb) * ob) (Ideal.exp (ma - max ma mb) * la + Ideal.exp (mb - max ma mb) * lb)

theorem pay3_apply (am rm al rl : FVec Ideal S16x16x1 .f32) (ao ro : FVec Ideal S16x16x64 .f32) (b h : Fin 16) (d : Fin 64) :
    k0_pay3 (F := Ideal) (k0_pay8 am rm) (k0_pay9 am rm) (k0_pay10 am rm al rl) ao ro (ix4 b 0 h d)
      = mrg (am (ix3 b h 0)) (rm (ix3 b h 0)) (al (ix3 b h 0)) (rl (ix3 b h 0)) (ao (ix3 b h d)) (ro (ix3 b h d)) := by
  unfold mrg
  pointwise [k0_pay3, k0_pay8, k0_pay9, k0_pay10, k0_pay7]

/-- The column whose devices work on a head, and the head's place in it. -/
def hcl (h : Fin 16) : Fin 2 := ⟨h.val / 8, by omega⟩
def hlo (h : Fin 16) : Fin 8 := ⟨h.val % 8, by omega⟩

theorem gath_ix {n : ℕ} {α : Type} (f : Dev nD → (⟨3, ![16, 8, n]⟩ : Shape).Idx → α) (x : Fin 2) (b h : Fin 16) (d : Fin n) :
    gath f x (ix3 b h d) = f (dv x (hcl h)) (ix3 b (hlo h) d) := by
  refine congrArg (f (dv x (hcl h))) (funext fun a => ?_)
  match a with
  | 0 => rfl
  | 1 => rfl
  | 2 => rfl

theorem hcol_dv (x : Fin 2) (h : Fin 16) : hcol (dv x (hcl h)) (hlo h) = h := by revert x h; decide

/-- The kernel's result on a device. -/
theorem result_apply (c : Dev nD) (b h : Fin 16) (d : Fin 64) :
    result (Pm m) c (ix4 b 0 h d)
      = mrg (lmax m (dv (xo c) (hcl h)) b h) (lmax m (dv (fl (xo c)) (hcl h)) b h)
          (lsum m (dv (xo c) (hcl h)) b h) (lsum m (dv (fl (xo c)) (hcl h)) b h)
          (lout m (dv (xo c) (hcl h)) b h d) (lout m (dv (fl (xo c)) (hcl h)) b h d) := by
  refine (pay3_apply (gath (Pm m).m (xo c)) (gath (Pm m).m (fl (xo c))) (gath (Pm m).l (xo c)) (gath (Pm m).l (fl (xo c)))
    (gath (Pm m).o (xo c)) (gath (Pm m).o (fl (xo c))) b h d).trans ?_
  rw [gath_ix, gath_ix, gath_ix, gath_ix, gath_ix, gath_ix]
  simp only [m_apply, l_apply, o_apply, hcol_dv]

end Cert.KernelIdeal.Talk

end
-- ==== Proof.RefValue.lean ====
/- The result of the reference read at an index over the extended reals. -/
module

public import proofs.«01_k».proof.Proof.Gen.ReferenceIdeal.Run
public import Idealize.ShloMosaic.Lib.Pointwise

@[expose] public section

noncomputable section

namespace Cert.ReferenceIdeal.Value

open Idealize.ShloMosaic Idealize.ShloMosaic.TcCoe Idealize.SL.Sem
open Cert.ReferenceIdeal Cert.ReferenceIdeal.Gen

variable (Q : FVec Ideal S16x1x16x64 .f32) (K V : FVec Ideal S16x2048x16x64 .f32)

/-- The score of key `l` for head `h` of batch element `b`. -/
def rsco (b h : Fin 16) (l : Fin 2048) : EReal :=
  (∑ d : Fin 64, Q (ix4 b 0 h d) * K (ix4 b l h d)) * Ideal.ofBits .f32 0x3E000000#32

/-- The scores as the reference computes them. -/
abbrev sTerm : FVec Ideal S16x16x1x2048 .f32 := mulf (Host.dotGeneral dot_S16x1x16x64_S16x2048x16x64_S16x16x1x2048_3_3_1_1_02_02 none Q K) (broadcastInDim S16x16x1x2048 ![] bcast_S_S16x16x1x2048 (constant S_ .f32 0x3E000000#32))

theorem sTerm_apply (b h : Fin 16) (l : Fin 2048) : sTerm Q K (ix4 b h 0 l) = rsco Q K b h l := by
  unfold rsco
  pointwise

/-- The largest score of a head. -/
def rmax (b h : Fin 16) : EReal := Finset.univ.fold max (Ideal.ofBits .f32 0xFF800000#32) (rsco Q K b h)
/-- The exponential of a score's distance to the largest. -/
def rexp (b h : Fin 16) (l : Fin 2048) : EReal := Ideal.exp (rsco Q K b h l - rmax Q K b h)

/-- The exponentials as the reference computes them. -/
abbrev eTerm : FVec Ideal S16x16x1x2048 .f32 := Host.exp (subf (sTerm Q K) (broadcastInDim S16x16x1x2048 ![0, 1, 2, 3] bcast_S16x16x1x1_S16x16x1x2048_0_1_2_3 (broadcastInDim S16x16x1x1 ![0, 1, 2] bcast_S16x16x1_S16x16x1x1_0_1_2 (Host.reduce FloatOps.maximumf (sTerm Q K) (constant S_ .f32 0xFF800000#32) reducesTo_S16x16x1x2048_S16x16x1_d3 h_S_))))

theorem eTerm_apply (b h : Fin 16) (l : Fin 2048) : eTerm Q K (ix4 b h 0 l) = rexp Q K b h l := by
  have e : eTerm Q K (ix4 b h 0 l) = Ideal.exp (sTerm Q K (ix4 b h 0 l) - Finset.univ.fold max (Ideal.ofBits .f32 0xFF800000#32) (fun k => sTerm Q K (ix4 b h 0 k))) := by
    unfold eTerm
    generalize sTerm Q K = s
    pointwise
  rw [e]
  simp only [sTerm_apply]
  rfl

/-- The result as the reference computes it. -/
abbrev oTerm : FVec Ideal S16x1x16x64 .f32 := transpose S16x1x16x64 [0, 3, 1, 2] (Host.dotGeneral dot_S16x2048x16x64_S16x16x1x2048_S16x16x64x1_1_3_3_2_02_01 none V (Host.divf (eTerm Q K) (broadcastInDim S16x16x1x2048 ![0, 1, 2, 3] bcast_S16x16x1x1_S16x16x1x2048_0_1_2_3 (broadcastInDim S16x16x1x1 ![0, 1, 2] bcast_S16x16x1_S16x16x1x1_0_1_2 (Host.reduceAdd (eTerm Q K) (constant S_ .f32 0x00000000#32) reducesTo_S16x16x1x2048_S16x16x1_d3 h_S_))))) transposes_S16x16x64x1_S16x1x16x64_0_3_1_2

theorem oTerm_apply (b h : Fin 16) (d : Fin 64) :
    oTerm Q K V (ix4 b 0 h d) = ∑ l, V (ix4 b l h d) * Ideal.div (rexp Q K b h l) (∑ l', rexp Q K b h l') := by
  have e : oTerm Q K V (ix4 b 0 h d) = ∑ l, V (ix4 b l h d) * Ideal.div (eTerm Q K (ix4 b h 0 l)) (∑ l', eTerm Q K (ix4 b h 0 l')) := by
    unfold oTerm
    generalize eTerm Q K = s
    pointwise
  rw [e]
  simp only [eTerm_apply]

end Cert.ReferenceIdeal.Value

end
-- ==== Proof.Result.lean ====
/- The kernel's result is the reference's: the keys of the two devices of a column are, together, all the keys. -/
module

public import proofs.«01_k».proof.Proof.KernelValue
public import proofs.«01_k».proof.Proof.RefValue
public import proofs.«01_k».proof.Proof.Finite

@[expose] public section

noncomputable section

namespace Cert.KernelIdeal.Talk

open Idealize.ShloMosaic
open Idealize.ShloMosaic.TcCoe
open Idealize.SL.Sem
open Cert.KernelIdeal Cert.KernelIdeal.Gen

/-- Where a key of a device of a row lies among all keys. -/
def key (x : Fin 2) (l : Fin 1024) : Fin 2048 := ⟨1024 * x.val + l.val, by omega⟩

/-- A row's keys and the other row's are all keys. -/
def halves (x : Fin 2) : Fin 1024 ⊕ Fin 1024 ≃ Fin 2048 :=
  if x = 0 then finSumFinEquiv (m := 1024) (n := 1024) else (Equiv.sumComm _ _).trans (finSumFinEquiv (m := 1024) (n := 1024))

theorem halves_inl (x : Fin 2) (l : Fin 1024) : halves x (.inl l) = key x l := by
  refine Fin.ext ?_
  match x with
  | 0 => show l.val = 1024 * 0 + l.val; omega
  | 1 => show 1024 + l.val = 1024 * 1 + l.val; omega
theorem halves_inr (x : Fin 2) (l : Fin 1024) : halves x (.inr l) = key (fl x) l := by
  refine Fin.ext ?_
  match x with
  | 0 => show 1024 + l.val = 1024 * 1 + l.val; omega
  | 1 => show l.val = 1024 * 0 + l.val; omega

theorem mb0 : ∀ c : Fin 4, ((Layout.meshBlock [2, 2] ![[], [0], [], []] c) 0).val = 0 := by decide
theorem mb1 : ∀ c : Fin 4, ((Layout.meshBlock [2, 2] ![[], [0], [], []] c) 1).val = c.val / 2 := by decide
theorem mb2 : ∀ c : Fin 4, ((Layout.meshBlock [2, 2] ![[], [0], [], []] c) 2).val = 0 := by decide
theorem mb3 : ∀ c : Fin 4, ((Layout.meshBlock [2, 2] ![[], [0], [], []] c) 3).val = 0 := by decide

/-- A device's block of an array of keys, at an index. -/
theorem block_apply (X : FVec Ideal ⟨4, ![16, 2048, 16, 64]⟩ .f32) (x y : Fin 2) (b : Fin 16) (l : Fin 1024) (h : Fin 16) (d : Fin 64) :
    (Layout.blockN ⟨4, ![16, 1024, 16, 64]⟩ ⟨4, ![16, 2048, 16, 64]⟩ (Layout.meshBlock [2, 2] ![[], [0], [], []] (dv x y)) X) (ix4 b l h d) = X (ix4 b (key x l) h d) := by
  rw [Layout.blockN_apply]
  refine congrArg X (funext fun a => Fin.ext ?_)
  refine (Layout.TilesN.idx_val ..).trans ?_
  match a with
  | ⟨0, _⟩ => exact (congrArg (fun z => z * 16 + b.val) (mb0 (dv x y))).trans (by show 0 * 16 + b.val = b.val; omega)
  | ⟨1, _⟩ =>
    refine (congrArg (fun z => z * 1024 + l.val) (mb1 (dv x y))).trans ?_
    show (2 * x.val + y.val) / 2 * 1024 + l.val = 1024 * x.val + l.val
    omega
  | ⟨2, _⟩ => exact (congrArg (fun z => z * 16 + h.val) (mb2 (dv x y))).trans (by show 0 * 16 + h.val = h.val; omega)
  | ⟨3, _⟩ => exact (congrArg (fun z => z * 64 + d.val) (mb3 (dv x y))).trans (by show 0 * 64 + d.val = d.val; omega)

variable (m : (ℓ : Loc nD τ sig) → Buf (Elt Ideal) ℓ)
variable (Q : FVec Ideal ⟨4, ![16, 1, 16, 64]⟩ .f32) (K V : FVec Ideal ⟨4, ![16, 2048, 16, 64]⟩ .f32)

open Cert.ReferenceIdeal.Value (rsco rmax rexp oTerm oTerm_apply)

/-- A device's scores are those of its keys. -/
theorem lsco_eq (hQ : ∀ c, argQ m c = Q)
    (hK : ∀ c : Dev nD, argK m c = Layout.blockN ⟨4, ![16, 1024, 16, 64]⟩ ⟨4, ![16, 2048, 16, 64]⟩ (Layout.meshBlock [2, 2] ![[], [0], [], []] c) K)
    (x y : Fin 2) (b h : Fin 16) (l : Fin 1024) : lsco m (dv x y) b h l = rsco Q K b h (key x l) := by
  unfold lsco rsco
  refine congrArg (· * _) (Finset.sum_congr rfl fun d _ => ?_)
  rw [congrFun (hQ (dv x y)) (ix4 b 0 h d), (congrFun (hK (dv x y)) (ix4 b l h d)).trans (block_apply K x y b l h d)]

/-- With real queries and keys a score is a real. -/
theorem rsco_real (hq : ∀ i, (((Q i : EReal).toReal : ℝ) : EReal) = Q i) (hk : ∀ i, (((K i : EReal).toReal : ℝ) : EReal) = K i)
    (b h : Fin 16) : ∃ s : Fin 2048 → ℝ, ∀ l, ((s l : ℝ) : EReal) = rsco Q K b h l := by
  refine ⟨fun l => (∑ d : Fin 64, (Q (ix4 b 0 h d) : EReal).toReal * (K (ix4 b l h d) : EReal).toReal) * (1 / 8), fun l => ?_⟩
  unfold rsco
  rw [Softmax.ofBits_eighth, EReal.coe_mul, ← Softmax.coe_sum]
  refine congrArg (· * _) (Finset.sum_congr rfl fun d _ => ?_)
  rw [EReal.coe_mul, hq, hk]

/-- The kernel's result on every device is the reference's. -/
theorem result_eq (hQ : ∀ c, argQ m c = Q)
    (hK : ∀ c : Dev nD, argK m c = Layout.blockN ⟨4, ![16, 1024, 16, 64]⟩ ⟨4, ![16, 2048, 16, 64]⟩ (Layout.meshBlock [2, 2] ![[], [0], [], []] c) K)
    (hV : ∀ c : Dev nD, argV m c = Layout.blockN ⟨4, ![16, 1024, 16, 64]⟩ ⟨4, ![16, 2048, 16, 64]⟩ (Layout.meshBlock [2, 2] ![[], [0], [], []] c) V)
    (hq : ∀ i, (((Q i : EReal).toReal : ℝ) : EReal) = Q i) (hk : ∀ i, (((K i : EReal).toReal : ℝ) : EReal) = K i)
    (c : Dev nD) : result (Pm m) c = oTerm Q K V := by
  funext j
  obtain ⟨b, z, h, d, rfl⟩ : ∃ (b : Fin 16) (z : Fin 1) (h : Fin 16) (d : Fin 64), j = ix4 b z h d := ⟨j 0, j 1, j 2, j 3, by
    funext a
    match a with
    | 0 => rfl
    | 1 => rfl
    | 2 => rfl
    | 3 => rfl⟩
  obtain rfl : z = 0 := Subsingleton.elim _ _
  refine (result_apply m c b h d).trans (Eq.trans ?_ (oTerm_apply Q K V b h d).symm)
  obtain ⟨s, hs⟩ := rsco_real Q K hq hk b h
  have hfun : (fun l => ((s l : ℝ) : EReal)) = rsco Q K b h := funext hs
  have key := Softmax.merge (halves (xo c)) s (fun l => (V (ix4 b l h d) : EReal))
    (lsco m (dv (xo c) (hcl h)) b h) (lsco m (dv (fl (xo c)) (hcl h)) b h)
    (fun l => by rw [lsco_eq m Q K hQ hK, halves_inl, hs]) (fun l => by rw [lsco_eq m Q K hQ hK, halves_inr, hs]) _ _ rfl rfl
  simp only [halves_inl, halves_inr, hs] at key
  unfold mrg lout lsum lmax
  have hv : ∀ (x y : Fin 2) (l : Fin 1024), argV m (dv x y) (ix4 b l h d) = V (ix4 b (Talk.key x l) h d) := fun x y l =>
    (congrFun (hV (dv x y)) (ix4 b l h d)).trans (block_apply V x y b l h d)
  simp only [hv]
  unfold rexp rmax
  rw [Softmax.ofBits_ninf]
  exact key

end Cert.KernelIdeal.Talk

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Flash
public import proofs.«01_k».proof.Proof.Gen.ReferenceIdeal
public import proofs.«01_k».proof.Proof.Gen.ReferenceIdeal.Run
public import proofs.«01_k».proof.Proof.Launch
public import proofs.«01_k».proof.Proof.Same
public import proofs.«01_k».proof.Proof.Finite
public import proofs.«01_k».proof.Proof.Result
public import Idealize.ShloMosaic.Adequacy
public import Idealize.ShloMosaic.Init

@[expose] public section

noncomputable section

namespace Cert.Proof

open Idealize.ShloMosaic Idealize.SL.Sem Cert.Kernel

/-- The frame of the kernel at the machine's floats: the program text is the one the run is proved of. -/
theorem frame_kernel : Cert.quiescent_Kernel := by
  intro m ρ _
  refine carry defs_same main_same ?_
  exact (θ_run Cert.KernelIdeal.defs _ _).mono (fun _ h => ⟨fun c => (h.1 c).1, h.2⟩)
    (Cert.KernelIdeal.Talk.run_main (F := Bits) m ρ)

/-- The frame of the kernel over the extended reals. -/
theorem frame_ideal : Cert.quiescent_KernelIdeal := fun m ρ _ =>
  (θ_run Cert.KernelIdeal.defs _ _).mono (fun _ h => ⟨fun c => (h.1 c).1, h.2⟩) (Cert.KernelIdeal.Talk.run_main (F := Ideal) m ρ)

/-- The frame of the reference. -/
theorem frame_reference : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run (F := Ideal) m ρ)

/-- If the keys of every device's block are reals, all keys are: every key lies in some device's block. -/
theorem keys_real (K : FVec Ideal ⟨4, ![16, 2048, 16, 64]⟩ .f32)
    (h : ∀ c : Fin 4, ∀ i, ((((Layout.blockN ⟨4, ![16, 1024, 16, 64]⟩ ⟨4, ![16, 2048, 16, 64]⟩ (Layout.meshBlock [2, 2] ![[], [0], [], []] c) K) i : EReal).toReal : ℝ) : EReal)
      = (Layout.blockN ⟨4, ![16, 1024, 16, 64]⟩ ⟨4, ![16, 2048, 16, 64]⟩ (Layout.meshBlock [2, 2] ![[], [0], [], []] c) K) i) (j) :
    (((K j : EReal).toReal : ℝ) : EReal) = K j := by
  obtain ⟨b, k, r, d, rfl⟩ : ∃ (b : Fin 16) (k : Fin 2048) (r : Fin 16) (d : Fin 64), j = ix4 b k r d := ⟨j 0, j 1, j 2, j 3, by
    funext a
    match a with
    | 0 => rfl
    | 1 => rfl
    | 2 => rfl
    | 3 => rfl⟩
  have hk : k = KernelIdeal.Talk.key ⟨k.val / 1024, by omega⟩ ⟨k.val % 1024, by omega⟩ := Fin.ext (by show k.val = 1024 * (k.val / 1024) + k.val % 1024; omega)
  have := h (KernelIdeal.Talk.dv ⟨k.val / 1024, by omega⟩ 0) (ix4 b ⟨k.val % 1024, by omega⟩ r d)
  rw [KernelIdeal.Talk.block_apply, ← hk] at this
  exact this

/-- With finite queries and keys the kernel computes, on every device, what the reference computes. -/
theorem value : Cert.algebraic_KernelIdeal_ReferenceIdeal_pre_scores_finite_KernelIdeal
    (hPre_scores_finite_KernelIdeal := Cert.Pre_scores_finite_KernelIdeal.facts) := by
  intro m ρ m' ρ' hpre hargs
  have hr := fun c => @Cert.Pre_scores_finite_KernelIdeal.reals Cert.Pre_scores_finite_KernelIdeal.facts _ _ _ (hpre c)
  have hq := (hr 0).1
  rw [(hargs 0).1] at hq
  have hk := keys_real (m' (((0 : Dev Cert.ReferenceIdeal.nD).tc : Thread Cert.ReferenceIdeal.nD Cert.ReferenceIdeal.τ).loc Cert.ReferenceIdeal.main_arg1)) fun c => by
    have := (hr c).2
    rw [(hargs c).2.1] at this
    exact this
  refine ⟨Cert.ReferenceIdeal.Value.oTerm (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2)), ?_, ?_⟩
  · refine (θ_run Cert.KernelIdeal.defs _ _).mono (fun _ h c => ⟨(h.1 c).2.trans ?_, (h.1 c).1⟩) (Cert.KernelIdeal.Talk.run_main (F := Ideal) m ρ)
    exact KernelIdeal.Talk.result_eq m _ _ _ (fun c => (hargs c).1) (fun c => (hargs c).2.1) (fun c => (hargs c).2.2) hq hk c
  · exact (θ_run Cert.ReferenceIdeal.defs _ _).mono (fun _ h => h 0) (Cert.ReferenceIdeal.Value.run (F := Ideal) m' ρ')

theorem claim : Cert.Claim := ⟨Cert.Kernel.Gen.facts, Cert.KernelIdeal.Gen.facts, Cert.ReferenceIdeal.Gen.facts,
  Cert.Pre_scores_finite_KernelIdeal.facts, Cert.Pre_scores_finite_ReferenceIdeal.facts,
  frame_kernel, frame_ideal, fun m ρ _ => frame_ideal m ρ trivial, frame_reference, fun m ρ _ => frame_reference m ρ trivial, trivial, value⟩

end Cert.Proof

end
